-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v19) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_v33) = v1 c
          ∧ r.2.mem ((c.tc : Thread Cert.Reference12Ideal.nD Cert.Reference12Ideal.τ).loc Cert.Reference12Ideal.main_v36) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x1024 : Shape := ⟨2, ![4096, 1024]⟩
abbrev S4096x16 : Shape := ⟨2, ![4096, 16]⟩
abbrev S4096x2048 : Shape := ⟨2, ![4096, 2048]⟩
abbrev S4096x2064 : Shape := ⟨2, ![4096, 2064]⟩
abbrev S_ : Shape := ⟨0, ![]⟩

class Facts : Prop where
  bitsLt_bf16_f32 : FTy.bits .bf16 < FTy.bits .f32
  concatenates_S4096x1024_S4096x1024_S4096x16_S4096x2064_d1 : Shape.Concatenates [S4096x1024, S4096x1024, S4096x16] S4096x2064 1
  bcast_S_S4096x2064 : S_.BroadcastsInDim S4096x2064 (![] : Fin 0 → Fin S4096x2064.rank)

variable [Facts]

def fn {F : FTy → Type} [FloatOps F] (main_arg0 : FVec F S4096x1024 .bf16) (main_arg1 : FVec F S4096x1024 .bf16) (main_arg2 : FVec F S4096x1024 .bf16) (main_arg3 : FVec F S4096x16 .f32) (main_arg4 : FVec F S4096x2048 .f32) : IVec S4096x2064 1 :=
  let main_v0 : FVec F S4096x1024 .f32 := (extf .f32 · bitsLt_bf16_f32) main_arg0
  let main_v1 : FVec F S4096x1024 .f32 := (extf .f32 · bitsLt_bf16_f32) main_arg1
  let main_v2 : FVec F S4096x2064 .f32 := concatenate S4096x2064 1 [⟨S4096x1024, main_v0⟩, ⟨S4096x1024, main_v1⟩, ⟨S4096x16, main_arg3⟩] concatenates_S4096x1024_S4096x1024_S4096x16_S4096x2064_d1
  let main_v3 : FVec F S4096x2064 .f32 := Host.absf main_v2
  let main_cst : FVec F S_ .f32 := constant S_ .f32 0x7F800000#32
  let main_v4 : FVec F S4096x2064 .f32 := broadcastInDim S4096x2064 ![] bcast_S_S4096x2064 main_cst
  let main_v5 : IVec S4096x2064 1 := cmpf .olt main_v3 main_v4
  main_v5
-- ==== Kernel.lean ====
abbrev S4096x1024 : Shape := ⟨2, ![4096, 1024]⟩
abbrev S4096x16 : Shape := ⟨2, ![4096, 16]⟩
abbrev S4096x2048 : Shape := ⟨2, ![4096, 2048]⟩
abbrev S4096x16x1 : Shape := ⟨3, ![4096, 16, 1]⟩
abbrev S_ : Shape := ⟨0, ![]⟩
abbrev S4096x16x58 : Shape := ⟨3, ![4096, 16, 58]⟩
abbrev S4096x16x64 : Shape := ⟨3, ![4096, 16, 64]⟩
abbrev S4096x8x2x64 : Shape := ⟨4, ![4096, 8, 2, 64]⟩
abbrev S4096x8x1x64 : Shape := ⟨4, ![4096, 8, 1, 64]⟩
abbrev S1024x4096 : Shape := ⟨2, ![1024, 4096]⟩
abbrev S16x4096x64 : Shape := ⟨3, ![16, 4096, 64]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096x128 : Shape := ⟨2, ![4096, 128]⟩
abbrev S128x4096 : Shape := ⟨2, ![128, 4096]⟩
abbrev S2x16x256x256 : Shape := ⟨4, ![2, 16, 256, 256]⟩
abbrev S256x128 : Shape := ⟨2, ![256, 128]⟩
abbrev S128x256 : Shape := ⟨2, ![128, 256]⟩
abbrev S256x256 : Shape := ⟨2, ![256, 256]⟩
abbrev S16x256 : Shape := ⟨2, ![16, 256]⟩
abbrev S256 : Shape := ⟨1, ![256]⟩
abbrev S1x256 : Shape := ⟨2, ![1, 256]⟩
abbrev S1x1x256x256 : Shape := ⟨4, ![1, 1, 256, 256]⟩

abbrev nBuf : Space → Nat
  | .hbm => 79
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x16, .f32⟩
  | .hbm, ⟨4, _⟩ => ⟨S4096x2048, .f32⟩
  | .hbm, ⟨5, _⟩ => ⟨S4096x16, .bf16⟩
  | .hbm, ⟨6, _⟩ => ⟨S4096x16, .f32⟩
  | .hbm, ⟨7, _⟩ => ⟨S4096x16, .f32⟩
  | .hbm, ⟨8, _⟩ => ⟨S4096x16, .bf16⟩
  | .hbm, ⟨9, _⟩ => ⟨S4096x16, .f32⟩
  | .hbm, ⟨10, _⟩ => ⟨S4096x16, .f32⟩
  | .hbm, ⟨11, _⟩ => ⟨S4096x16, .bf16⟩
  | .hbm, ⟨12, _⟩ => ⟨S4096x16, .f32⟩
  | .hbm, ⟨13, _⟩ => ⟨S4096x16x1, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x1, .f32⟩
  | .hbm, ⟨18, _⟩ => ⟨S_, .f32⟩
  | .hbm, ⟨19, _⟩ => ⟨S4096x16x58, .f32⟩
  | .hbm, ⟨20, _⟩ => ⟨S4096x16x64, .f32⟩
  | .hbm, ⟨21, _⟩ => ⟨S4096x8x2x64, .f32⟩
  | .hbm, ⟨22, _⟩ => ⟨S4096x8x1x64, .f32⟩
  | .hbm, ⟨23, _⟩ => ⟨S4096x8x1x64, .f32⟩
  | .hbm, ⟨24, _⟩ => ⟨S4096x8x2x64, .f32⟩
  | .hbm, ⟨25, _⟩ => ⟨S4096x1024, .f32⟩
  | .hbm, ⟨26, _⟩ => ⟨S4096x1024, .bf16⟩
  | .hbm, ⟨27, _⟩ => ⟨S4096x16x1, .f32⟩
  | .hbm, ⟨28, _⟩ => ⟨S4096x16x1, .f32⟩
  | .hbm, ⟨29, _⟩ => ⟨S4096x16x1, .f32⟩
  | .hbm, ⟨30, _⟩ => ⟨S_, .f32⟩
  | .hbm, ⟨31, _⟩ => ⟨S4096x16x58, .f32⟩
  | .hbm, ⟨32, _⟩ => ⟨S4096x16x64, .f32⟩
  | .hbm, ⟨33, _⟩ => ⟨S4096x8x2x64, .f32⟩
  | .hbm, ⟨34, _⟩ => ⟨S4096x8x1x64, .f32⟩
  | .hbm, ⟨35, _⟩ => ⟨S4096x8x1x64, .f32⟩
  | .hbm, ⟨36, _⟩ => ⟨S4096x8x2x64, .f32⟩
  | .hbm, ⟨37, _⟩ => ⟨S4096x1024, .f32⟩
  | .hbm, ⟨38, _⟩ => ⟨S4096x1024, .bf16⟩
  | .hbm, ⟨39, _⟩ => ⟨S1024x4096, .bf16⟩
  | .hbm, ⟨40, _⟩ => ⟨S1024x4096, .bf16⟩
  | .hbm, ⟨41, _⟩ => ⟨S4096x1024, .f32⟩
  | .hbm, ⟨42, _⟩ => ⟨S4096x16x64, .f32⟩
  | .hbm, ⟨43, _⟩ => ⟨S16x4096x64, .f32⟩
  | .hbm, ⟨44, _⟩ => ⟨S4096x1024, .f32⟩
  | .hbm, ⟨45, _⟩ => ⟨S4096x16x64, .f32⟩
  | .hbm, ⟨46, _⟩ => ⟨S16x4096x64, .f32⟩
  | .hbm, ⟨47, _⟩ => ⟨S16x4096, .f32⟩
  | .hbm, ⟨48, _⟩ => ⟨S16x4096x4096, .f32⟩
  | .hbm, ⟨49, _⟩ => ⟨S16x4096x1, .f32⟩
  | .hbm, ⟨50, _⟩ => ⟨S16x4096x4096, .f32⟩
  | .hbm, ⟨51, _⟩ => ⟨S16x4096x4096, .f32⟩
  | .hbm, ⟨52, _⟩ => ⟨S16x1x4096, .f32⟩
  | .hbm, ⟨53, _⟩ => ⟨S16x4096x4096, .f32⟩
  | .hbm, ⟨54, _⟩ => ⟨S16x4096x4096, .f32⟩
  | .hbm, ⟨55, _⟩ => ⟨S16x4096x4096, .i32⟩
  | .hbm, ⟨56, _⟩ => ⟨S16x4096x4096, .i32⟩
  | .hbm, ⟨57, _⟩ => ⟨S16x4096x4096, .i1⟩
  | .hbm, ⟨58, _⟩ => ⟨S_, .f32⟩
  | .hbm, ⟨59, _⟩ => ⟨S_, .f32⟩
  | .hbm, ⟨60, _⟩ => ⟨S16x4096x4096, .f32⟩
  | .hbm, ⟨61, _⟩ => ⟨S16x4096x4096, .f32⟩
  | .hbm, ⟨62, _⟩ => ⟨S_, .f32⟩
  | .hbm, ⟨63, _⟩ => ⟨S16x4096, .f32⟩
  | .hbm, ⟨64, _⟩ => ⟨S16x4096x1, .f32⟩
  | .hbm, ⟨65, _⟩ => ⟨S16x4096x4096, .f32⟩
  | .hbm, ⟨66, _⟩ => ⟨S16x4096x4096, .f32⟩
  | .hbm, ⟨67, _⟩ => ⟨S16x4096x4096, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S16x4096x1, .f32⟩
  | .hbm, ⟨72, _⟩ => ⟨S16x4096x1, .f32⟩
  | .hbm, ⟨73, _⟩ => ⟨S16x4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S128x4096, .bf16⟩
  | .local _ .vmem, ⟨9, _⟩ => ⟨S128x4096, .bf16⟩
  | .local _ .vmem, ⟨10, _⟩ => ⟨S128x4096, .bf16⟩
  | .local _ .vmem, ⟨11, _⟩ => ⟨S128x4096, .bf16⟩
  | .local _ .vmem, ⟨12, _⟩ => ⟨S4096x128, .bf16⟩
  | .local _ .vmem, ⟨13, _⟩ => ⟨S4096x128, .bf16⟩
  | .local _ .vmem, ⟨14, _⟩ => ⟨S16x4096, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S2x16x256x256, .f32⟩
  | .local _ .vmem, ⟨23, _⟩ => ⟨S2x16x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_2 : Ref sig .tc := ⟨.hbm, 58, rfl⟩
abbrev main_call0_v0 : Ref sig .tc := ⟨.hbm, 59, rfl⟩
abbrev main_call0_v1 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61_0 : Ref sig .tc := ⟨.hbm, 74, rfl⟩
abbrev main_v61_1 : Ref sig .tc := ⟨.hbm, 75, rfl⟩
abbrev main_v61_2 : Ref sig .tc := ⟨.hbm, 76, rfl⟩
abbrev main_v61_3 : Ref sig .tc := ⟨.hbm, 77, rfl⟩
abbrev main_v61_4 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v17 : BitVec 32 := Scalar.addi c0_i32 c16_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v18 : BitVec 32 := Scalar.muli arg17 c256_i32
  v18
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v18 : BitVec 32 := Scalar.muli arg17 c256_i32
  let v19 : BitVec 32 := v18
  let v20 : Index := Scalar.indexCast v19
  let c0_12 : Index := 0#32
  ![v20.toNat, 0]
def k0_off2 (k0_t1 : Fin k0_t1_loop.trips) : Fin 2 → Nat :=
  let c0_17 : Index := 0#32
  let c0_i32 : BitVec 32 := 0#32
  let c1_i32 : BitVec 32 := 1#32
  let arg17 : BitVec 32 := Scf.iv c0_i32 c1_i32 k0_t1
  let c256_i32 : BitVec 32 := 256#32
  let v18 : BitVec 32 := Scalar.muli arg17 c256_i32
  let v19 : BitVec 32 := v18
  let v35 : Index := Scalar.indexCast v19
  ![0, v35.toNat]
@[reducible] def k0_t2_loop (k0_t1 : Fin k0_t1_loop.trips) : Scf.Loop 32 :=
  let c0_i32_25 : BitVec 32 := 0#32
  let c0_i32 : BitVec 32 := 0#32
  let c1_i32 : BitVec 32 := 1#32
  let arg17 : BitVec 32 := Scf.iv c0_i32 c1_i32 k0_t1
  let v55 : BitVec 32 := Scalar.subi arg17 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_27 : BitVec 32 := 1#32
  ⟨c0_i32_25, v59, c1_i32_27⟩
def k0_mult2 (k0_t1 : Fin k0_t1_loop.trips) (k0_t2 : Fin (k0_t2_loop k0_t1).trips) : BitVec 32 :=
  let c0_i32_25 : BitVec 32 := 0#32
  let c1_i32_27 : BitVec 32 := 1#32
  let arg18 : BitVec 32 := Scf.iv c0_i32_25 c1_i32_27 k0_t2
  let c256_i32_64 : BitVec 32 := 256#32
  let v137 : BitVec 32 := Scalar.muli arg18 c256_i32_64
  v137
def k0_off3 (k0_t1 : Fin k0_t1_loop.trips) (k0_t2 : Fin (k0_t2_loop k0_t1).trips) : Fin 2 → Nat :=
  let c0_i32_25 : BitVec 32 := 0#32
  let c1_i32_27 : BitVec 32 := 1#32
  let arg18 : BitVec 32 := Scf.iv c0_i32_25 c1_i32_27 k0_t2
  let c256_i32_64 : BitVec 32 := 256#32
  let v137 : BitVec 32 := Scalar.muli arg18 c256_i32_64
  let v138 : BitVec 32 := v137
  let v139 : Index := Scalar.indexCast v138
  let c0_65 : Index := 0#32
  ![v139.toNat, 0]
def k0_mult3 (k0_t1 : Fin k0_t1_loop.trips) (k0_t2 : Fin (k0_t2_loop k0_t1).trips) : BitVec 32 :=
  let c0_i32_25 : BitVec 32 := 0#32
  let c1_i32_27 : BitVec 32 := 1#32
  let arg18 : BitVec 32 := Scf.iv c0_i32_25 c1_i32_27 k0_t2
  let c256_i32_66 : BitVec 32 := 256#32
  let v141 : BitVec 32 := Scalar.muli arg18 c256_i32_66
  v141
def k0_off4 (k0_t1 : Fin k0_t1_loop.trips) (k0_t2 : Fin (k0_t2_loop k0_t1).trips) : Fin 4 → Nat :=
  let c0_73 : Index := 0#32
  let c0_i32_25 : BitVec 32 := 0#32
  let c1_i32_27 : BitVec 32 := 1#32
  let arg18 : BitVec 32 := Scf.iv c0_i32_25 c1_i32_27 k0_t2
  let v160 : Index := Scalar.indexCast arg18
  let c0_74 : Index := 0#32
  let c0_75 : Index := 0#32
  ![0, v160.toNat, 0, 0]
def k0_off5 (k0_t1 : Fin k0_t1_loop.trips) (k0_t2 : Fin (k0_t2_loop k0_t1).trips) : Fin 4 → Nat :=
  let c1_76 : Index := 1#32
  let c0_i32_25 : BitVec 32 := 0#32
  let c1_i32_27 : BitVec 32 := 1#32
  let arg18 : BitVec 32 := Scf.iv c0_i32_25 c1_i32_27 k0_t2
  let v164 : Index := Scalar.indexCast arg18
  let c0_77 : Index := 0#32
  let c0_78 : Index := 0#32
  ![1, v164.toNat, 0, 0]
@[reducible] def k0_t3_loop (k0_t1 : Fin k0_t1_loop.trips) : Scf.Loop 32 :=
  let c0_i32_25 : BitVec 32 := 0#32
  let c0_i32 : BitVec 32 := 0#32
  let c1_i32 : BitVec 32 := 1#32
  let arg17 : BitVec 32 := Scf.iv c0_i32 c1_i32 k0_t1
  let v55 : BitVec 32 := Scalar.subi arg17 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let v56 : BitVec 32 := Scalar.addi c0_i32_25 v55
  let c1_i32_28 : BitVec 32 := 1#32
  ⟨v59, v56, c1_i32_28⟩
def k0_mult4 (k0_t1 : Fin k0_t1_loop.trips) (k0_t3 : Fin (k0_t3_loop k0_t1).trips) : BitVec 32 :=
  let c0_i32_25 : BitVec 32 := 0#32
  let c0_i32 : BitVec 32 := 0#32
  let c1_i32 : BitVec 32 := 1#32
  let arg17 : BitVec 32 := Scf.iv c0_i32 c1_i32 k0_t1
  let v55 : BitVec 32 := Scalar.subi arg17 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_28 : BitVec 32 := 1#32
  let arg18 : BitVec 32 := Scf.iv v59 c1_i32_28 k0_t3
  let c256_i32_64 : BitVec 32 := 256#32
  let v137 : BitVec 32 := Scalar.muli arg18 c256_i32_64
  v137
def k0_off6 (k0_t1 : Fin k0_t1_loop.trips) (k0_t3 : Fin (k0_t3_loop k0_t1).trips) : Fin 2 → Nat :=
  let c0_i32_25 : BitVec 32 := 0#32
  let c0_i32 : BitVec 32 := 0#32
  let c1_i32 : BitVec 32 := 1#32
  let arg17 : BitVec 32 := Scf.iv c0_i32 c1_i32 k0_t1
  let v55 : BitVec 32 := Scalar.subi arg17 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_28 : BitVec 32 := 1#32
  let arg18 : BitVec 32 := Scf.iv v59 c1_i32_28 k0_t3
  let c256_i32_64 : BitVec 32 := 256#32
  let v137 : BitVec 32 := Scalar.muli arg18 c256_i32_64
  let v138 : BitVec 32 := v137
  let v139 : Index := Scalar.indexCast v138
  let c0_65 : Index := 0#32
  ![v139.toNat, 0]
def k0_mult5 (k0_t1 : Fin k0_t1_loop.trips) (k0_t3 : Fin (k0_t3_loop k0_t1).trips) : BitVec 32 :=
  let c0_i32_25 : BitVec 32 := 0#32
  let c0_i32 : BitVec 32 := 0#32
  let c1_i32 : BitVec 32 := 1#32
  let arg17 : BitVec 32 := Scf.iv c0_i32 c1_i32 k0_t1
  let v55 : BitVec 32 := Scalar.subi arg17 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_28 : BitVec 32 := 1#32
  let arg18 : BitVec 32 := Scf.iv v59 c1_i32_28 k0_t3
  let c256_i32_66 : BitVec 32 := 256#32
  let v141 : BitVec 32 := Scalar.muli arg18 c256_i32_66
  v141
def k0_off7 (k0_t1 : Fin k0_t1_loop.trips) (k0_t3 : Fin (k0_t3_loop k0_t1).trips) : Fin 4 → Nat :=
  let c0_73 : Index := 0#32
  let c0_i32_25 : BitVec 32 := 0#32
  let c0_i32 : BitVec 32 := 0#32
  let c1_i32 : BitVec 32 := 1#32
  let arg17 : BitVec 32 := Scf.iv c0_i32 c1_i32 k0_t1
  let v55 : BitVec 32 := Scalar.subi arg17 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_28 : BitVec 32 := 1#32
  let arg18 : BitVec 32 := Scf.iv v59 c1_i32_28 k0_t3
  let v160 : Index := Scalar.indexCast arg18
  let c0_74 : Index := 0#32
  let c0_75 : Index := 0#32
  ![0, v160.toNat, 0, 0]
def k0_off8 (k0_t1 : Fin k0_t1_loop.trips) (k0_t3 : Fin (k0_t3_loop k0_t1).trips) : Fin 4 → Nat :=
  let c1_76 : Index := 1#32
  let c0_i32_25 : BitVec 32 := 0#32
  let c0_i32 : BitVec 32 := 0#32
  let c1_i32 : BitVec 32 := 1#32
  let arg17 : BitVec 32 := Scf.iv c0_i32 c1_i32 k0_t1
  let v55 : BitVec 32 := Scalar.subi arg17 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_28 : BitVec 32 := 1#32
  let arg18 : BitVec 32 := Scf.iv v59 c1_i32_28 k0_t3
  let v164 : Index := Scalar.indexCast arg18
  let c0_77 : Index := 0#32
  let c0_78 : Index := 0#32
  ![1, v164.toNat, 0, 0]
def k0_mult6 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32_29 : BitVec 32 := 256#32
  let v62 : BitVec 32 := Scalar.muli arg17 c256_i32_29
  v62
def k0_mult7 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32_31 : BitVec 32 := 256#32
  let v66 : BitVec 32 := Scalar.muli arg17 c256_i32_31
  v66
def k0_off9 (k0_t1 : Fin k0_t1_loop.trips) : Fin 4 → Nat :=
  let c0_40 : Index := 0#32
  let c0_i32 : BitVec 32 := 0#32
  let c1_i32 : BitVec 32 := 1#32
  let arg17 : BitVec 32 := Scf.iv c0_i32 c1_i32 k0_t1
  let v89 : Index := Scalar.indexCast arg17
  let c0_41 : Index := 0#32
  let c0_42 : Index := 0#32
  ![0, v89.toNat, 0, 0]
def k0_off10 (k0_t1 : Fin k0_t1_loop.trips) : Fin 4 → Nat :=
  let c1 : Index := 1#32
  let c0_i32 : BitVec 32 := 0#32
  let c1_i32 : BitVec 32 := 1#32
  let arg17 : BitVec 32 := Scf.iv c0_i32 c1_i32 k0_t1
  let v93 : Index := Scalar.indexCast arg17
  let c0_43 : Index := 0#32
  let c0_44 : Index := 0#32
  ![1, v93.toNat, 0, 0]
@[reducible] def k0_t4_loop (k0_t1 : Fin k0_t1_loop.trips) : Scf.Loop 32 :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v125 : BitVec 32 := Scalar.addi arg17 c1_i32_58
  let v126 : BitVec 32 := Scalar.subi v125 c0_i32_59
  let c1_i32_60 : BitVec 32 := 1#32
  let v128 : BitVec 32 := Scalar.divsi v126 c1_i32_60
  let v129 : BitVec 32 := Scalar.muli v128 c1_i32_60
  let v130 : BitVec 32 := Scalar.addi c0_i32_59 v129
  let c1_i32_61 : BitVec 32 := 1#32
  ⟨c0_i32_59, v130, c1_i32_61⟩
def k0_mult8 (k0_t1 : Fin k0_t1_loop.trips) (k0_t4 : Fin (k0_t4_loop k0_t1).trips) : BitVec 32 :=
  let c0_i32_59 : BitVec 32 := 0#32
  let c1_i32_61 : BitVec 32 := 1#32
  let arg18 : BitVec 32 := Scf.iv c0_i32_59 c1_i32_61 k0_t4
  let c256_i32_64 : BitVec 32 := 256#32
  let v137 : BitVec 32 := Scalar.muli arg18 c256_i32_64
  v137
def k0_off11 (k0_t1 : Fin k0_t1_loop.trips) (k0_t4 : Fin (k0_t4_loop k0_t1).trips) : Fin 4 → Nat :=
  let c0_65 : Index := 0#32
  let c0_i32_59 : BitVec 32 := 0#32
  let c1_i32_61 : BitVec 32 := 1#32
  let arg18 : BitVec 32 := Scf.iv c0_i32_59 c1_i32_61 k0_t4
  let v139 : Index := Scalar.indexCast arg18
  let c0_66 : Index := 0#32
  let c0_67 : Index := 0#32
  ![0, v139.toNat, 0, 0]
def k0_off12 (k0_t1 : Fin k0_t1_loop.trips) (k0_t4 : Fin (k0_t4_loop k0_t1).trips) : Fin 4 → Nat :=
  let c1_68 : Index := 1#32
  let c0_i32_59 : BitVec 32 := 0#32
  let c1_i32_61 : BitVec 32 := 1#32
  let arg18 : BitVec 32 := Scf.iv c0_i32_59 c1_i32_61 k0_t4
  let v142 : Index := Scalar.indexCast arg18
  let c0_69 : Index := 0#32
  let c0_70 : Index := 0#32
  ![1, v142.toNat, 0, 0]
def k0_off13 (k0_t1 : Fin k0_t1_loop.trips) (k0_t4 : Fin (k0_t4_loop k0_t1).trips) : Fin 2 → Nat :=
  let c0_i32_59 : BitVec 32 := 0#32
  let c1_i32_61 : BitVec 32 := 1#32
  let arg18 : BitVec 32 := Scf.iv c0_i32_59 c1_i32_61 k0_t4
  let c256_i32_64 : BitVec 32 := 256#32
  let v137 : BitVec 32 := Scalar.muli arg18 c256_i32_64
  let v138 : BitVec 32 := v137
  let v157 : Index := Scalar.indexCast v138
  let c0_77 : Index := 0#32
  ![v157.toNat, 0]
def k0_off14 (k0_t1 : Fin k0_t1_loop.trips) (k0_t4 : Fin (k0_t4_loop k0_t1).trips) : Fin 2 → Nat :=
  let c0_85 : Index := 0#32
  let c0_i32_59 : BitVec 32 := 0#32
  let c1_i32_61 : BitVec 32 := 1#32
  let arg18 : BitVec 32 := Scf.iv c0_i32_59 c1_i32_61 k0_t4
  let c256_i32_64 : BitVec 32 := 256#32
  let v137 : BitVec 32 := Scalar.muli arg18 c256_i32_64
  let v138 : BitVec 32 := v137
  let v186 : Index := Scalar.indexCast v138
  ![0, v186.toNat]
@[reducible] def k0_t5_loop (k0_t1 : Fin k0_t1_loop.trips) : Scf.Loop 32 :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v125 : BitVec 32 := Scalar.addi arg17 c1_i32_58
  let v126 : BitVec 32 := Scalar.subi v125 c0_i32_59
  let c1_i32_60 : BitVec 32 := 1#32
  let v128 : BitVec 32 := Scalar.divsi v126 c1_i32_60
  let v129 : BitVec 32 := Scalar.muli v128 c1_i32_60
  let v130 : BitVec 32 := Scalar.addi c0_i32_59 v129
  let v127 : BitVec 32 := Scalar.addi c0_i32_59 v126
  let c1_i32_62 : BitVec 32 := 1#32
  ⟨v130, v127, c1_i32_62⟩
def k0_mult9 (k0_t1 : Fin k0_t1_loop.trips) (k0_t5 : Fin (k0_t5_loop k0_t1).trips) : BitVec 32 :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v125 : BitVec 32 := Scalar.addi arg17 c1_i32_58
  let v126 : BitVec 32 := Scalar.subi v125 c0_i32_59
  let c1_i32_60 : BitVec 32 := 1#32
  let v128 : BitVec 32 := Scalar.divsi v126 c1_i32_60
  let v129 : BitVec 32 := Scalar.muli v128 c1_i32_60
  let v130 : BitVec 32 := Scalar.addi c0_i32_59 v129
  let c1_i32_62 : BitVec 32 := 1#32
  let arg18 : BitVec 32 := Scf.iv v130 c1_i32_62 k0_t5
  let c256_i32_64 : BitVec 32 := 256#32
  let v137 : BitVec 32 := Scalar.muli arg18 c256_i32_64
  v137
def k0_off15 (k0_t1 : Fin k0_t1_loop.trips) (k0_t5 : Fin (k0_t5_loop k0_t1).trips) : Fin 4 → Nat :=
  let c0_65 : Index := 0#32
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v125 : BitVec 32 := Scalar.addi arg17 c1_i32_58
  let v126 : BitVec 32 := Scalar.subi v125 c0_i32_59
  let c1_i32_60 : BitVec 32 := 1#32
  let v128 : BitVec 32 := Scalar.divsi v126 c1_i32_60
  let v129 : BitVec 32 := Scalar.muli v128 c1_i32_60
  let v130 : BitVec 32 := Scalar.addi c0_i32_59 v129
  let c1_i32_62 : BitVec 32 := 1#32
  let arg18 : BitVec 32 := Scf.iv v130 c1_i32_62 k0_t5
  let v139 : Index := Scalar.indexCast arg18
  let c0_66 : Index := 0#32
  let c0_67 : Index := 0#32
  ![0, v139.toNat, 0, 0]
def k0_off16 (k0_t1 : Fin k0_t1_loop.trips) (k0_t5 : Fin (k0_t5_loop k0_t1).trips) : Fin 4 → Nat :=
  let c1_68 : Index := 1#32
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v125 : BitVec 32 := Scalar.addi arg17 c1_i32_58
  let v126 : BitVec 32 := Scalar.subi v125 c0_i32_59
  let c1_i32_60 : BitVec 32 := 1#32
  let v128 : BitVec 32 := Scalar.divsi v126 c1_i32_60
  let v129 : BitVec 32 := Scalar.muli v128 c1_i32_60
  let v130 : BitVec 32 := Scalar.addi c0_i32_59 v129
  let c1_i32_62 : BitVec 32 := 1#32
  let arg18 : BitVec 32 := Scf.iv v130 c1_i32_62 k0_t5
  let v142 : Index := Scalar.indexCast arg18
  let c0_69 : Index := 0#32
  let c0_70 : Index := 0#32
  ![1, v142.toNat, 0, 0]
def k0_off17 (k0_t1 : Fin k0_t1_loop.trips) (k0_t5 : Fin (k0_t5_loop k0_t1).trips) : Fin 2 → Nat :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v125 : BitVec 32 := Scalar.addi arg17 c1_i32_58
  let v126 : BitVec 32 := Scalar.subi v125 c0_i32_59
  let c1_i32_60 : BitVec 32 := 1#32
  let v128 : BitVec 32 := Scalar.divsi v126 c1_i32_60
  let v129 : BitVec 32 := Scalar.muli v128 c1_i32_60
  let v130 : BitVec 32 := Scalar.addi c0_i32_59 v129
  let c1_i32_62 : BitVec 32 := 1#32
  let arg18 : BitVec 32 := Scf.iv v130 c1_i32_62 k0_t5
  let c256_i32_64 : BitVec 32 := 256#32
  let v137 : BitVec 32 := Scalar.muli arg18 c256_i32_64
  let v138 : BitVec 32 := v137
  let v157 : Index := Scalar.indexCast v138
  let c0_77 : Index := 0#32
  ![v157.toNat, 0]
def k0_off18 (k0_t1 : Fin k0_t1_loop.trips) (k0_t5 : Fin (k0_t5_loop k0_t1).trips) : Fin 2 → Nat :=
  let c0_85 : Index := 0#32
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v125 : BitVec 32 := Scalar.addi arg17 c1_i32_58
  let v126 : BitVec 32 := Scalar.subi v125 c0_i32_59
  let c1_i32_60 : BitVec 32 := 1#32
  let v128 : BitVec 32 := Scalar.divsi v126 c1_i32_60
  let v129 : BitVec 32 := Scalar.muli v128 c1_i32_60
  let v130 : BitVec 32 := Scalar.addi c0_i32_59 v129
  let c1_i32_62 : BitVec 32 := 1#32
  let arg18 : BitVec 32 := Scf.iv v130 c1_i32_62 k0_t5
  let c256_i32_64 : BitVec 32 := 256#32
  let v137 : BitVec 32 := Scalar.muli arg18 c256_i32_64
  let v138 : BitVec 32 := v137
  let v186 : Index := Scalar.indexCast v138
  ![0, v186.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S4096x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x16 : Shape := ⟨2, ![4096, 16]⟩
abbrev S4096x2048 : Shape := ⟨2, ![4096, 2048]⟩
abbrev S4096x16x64 : Shape := ⟨3, ![4096, 16, 64]⟩
abbrev S16x4096x64 : Shape := ⟨3, ![16, 4096, 64]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S_ : Shape := ⟨0, ![]⟩
abbrev S16x64x4096 : Shape := ⟨3, ![16, 64, 4096]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x16, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x16x64, .f32⟩
  | .hbm, ⟨9, _⟩ => ⟨S16x4096x64, .f32⟩
  | .hbm, ⟨10, _⟩ => ⟨S4096x16x64, .f32⟩
  | .hbm, ⟨11, _⟩ => ⟨S16x4096x64, .f32⟩
  | .hbm, ⟨12, _⟩ => ⟨S4096x16x64, .f32⟩
  | .hbm, ⟨13, _⟩ => ⟨S16x4096x64, .f32⟩
  | .hbm, ⟨14, _⟩ => ⟨S16x4096, .f32⟩
  | .hbm, ⟨15, _⟩ => ⟨S16x4096x4096, .f32⟩
  | .hbm, ⟨16, _⟩ => ⟨S16x4096x1, .f32⟩
  | .hbm, ⟨17, _⟩ => ⟨S16x4096x4096, .f32⟩
  | .hbm, ⟨18, _⟩ => ⟨S16x4096x4096, .f32⟩
  | .hbm, ⟨19, _⟩ => ⟨S16x1x4096, .f32⟩
  | .hbm, ⟨20, _⟩ => ⟨S16x4096x4096, .f32⟩
  | .hbm, ⟨21, _⟩ => ⟨S16x4096x4096, .f32⟩
  | .hbm, ⟨22, _⟩ => ⟨S16x4096x4096, .i32⟩
  | .hbm, ⟨23, _⟩ => ⟨S16x4096x4096, .i32⟩
  | .hbm, ⟨24, _⟩ => ⟨S16x4096x4096, .i1⟩
  | .hbm, ⟨25, _⟩ => ⟨S_, .f32⟩
  | .hbm, ⟨26, _⟩ => ⟨S_, .f32⟩
  | .hbm, ⟨27, _⟩ => ⟨S16x4096x4096, .f32⟩
  | .hbm, ⟨28, _⟩ => ⟨S16x4096x4096, .f32⟩
  | .hbm, ⟨29, _⟩ => ⟨S_, .f32⟩
  | .hbm, ⟨30, _⟩ => ⟨S16x4096x4096, .f32⟩
  | .hbm, ⟨31, _⟩ => ⟨S_, .f32⟩
  | .hbm, ⟨32, _⟩ => ⟨S16x4096, .f32⟩
  | .hbm, ⟨33, _⟩ => ⟨S16x4096x1, .f32⟩
  | .hbm, ⟨34, _⟩ => ⟨S16x4096x4096, .f32⟩
  | .hbm, ⟨35, _⟩ => ⟨S16x4096x4096, .i1⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S_, .f32⟩
  | .hbm, ⟨40, _⟩ => ⟨S16x4096, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S16x4096, .i1⟩
  | .hbm, ⟨45, _⟩ => ⟨S_, .f32⟩
  | .hbm, ⟨46, _⟩ => ⟨S16x4096, .f32⟩
  | .hbm, ⟨47, _⟩ => ⟨S16x4096, .i1⟩
  | .hbm, ⟨48, _⟩ => ⟨S_, .f32⟩
  | .hbm, ⟨49, _⟩ => ⟨S16x4096, .f32⟩
  | .hbm, ⟨50, _⟩ => ⟨S_, .f32⟩
  | .hbm, ⟨51, _⟩ => ⟨S16x4096, .f32⟩
  | .hbm, ⟨52, _⟩ => ⟨S_, .f32⟩
  | .hbm, ⟨53, _⟩ => ⟨S16x4096, .f32⟩
  | .hbm, ⟨54, _⟩ => ⟨S16x4096, .f32⟩
  | .hbm, ⟨55, _⟩ => ⟨S16x4096, .f32⟩
  | .hbm, ⟨56, _⟩ => ⟨S16x4096x1, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S_, .f32⟩
  | .hbm, ⟨61, _⟩ => ⟨S16x4096, .f32⟩
  | .hbm, ⟨62, _⟩ => ⟨S16x4096x1, .f32⟩
  | .hbm, ⟨63, _⟩ => ⟨S16x4096x4096, .f32⟩
  | .hbm, ⟨64, _⟩ => ⟨S16x4096x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S16x4096x64, .f32⟩
  | .hbm, ⟨70, _⟩ => ⟨S4096x16x64, .f32⟩
  | .hbm, ⟨71, _⟩ => ⟨S4096x1024, .f32⟩
  | .hbm, ⟨72, _⟩ => ⟨S4096x1024, .f32⟩
  | .hbm, ⟨73, _⟩ => ⟨S4096x16x64, .f32⟩
  | .hbm, ⟨74, _⟩ => ⟨S16x4096x64, .f32⟩
  | .hbm, ⟨75, _⟩ => ⟨S16x64x4096, .f32⟩
  | .hbm, ⟨76, _⟩ => ⟨S16x4096x64, .f32⟩
  | .hbm, ⟨77, _⟩ => ⟨S16x4096x4096, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S_, .f32⟩
  | .hbm, ⟨82, _⟩ => ⟨S16x4096, .f32⟩
  | .hbm, ⟨83, _⟩ => ⟨S16x4096x1, .f32⟩
  | .hbm, ⟨84, _⟩ => ⟨S16x4096x1, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096x4096, .f32⟩
  | .hbm, ⟨94, _⟩ => ⟨S16x4096x4096, .f32⟩
  | .hbm, ⟨95, _⟩ => ⟨S16x4096x64, .f32⟩
  | .hbm, ⟨96, _⟩ => ⟨S16x4096x64, .f32⟩
  | .hbm, ⟨97, _⟩ => ⟨S4096x16x64, .f32⟩
  | .hbm, ⟨98, _⟩ => ⟨S4096x1024, .f32⟩
  | .hbm, ⟨99, _⟩ => ⟨S4096x16x64, .f32⟩
  | .hbm, ⟨100, _⟩ => ⟨S4096x1024, .f32⟩
  | .hbm, ⟨101, _⟩ => ⟨S4096x16x64, .f32⟩
  | .hbm, ⟨102, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v20_0 : Ref sig .tc := ⟨.hbm, 28, rfl⟩
abbrev main_call0_cst : Ref sig .tc := ⟨.hbm, 29, rfl⟩
abbrev main_v20_1 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel2.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S2048x1024 : Shape := ⟨2, ![2048, 1024]⟩
abbrev S4096x2048 : Shape := ⟨2, ![4096, 2048]⟩
abbrev S2x512x2816 : Shape := ⟨3, ![2, 512, 2816]⟩
abbrev S512x1024 : Shape := ⟨2, ![512, 1024]⟩
abbrev S512x2048 : Shape := ⟨2, ![512, 2048]⟩
abbrev S256x1024 : Shape := ⟨2, ![256, 1024]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S256x2048 : Shape := ⟨2, ![256, 2048]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2048x1024, .bf16⟩
  | .hbm, ⟨6, _⟩ => ⟨S4096x1024, .f32⟩
  | .hbm, ⟨7, _⟩ => ⟨S1x1024, .f32⟩
  | .hbm, ⟨8, _⟩ => ⟨S4096x2048, .f32⟩
  | .local _ .vmem, ⟨0, _⟩ => ⟨S2x512x2816, .bf16⟩
  | .local _ .vmem, ⟨1, _⟩ => ⟨S2x512x2816, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x2048, .f32⟩
  | .local _ .vmem, ⟨13, _⟩ => ⟨S512x2048, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v117 : BitVec 1 := Scalar.cmpi .eq arg0 c0_i32
  let v118 : BitVec 32 := Scalar.extui v117
  let c0_i32_88 : BitVec 32 := 0#32
  let v119 : BitVec 1 := Scalar.cmpi .ne v118 c0_i32_88
  v119

def k0_cond2 (i : grid0.Coords) : BitVec 1 :=
  let arg0 : BitVec 32 := BitVec.ofNat 32 (i 0).val
  let c0_i32_89 : BitVec 32 := 0#32
  let v120 : BitVec 1 := Scalar.cmpi .sgt arg0 c0_i32_89
  let v121 : BitVec 32 := Scalar.extui v120
  let c0_i32_90 : BitVec 32 := 0#32
  let v122 : BitVec 1 := Scalar.cmpi .ne v121 c0_i32_90
  v122

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S2048x1024 : Shape := ⟨2, ![2048, 1024]⟩
abbrev S1024x4x1408 : Shape := ⟨3, ![1024, 4, 1408]⟩
abbrev S1024x5632 : Shape := ⟨2, ![1024, 5632]⟩
abbrev S4096x2x2816 : Shape := ⟨3, ![4096, 2, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x2048 : Shape := ⟨2, ![4096, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2048x1024, .bf16⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S2x4096x2816, .f32⟩
  | .hbm, ⟨10, _⟩ => ⟨S4096x2x2816, .f32⟩
  | .hbm, ⟨11, _⟩ => ⟨S4096x5632, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x5632, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x2048, .f32⟩
  | .hbm, ⟨59, _⟩ => ⟨S2048x1024, .f32⟩
  | .hbm, ⟨60, _⟩ => ⟨S4096x1024, .f32⟩
  | .hbm, ⟨61, _⟩ => ⟨S4096x2048, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel3.lean ====
abbrev S1024x4096 : Shape := ⟨2, ![1024, 4096]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S2x4096x2816, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1024x4096 : Shape := ⟨2, ![1024, 4096]⟩
abbrev S2x4096x2816 : Shape := ⟨3, ![2, 4096, 2816]⟩
abbrev S4096x1024 : Shape := ⟨2, ![4096, 1024]⟩
abbrev S4096x2x2816 : Shape := ⟨3, ![4096, 2, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x4096x2816, .bf16⟩
  | .hbm, ⟨2, _⟩ => ⟨S1024x4096, .f32⟩
  | .hbm, ⟨3, _⟩ => ⟨S4096x1024, .f32⟩
  | .hbm, ⟨4, _⟩ => ⟨S2x4096x2816, .f32⟩
  | .hbm, ⟨5, _⟩ => ⟨S4096x2x2816, .f32⟩
  | .hbm, ⟨6, _⟩ => ⟨S4096x5632, .f32⟩
  | .hbm, ⟨7, _⟩ => ⟨S_, .f32⟩
  | .hbm, ⟨8, _⟩ => ⟨S1024x5632, .f32⟩
  | .hbm, ⟨9, _⟩ => ⟨S4096x5632, .f32⟩
  | .hbm, ⟨10, _⟩ => ⟨S5632x1024, .f32⟩
  | .hbm, ⟨11, _⟩ => ⟨S1024x5632, .f32⟩
  | .hbm, ⟨12, _⟩ => ⟨S1024x4x1408, .f32⟩
  | .hbm, ⟨13, _⟩ => ⟨S4x1024x1408, .f32⟩
  | .hbm, ⟨14, _⟩ => ⟨S4x1024x1408, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S1024x4096 : Shape := ⟨2, ![1024, 4096]⟩
abbrev S4096x5760 : Shape := ⟨2, ![4096, 5760]⟩
abbrev S1024x5760 : Shape := ⟨2, ![1024, 5760]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x5760, .bf16⟩
  | .hbm, ⟨2, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x4096 : Shape := ⟨2, ![1024, 4096]⟩
abbrev S4096x5760 : Shape := ⟨2, ![4096, 5760]⟩
abbrev S4096x1024 : Shape := ⟨2, ![4096, 1024]⟩
abbrev S_ : Shape := ⟨0, ![]⟩
abbrev S1024x5760 : Shape := ⟨2, ![1024, 5760]⟩
abbrev S5760x1024 : Shape := ⟨2, ![5760, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x5760, .bf16⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x5760, .f32⟩
  | .hbm, ⟨6, _⟩ => ⟨S4096x5760, .f32⟩
  | .hbm, ⟨7, _⟩ => ⟨S4096x5760, .f32⟩
  | .hbm, ⟨8, _⟩ => ⟨S5760x1024, .f32⟩
  | .hbm, ⟨9, _⟩ => ⟨S1024x5760, .f32⟩
  | .hbm, ⟨10, _⟩ => ⟨S1024x5760, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2816x4096 : Shape := ⟨2, ![2816, 4096]⟩
abbrev S4096x1024 : Shape := ⟨2, ![4096, 1024]⟩
abbrev S2816x1024 : Shape := ⟨2, ![2816, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .f32⟩
  | .hbm, ⟨2, _⟩ => ⟨S2816x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2816x4096 : Shape := ⟨2, ![2816, 4096]⟩
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .f32⟩
  | .hbm, ⟨2, _⟩ => ⟨S2816x4096, .f32⟩
  | .hbm, ⟨3, _⟩ => ⟨S4096x2816, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2816x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S1024x4096 : Shape := ⟨2, ![1024, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x5760 : Shape := ⟨2, ![4096, 5760]⟩
abbrev S1024x5760 : Shape := ⟨2, ![1024, 5760]⟩
abbrev S4096x1024 : Shape := ⟨2, ![4096, 1024]⟩
abbrev S1x1024 : Shape := ⟨2, ![1, 1024]⟩
abbrev S512x5760 : Shape := ⟨2, ![512, 5760]⟩
abbrev S512x1024 : Shape := ⟨2, ![512, 1024]⟩
abbrev S256x5760 : Shape := ⟨2, ![256, 5760]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5760, .bf16⟩
  | .hbm, ⟨1, _⟩ => ⟨S1024x5760, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_36 : BitVec 32 := 0#32
  let v71 : BitVec 1 := Scalar.cmpi .ne v70 c0_i32_36
  v71

def k0_cond2 (i : grid0.Coords) : BitVec 1 :=
  let arg0 : BitVec 32 := BitVec.ofNat 32 (i 0).val
  let c0_i32_37 : BitVec 32 := 0#32
  let v72 : BitVec 1 := Scalar.cmpi .sgt arg0 c0_i32_37
  let v73 : BitVec 32 := Scalar.extui v72
  let c0_i32_38 : BitVec 32 := 0#32
  let v74 : BitVec 1 := Scalar.cmpi .ne v73 c0_i32_38
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x5760 : Shape := ⟨2, ![4096, 5760]⟩
abbrev S1024x5760 : Shape := ⟨2, ![1024, 5760]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S1024x5760, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x5760, .f32⟩
  | .hbm, ⟨25, _⟩ => ⟨S4096x5760, .f32⟩
  | .hbm, ⟨26, _⟩ => ⟨S4096x5760, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x5760 : Shape := ⟨2, ![1024, 5760]⟩
abbrev S4096x5760 : Shape := ⟨2, ![4096, 5760]⟩
abbrev S1024x4096 : Shape := ⟨2, ![1024, 4096]⟩
abbrev S512x1024 : Shape := ⟨2, ![512, 1024]⟩
abbrev S512x5760 : Shape := ⟨2, ![512, 5760]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x5760 : Shape := ⟨2, ![256, 5760]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5760, .bf16⟩
  | .hbm, ⟨3, _⟩ => ⟨S4096x5760, .f32⟩
  | .hbm, ⟨4, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5760, .bf16⟩
  | .local _ .vmem, ⟨4, _⟩ => ⟨S512x5760, .f32⟩
  | .local _ .vmem, ⟨5, _⟩ => ⟨S512x5760, .f32⟩
  | .local _ .vmem, ⟨6, _⟩ => ⟨S1024x512, .bf16⟩
  | .local _ .vmem, ⟨7, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5760 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1x1024 : Shape := ⟨2, ![1, 1024]⟩
abbrev S1024x5760 : Shape := ⟨2, ![1024, 5760]⟩
abbrev S_ : Shape := ⟨0, ![]⟩
abbrev S4096 : Shape := ⟨1, ![4096]⟩
abbrev S4096x1 : Shape := ⟨2, ![4096, 1]⟩
abbrev S4096x5760 : Shape := ⟨2, ![4096, 5760]⟩
abbrev S1024x4096 : Shape := ⟨2, ![1024, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5760, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x5760, .f32⟩
  | .hbm, ⟨19, _⟩ => ⟨S4096x5760, .f32⟩
  | .hbm, ⟨20, _⟩ => ⟨S1024x4096, .f32⟩
  | .hbm, ⟨21, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S4096x1024 : Shape := ⟨2, ![4096, 1024]⟩
abbrev S2048x1024 : Shape := ⟨2, ![2048, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024x256 : Shape := ⟨2, ![1024, 256]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S2048x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_24 : BitVec 32 := 0#32
  let v31 : BitVec 1 := Scalar.cmpi .ne v30 c0_i32_24
  v31

def k0_cond2 (i : grid0.Coords) : BitVec 1 :=
  let arg0 : BitVec 32 := BitVec.ofNat 32 (i 0).val
  let c0_i32_25 : BitVec 32 := 0#32
  let v32 : BitVec 1 := Scalar.cmpi .sgt arg0 c0_i32_25
  let v33 : BitVec 32 := Scalar.extui v32
  let c0_i32_26 : BitVec 32 := 0#32
  let v34 : BitVec 1 := Scalar.cmpi .ne v33 c0_i32_26
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel12.lean ====
abbrev S4096x1024 : Shape := ⟨2, ![4096, 1024]⟩
abbrev S4x1024x1408 : Shape := ⟨3, ![4, 1024, 1408]⟩
abbrev S8x5632 : Shape := ⟨2, ![8, 5632]⟩
abbrev S1x5632 : Shape := ⟨2, ![1, 5632]⟩
abbrev S2x4096x2816 : Shape := ⟨3, ![2, 4096, 2816]⟩
abbrev S4096x2816 : Shape := ⟨2, ![4096, 2816]⟩
abbrev S2816x4096 : Shape := ⟨2, ![2816, 4096]⟩
abbrev S512x1024 : Shape := ⟨2, ![512, 1024]⟩
abbrev S1x1024x1408 : Shape := ⟨3, ![1, 1024, 1408]⟩
abbrev S8x1408 : Shape := ⟨2, ![8, 1408]⟩
abbrev S1x1408 : Shape := ⟨2, ![1, 1408]⟩
abbrev S2x512x1408 : Shape := ⟨3, ![2, 512, 1408]⟩
abbrev S512x1408 : Shape := ⟨2, ![512, 1408]⟩
abbrev S1408x512 : Shape := ⟨2, ![1408, 512]⟩
abbrev S2x2x8x1408 : Shape := ⟨4, ![2, 2, 8, 1408]⟩
abbrev S1x1x8x1408 : Shape := ⟨4, ![1, 1, 8, 1408]⟩
abbrev S256x1024 : Shape := ⟨2, ![256, 1024]⟩
abbrev S1024x1408 : Shape := ⟨2, ![1024, 1408]⟩
abbrev S256x1408 : Shape := ⟨2, ![256, 1408]⟩
abbrev S1x256x1408 : Shape := ⟨3, ![1, 256, 1408]⟩
abbrev S264x1408 : Shape := ⟨2, ![264, 1408]⟩
abbrev S1408x256 : Shape := ⟨2, ![1408, 256]⟩

abbrev nBuf : Space → Nat
  | .hbm => 7
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S8x5632, .f32⟩
  | .hbm, ⟨3, _⟩ => ⟨S1x5632, .f32⟩
  | .hbm, ⟨4, _⟩ => ⟨S2x4096x2816, .f32⟩
  | .hbm, ⟨5, _⟩ => ⟨S4096x2816, .bf16⟩
  | .hbm, ⟨6, _⟩ => ⟨S2816x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S8x1408, .f32⟩
  | .local _ .vmem, ⟨7, _⟩ => ⟨S8x1408, .f32⟩
  | .local _ .vmem, ⟨8, _⟩ => ⟨S8x1408, .f32⟩
  | .local _ .vmem, ⟨9, _⟩ => ⟨S8x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S2x512x1408, .f32⟩
  | .local _ .vmem, ⟨15, _⟩ => ⟨S2x512x1408, .f32⟩
  | .local _ .vmem, ⟨16, _⟩ => ⟨S512x1408, .bf16⟩
  | .local _ .vmem, ⟨17, _⟩ => ⟨S512x1408, .bf16⟩
  | .local _ .vmem, ⟨18, _⟩ => ⟨S1408x512, .bf16⟩
  | .local _ .vmem, ⟨19, _⟩ => ⟨S1408x512, .bf16⟩
  | .local _ .vmem, ⟨20, _⟩ => ⟨S2x2x8x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def k0_off1 (i : grid0.Coords) : Fin 4 → Nat :=
  let c0 : Index := 0#32
  let arg1 : BitVec 32 := BitVec.ofNat 32 (i 1).val
  let v1 : Index := Scalar.indexCast arg1
  let c0_0 : Index := 0#32
  let c0_1 : Index := 0#32
  ![0, v1.toNat, 0, 0]
def k0_off2 (i : grid0.Coords) : Fin 4 → Nat :=
  let c1 : Index := 1#32
  let arg1 : BitVec 32 := BitVec.ofNat 32 (i 1).val
  let v7 : Index := Scalar.indexCast arg1
  let c0_3 : Index := 0#32
  let c0_4 : Index := 0#32
  ![1, v7.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1408x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference12Ideal.lean ====
abbrev S4096x1024 : Shape := ⟨2, ![4096, 1024]⟩
abbrev S4x1024x1408 : Shape := ⟨3, ![4, 1024, 1408]⟩
abbrev S8x5632 : Shape := ⟨2, ![8, 5632]⟩
abbrev S1x5632 : Shape := ⟨2, ![1, 5632]⟩
abbrev S1024x4x1408 : Shape := ⟨3, ![1024, 4, 1408]⟩
abbrev S1024x5632 : Shape := ⟨2, ![1024, 5632]⟩
abbrev S4096x5632 : Shape := ⟨2, ![4096, 5632]⟩
abbrev S3x5632 : Shape := ⟨2, ![3, 5632]⟩
abbrev S_ : Shape := ⟨0, ![]⟩
abbrev S4098x5632 : Shape := ⟨2, ![4098, 5632]⟩
abbrev S5632 : Shape := ⟨1, ![5632]⟩
abbrev S4096x2816 : Shape := ⟨2, ![4096, 2816]⟩
abbrev S4096x2x2816 : Shape := ⟨3, ![4096, 2, 2816]⟩
abbrev S2x4096x2816 : Shape := ⟨3, ![2, 4096, 2816]⟩
abbrev S2816x4096 : Shape := ⟨2, ![2816, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S8x5632, .f32⟩
  | .hbm, ⟨3, _⟩ => ⟨S1x5632, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S4096x1024, .f32⟩
  | .hbm, ⟨8, _⟩ => ⟨S4096x5632, .f32⟩
  | .hbm, ⟨9, _⟩ => ⟨S3x5632, .f32⟩
  | .hbm, ⟨10, _⟩ => ⟨S_, .i32⟩
  | .hbm, ⟨11, _⟩ => ⟨S_, .f32⟩
  | .hbm, ⟨12, _⟩ => ⟨S4098x5632, .f32⟩
  | .hbm, ⟨13, _⟩ => ⟨S1x5632, .f32⟩
  | .hbm, ⟨14, _⟩ => ⟨S5632, .f32⟩
  | .hbm, ⟨15, _⟩ => ⟨S4096x5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S5632, .f32⟩
  | .hbm, ⟨21, _⟩ => ⟨S4096x5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S1x5632, .f32⟩
  | .hbm, ⟨26, _⟩ => ⟨S5632, .f32⟩
  | .hbm, ⟨27, _⟩ => ⟨S4096x5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .bf16⟩
  | .hbm, ⟨48, _⟩ => ⟨S4096x2x2816, .f32⟩
  | .hbm, ⟨49, _⟩ => ⟨S2x4096x2816, .f32⟩
  | .hbm, ⟨50, _⟩ => ⟨S2816x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.KSpecOuter.lean ====
/- One trip of the outer loop by blocks, and all sixteen of them: what each result's blocks hold. -/
module

public import proofs.«01_k».proof.Proof.KSpecLoop

@[expose] public section

set_option maxRecDepth 16384
set_option maxHeartbeats 2000000

noncomputable section

namespace Cert.Kernel.Spec

open Idealize.ShloMosaic Idealize.ShloMosaic.ValueIdx Idealize.ShloMosaic.TcCoe Cert.Kernel.Gen
open Idealize.SL.Sem

variable {F : FTy → Type} [FloatOps F]

variable (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)

section Trip
variable (k : Fin k0_t1_loop.trips)

theorem e25 (J : In F) (hJ : J = (inp (F := F) arg1 arg2 arg3 arg4 arg5 arg6 arg7 arg8 arg9 arg0 X1 X2 X3 X4 X5 X6 X7 X8 X9)) : Outer.trip.sl.r arg1 arg3 X1 X3 k = qa J k := by
  subst hJ
  show k0_pay33 k0_pay5 (arg1.view.readAt (Elt F) (Rect.unit (s := S4096x128) (k0_off1 k) ![256, 128] (inb1 k)).toLoadRect X1) (arg3.view.readAt (Elt F) (Rect.unit (s := S4096x128) (k0_off1 k) ![256, 128] (inb1 k)).toLoadRect X3) = _
  rw [readAt_rows arg1.view X1 (inb1 k) (off1_eq k) (lt1 k), readAt_rows arg3.view X3 (inb1 k) (off1_eq k) (lt1 k)]; rfl
theorem e26 (J : In F) (hJ : J = (inp (F := F) arg1 arg2 arg3 arg4 arg5 arg6 arg7 arg8 arg9 arg0 X1 X2 X3 X4 X5 X6 X7 X8 X9)) : Outer.trip.sl.r_1 arg1 arg3 X1 X3 k = qb J k := by
  subst hJ
  show k0_pay34 k0_pay5 (arg1.view.readAt (Elt F) (Rect.unit (s := S4096x128) (k0_off1 k) ![256, 128] (inb1 k)).toLoadRect X1) (arg3.view.readAt (Elt F) (Rect.unit (s := S4096x128) (k0_off1 k) ![256, 128] (inb1 k)).toLoadRect X3) = _
  rw [readAt_rows arg1.view X1 (inb1 k) (off1_eq k) (lt1 k), readAt_rows arg3.view X3 (inb1 k) (off1_eq k) (lt1 k)]; rfl
theorem e31 (J : In F) (hJ : J = (inp (F := F) arg1 arg2 arg3 arg4 arg5 arg6 arg7 arg8 arg9 arg0 X1 X2 X3 X4 X5 X6 X7 X8 X9)) : Outer.trip.sl.r_2 arg9 X9 k = doa J k := by
  subst hJ
  show k0_pay35 k0_pay5 (arg9.view.readAt (Elt F) (Rect.unit (s := S4096x128) (k0_off1 k) ![256, 128] (inb1 k)).toLoadRect X9) = _
  rw [readAt_rows arg9.view X9 (inb1 k) (off1_eq k) (lt1 k)]; rfl
theorem e34 (J : In F) (hJ : J = (inp (F := F) arg1 arg2 arg3 arg4 arg5 arg6 arg7 arg8 arg9 arg0 X1 X2 X3 X4 X5 X6 X7 X8 X9)) : Outer.trip.sl.r_3 arg9 X9 k = dob J k := by
  subst hJ
  show k0_pay36 k0_pay5 (arg9.view.readAt (Elt F) (Rect.unit (s := S4096x128) (k0_off1 k) ![256, 128] (inb1 k)).toLoadRect X9) = _
  rw [readAt_rows arg9.view X9 (inb1 k) (off1_eq k) (lt1 k)]; rfl
theorem e45 (J : In F) (hJ : J = (inp (F := F) arg1 arg2 arg3 arg4 arg5 arg6 arg7 arg8 arg9 arg0 X1 X2 X3 X4 X5 X6 X7 X8 X9)) : Outer.trip.sl.r_4 arg8 arg0 X8 k = l0 J k := by
  subst hJ
  show k0_pay38 arg0 (arg8.view.readAt (Elt F) (Rect.unit (s := S16x4096) (k0_off2 k) ![16, 256] (inb2 k)).toLoadRect X8) = _
  rw [readAt_cols16 arg8.view X8 (inb2 k) (off2_eq k) (lt1 k)]; rfl
theorem e53 (J : In F) (hJ : J = (inp (F := F) arg1 arg2 arg3 arg4 arg5 arg6 arg7 arg8 arg9 arg0 X1 X2 X3 X4 X5 X6 X7 X8 X9)) : Outer.trip.sl.r_5 arg8 arg0 X8 k = l1 J k := by
  subst hJ
  show k0_pay39 arg0 (arg8.view.readAt (Elt F) (Rect.unit (s := S16x4096) (k0_off2 k) ![16, 256] (inb2 k)).toLoadRect X8) = _
  rw [readAt_cols16 arg8.view X8 (inb2 k) (off2_eq k) (lt1 k)]; rfl
theorem er2 (J : In F) (hJ : J = (inp (F := F) arg1 arg2 arg3 arg4 arg5 arg6 arg7 arg8 arg9 arg0 X1 X2 X3 X4 X5 X6 X7 X8 X9)) : Outer.trip.sl.r_8 arg1 arg2 arg3 arg4 arg8 arg0 X1 X2 X3 X4 X8 k = p0 J k k := by
  show k0_pay50 k0_pay5 k0_pay7 (Outer.trip.sl.r arg1 arg3 X1 X3 k) (Outer.trip.sl.r_4 arg8 arg0 X8 k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4) = _
  rw [e25 (J := J) (hJ := hJ), e45 (J := J) (hJ := hJ), readAt_rows arg2.view X2 (inb1 k) (off1_eq k) (lt1 k), readAt_rows arg4.view X4 (inb1 k) (off1_eq k) (lt1 k), p0, if_pos rfl]
  subst hJ; rfl
theorem er3 (J : In F) (hJ : J = (inp (F := F) arg1 arg2 arg3 arg4 arg5 arg6 arg7 arg8 arg9 arg0 X1 X2 X3 X4 X5 X6 X7 X8 X9)) : Outer.trip.sl.r_9 arg1 arg2 arg3 arg4 arg8 arg0 X1 X2 X3 X4 X8 k = p1 J k k := by
  show k0_pay51 k0_pay5 k0_pay7 (Outer.trip.sl.r_1 arg1 arg3 X1 X3 k) (Outer.trip.sl.r_5 arg8 arg0 X8 k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4) = _
  rw [e26 (J := J) (hJ := hJ), e53 (J := J) (hJ := hJ), readAt_rows arg2.view X2 (inb1 k) (off1_eq k) (lt1 k), readAt_rows arg4.view X4 (inb1 k) (off1_eq k) (lt1 k), p1, if_pos rfl]
  subst hJ; rfl
theorem er4 (J : In F) (hJ : J = (inp (F := F) arg1 arg2 arg3 arg4 arg5 arg6 arg7 arg8 arg9 arg0 X1 X2 X3 X4 X5 X6 X7 X8 X9)) : Outer.trip.sl.r_10 arg7 arg9 X7 X9 k = dp0 J k k := by
  show k0_pay52 (Outer.trip.sl.r_2 arg9 X9 k) (arg7.view.readAt (Elt F) (Rect.unit (s := S4096x128) (k0_off1 k) ![256, 128] (inb1 k)).toLoadRect X7) = _
  rw [e31 (J := J) (hJ := hJ), readAt_rows arg7.view X7 (inb1 k) (off1_eq k) (lt1 k)]; subst hJ; rfl
theorem er5 (J : In F) (hJ : J = (inp (F := F) arg1 arg2 arg3 arg4 arg5 arg6 arg7 arg8 arg9 arg0 X1 X2 X3 X4 X5 X6 X7 X8 X9)) : Outer.trip.sl.r_11 arg7 arg9 X7 X9 k = dp1 J k k := by
  show k0_pay53 (Outer.trip.sl.r_3 arg9 X9 k) (arg7.view.readAt (Elt F) (Rect.unit (s := S4096x128) (k0_off1 k) ![256, 128] (inb1 k)).toLoadRect X7) = _
  rw [e34 (J := J) (hJ := hJ), readAt_rows arg7.view X7 (inb1 k) (off1_eq k) (lt1 k)]; subst hJ; rfl

theorem tr2 : Scf.trips (0#32) (Scalar.addi (0#32) (Scalar.muli (Scalar.divsi (Scalar.subi (Scf.iv 0#32 1#32 k) 0#32) 1#32) 1#32)) 1#32 = k.val := trips2 k
theorem tr4 : Scf.trips (0#32) (Scalar.addi (0#32) (Scalar.muli (Scalar.divsi (Scalar.subi (Scalar.addi (Scf.iv 0#32 1#32 k) 1#32) 0#32) 1#32) 1#32)) 1#32 = k.val + 1 := trips4 k

variable (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)

/-- The first inner loop of a trip, all of it. -/
abbrev S2 (J : In F) (hJ : J = (inp (F := F) arg1 arg2 arg3 arg4 arg5 arg6 arg7 arg8 arg9 arg0 X1 X2 X3 X4 X5 X6 X7 X8 X9)) := Gen.st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k (Outer.trip.sl.arg17 k) (qa J k) (qb J k) (doa J k) (dob J k) (l0 J k) (l1 J k) k0_pay40 0#32 (Outer.trip.sl.v59 k) X2 X4 X7 f12 f15 f16 (k0_pay40, k0_pay40) k.val

theorem er (J : In F) (hJ : J = (inp (F := F) arg1 arg2 arg3 arg4 arg5 arg6 arg7 arg8 arg9 arg0 X1 X2 X3 X4 X5 X6 X7 X8 X9)) : Outer.trip.sl.r_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X7 X8 X9 k f12 f15 f16 = d0 J k k := by
  unfold Outer.trip.sl.r_6
  simp only [e25 (J := J) (hJ := hJ), e26 (J := J) (hJ := hJ), e31 (J := J) (hJ := hJ), e34 (J := J) (hJ := hJ), e45 (J := J) (hJ := hJ), e53 (J := J) (hJ := hJ), tr2]
  exact congrArg Prod.fst (st2 (J := J) (hJ := hJ) (n := k.val) (hn := le_rfl) (hS := rfl) ..).1
theorem er1 (J : In F) (hJ : J = (inp (F := F) arg1 arg2 arg3 arg4 arg5 arg6 arg7 arg8 arg9 arg0 X1 X2 X3 X4 X5 X6 X7 X8 X9)) : Outer.trip.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X7 X8 X9 k f12 f15 f16 = d1 J k k := by
  unfold Outer.trip.sl.r_7
  simp only [e25 (J := J) (hJ := hJ), e26 (J := J) (hJ := hJ), e31 (J := J) (hJ := hJ), e34 (J := J) (hJ := hJ), e45 (J := J) (hJ := hJ), e53 (J := J) (hJ := hJ), tr2]
  exact congrArg Prod.snd (st2 (J := J) (hJ := hJ) (n := k.val) (hn := le_rfl) (hS := rfl) ..).1
theorem ex (J : In F) (hJ : J = (inp (F := F) arg1 arg2 arg3 arg4 arg5 arg6 arg7 arg8 arg9 arg0 X1 X2 X3 X4 X5 X6 X7 X8 X9)) : Outer.trip.sl.x c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X7 X8 X9 k f12 f15 f16 = rows (arg12.view.read (Elt F) f12) k := by
  unfold Outer.trip.sl.x
  simp only [e25 (J := J) (hJ := hJ), e26 (J := J) (hJ := hJ), e31 (J := J) (hJ := hJ), e34 (J := J) (hJ := hJ), e45 (J := J) (hJ := hJ), e53 (J := J) (hJ := hJ), tr2]
  refine (readAt_rows arg12.view _ (inb1 k) (off1_eq k) (lt1 k)).trans ?_
  rw [(st2 (J := J) (hJ := hJ) (n := k.val) (hn := le_rfl) (hS := rfl) ..).2.1 k (lt1 k), if_neg (lt_irrefl _)]

/-- One trip: the query cotangent's block, and what is added to the other results' blocks. -/
theorem trip_blocks (J : In F) (hJ : J = (inp (F := F) arg1 arg2 arg3 arg4 arg5 arg6 arg7 arg8 arg9 arg0 X1 X2 X3 X4 X5 X6 X7 X8 X9)) (T : List (View.Piece (Elt F) S4096x128 .f32) × List (View.Piece (Elt F) S4096x128 .f32) × List (View.Piece (Elt F) S4096x128 .f32) × List (View.Piece (Elt F) S4096x128 .f32) × List (View.Piece (Elt F) S4096x128 .f32) × List (View.Piece (Elt F) S2x16x256x256 .f32) × List (View.Piece (Elt F) S2x16x256x256 .f32))
    (hT : T = Outer.tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k f10 f11 f12 f13 f14 f15 f16) :
    (∀ b, b < 16 → rows (arg10.view.read (Elt F) (arg10.view.writes (Elt F) f10 T.1)) b = if b = k.val then dq J k else rows (arg10.view.read (Elt F) f10) b)
    ∧ (∀ b, b < 16 → rows (arg11.view.read (Elt F) (arg11.view.writes (Elt F) f11 T.2.1)) b = if b < k.val + 1 then dkAdd J k b (rows (arg11.view.read (Elt F) f11) b) else rows (arg11.view.read (Elt F) f11) b)
    ∧ (∀ b, b < 16 → rows (arg12.view.read (Elt F) (arg12.view.writes (Elt F) f12 T.2.2.1)) b = if b < k.val + 1 then dvAdd J k b (rows (arg12.view.read (Elt F) f12) b) else rows (arg12.view.read (Elt F) f12) b)
    ∧ (∀ b, b < 16 → rows (arg13.view.read (Elt F) (arg13.view.writes (Elt F) f13 T.2.2.2.1)) b = if b < k.val + 1 then dc0Add J k b (rows (arg13.view.read (Elt F) f13) b) else rows (arg13.view.read (Elt F) f13) b)
    ∧ (∀ b, b < 16 → rows (arg14.view.read (Elt F) (arg14.view.writes (Elt F) f14 T.2.2.2.2.1)) b = if b < k.val + 1 then dc1Add J k b (rows (arg14.view.read (Elt F) f14) b) else rows (arg14.view.read (Elt F) f14) b) := by
  unfold Outer.tripL Outer.trip at hT
  dsimp only at hT
  rw [er (J := J) (hJ := hJ), er1 (J := J) (hJ := hJ), er2 (J := J) (hJ := hJ), er3 (J := J) (hJ := hJ), er4 (J := J) (hJ := hJ), er5 (J := J) (hJ := hJ), ex (J := J) (hJ := hJ),
    e25 (J := J) (hJ := hJ), e26 (J := J) (hJ := hJ), e31 (J := J) (hJ := hJ), e34 (J := J) (hJ := hJ), e45 (J := J) (hJ := hJ), e53 (J := J) (hJ := hJ), tr2, tr4] at hT
  have hS2 := st2 (J := J) (hJ := hJ) (n := k.val) (hn := le_rfl) (hS := rfl) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k (Outer.trip.sl.arg17 k) 0#32 (Outer.trip.sl.v59 k) k0_pay40 f12 f15 f16
  generalize Gen.st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k (Outer.trip.sl.arg17 k) (qa J k) (qb J k) (doa J k) (dob J k) (l0 J k) (l1 J k) k0_pay40 0#32 (Outer.trip.sl.v59 k) X2 X4 X7 f12 f15 f16 (k0_pay40, k0_pay40) k.val = P at hT hS2
  obtain ⟨-, h12, h15, h16⟩ := hS2
  have w10 := fun (v : View sig .tc .vmem S2x16x256x256 .f32) (f) (w) (L) (b : ℕ) (hb : b < 16) (g : ℕ) (hg : g < 2) => tile_writes (Val := Elt F) v f (inb10 k) w L (off10_eq k) (by omega) (lt1 k) hg hb
  have w9 := fun (v : View sig .tc .vmem S2x16x256x256 .f32) (f) (w) (L) (b : ℕ) (hb : b < 16) (g : ℕ) (hg : g < 2) => tile_writes (Val := Elt F) v f (inb9 k) w L (off9_eq k) (by omega) (lt1 k) hg hb
  have hk := lt1 k
  have t15 : ∀ (w0 : Vec F S1x1x256x256 .f32) (w1 : Vec F S1x1x256x256 .f32), w0 = k0_pay41 (p0 J k k) → w1 = k0_pay41 (p1 J k k) →
      ∀ b, b < k.val + 1 → tile (arg15.view.read (Elt F) (arg15.view.writes (Elt F) f15 (⟨Rect.unit (s := S2x16x256x256) (k0_off10 k) ![1, 1, 256, 256] (inb10 k), w1⟩ :: ⟨Rect.unit (s := S2x16x256x256) (k0_off9 k) ![1, 1, 256, 256] (inb9 k), w0⟩ :: P.2.2.1))) 0 b = k0_pay41 (p0 J k b)
      ∧ tile (arg15.view.read (Elt F) (arg15.view.writes (Elt F) f15 (⟨Rect.unit (s := S2x16x256x256) (k0_off10 k) ![1, 1, 256, 256] (inb10 k), w1⟩ :: ⟨Rect.unit (s := S2x16x256x256) (k0_off9 k) ![1, 1, 256, 256] (inb9 k), w0⟩ :: P.2.2.1))) 1 b = k0_pay41 (p1 J k b) := by
    intro w0 w1 h0 h1 b hb
    rw [w10 _ _ _ _ b (by omega) 0 (by omega), w10 _ _ _ _ b (by omega) 1 (by omega), w9 _ _ _ _ b (by omega) 0 (by omega), w9 _ _ _ _ b (by omega) 1 (by omega)]
    by_cases e : b = k.val
    · subst e
      constructor
      · rw [if_neg (by omega), if_pos (by omega), h0]
      · rw [if_pos (by omega), h1]
    · rw [if_neg (by omega), if_neg (by omega), if_neg (by omega), if_neg (by omega)]
      exact h15 b (by omega)
  have t16 : ∀ (w0 : Vec F S1x1x256x256 .f32) (w1 : Vec F S1x1x256x256 .f32), w0 = k0_pay41 (dp0 J k k) → w1 = k0_pay41 (dp1 J k k) →
      ∀ b, b < k.val + 1 → tile (arg16.view.read (Elt F) (arg16.view.writes (Elt F) f16 (⟨Rect.unit (s := S2x16x256x256) (k0_off10 k) ![1, 1, 256, 256] (inb10 k), w1⟩ :: ⟨Rect.unit (s := S2x16x256x256) (k0_off9 k) ![1, 1, 256, 256] (inb9 k), w0⟩ :: P.2.2.2))) 0 b = k0_pay41 (dp0 J k b)
      ∧ tile (arg16.view.read (Elt F) (arg16.view.writes (Elt F) f16 (⟨Rect.unit (s := S2x16x256x256) (k0_off10 k) ![1, 1, 256, 256] (inb10 k), w1⟩ :: ⟨Rect.unit (s := S2x16x256x256) (k0_off9 k) ![1, 1, 256, 256] (inb9 k), w0⟩ :: P.2.2.2))) 1 b = k0_pay41 (dp1 J k b) := by
    intro w0 w1 h0 h1 b hb
    rw [w10 _ _ _ _ b (by omega) 0 (by omega), w10 _ _ _ _ b (by omega) 1 (by omega), w9 _ _ _ _ b (by omega) 0 (by omega), w9 _ _ _ _ b (by omega) 1 (by omega)]
    by_cases e : b = k.val
    · subst e
      constructor
      · rw [if_neg (by omega), if_pos (by omega), h0]
      · rw [if_pos (by omega), h1]
    · rw [if_neg (by omega), if_neg (by omega), if_neg (by omega), if_neg (by omega)]
      exact h16 b (by omega)
  have y54 : k0_pay54 k0_pay5 k0_pay7 (qa J k) (l0 J k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4) = k0_pay41 (p0 J k k) := by
    show k0_pay41 (k0_pay50 k0_pay5 k0_pay7 (qa J k) (l0 J k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4)) = _
    rw [readAt_rows arg2.view X2 (inb1 k) (off1_eq k) (lt1 k), readAt_rows arg4.view X4 (inb1 k) (off1_eq k) (lt1 k), p0, if_pos rfl]
    subst hJ; rfl
  have y55 : k0_pay55 k0_pay5 k0_pay7 (qb J k) (l1 J k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4) = k0_pay41 (p1 J k k) := by
    show k0_pay41 (k0_pay51 k0_pay5 k0_pay7 (qb J k) (l1 J k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4)) = _
    rw [readAt_rows arg2.view X2 (inb1 k) (off1_eq k) (lt1 k), readAt_rows arg4.view X4 (inb1 k) (off1_eq k) (lt1 k), p1, if_pos rfl]
    subst hJ; rfl
  have hS4 := st4 (J := J) (hJ := hJ) (n := k.val + 1) (hn := le_rfl) (hS := rfl) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k (Outer.trip.sl.arg17 k) (Outer.trip.sl.v18 k) (Outer.trip.sl.v62 k)
    f11 f13 f14 _ _ (t15 _ _ y54 y55) (t16 (k0_pay56 (dp0 J k k)) (k0_pay57 (dp1 J k k)) rfl rfl)
  generalize Gen.st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k _ _ _ _ _ _ _ _ _ _ _ _ _ X5 X6 _ _ f11 f13 f14 (k0_pay61, k0_pay61) (k.val + 1) = Q at hT hS4
  obtain ⟨q1, q11, q13, q14⟩ := hS4
  subst hT
  refine ⟨fun b hb => ?_, q11, fun b hb => ?_, q13, q14⟩
  · dsimp only
    rw [rows_writes _ _ _ _ _ (off1_eq k) hk hb, q1]
    rfl
  · dsimp only
    rw [rows_writes _ _ _ _ _ (off1_eq k) hk hb, h12 b hb]
    by_cases e : b = k.val
    · subst e
      rw [if_pos rfl, if_pos (Nat.lt_succ_self _)]
      rfl
    · rw [if_neg e]
      by_cases h : b < k.val
      · rw [if_pos h, if_pos (by omega)]
      · rw [if_neg h, if_neg (by omega)]

end Trip

/-- The outer loop before trip `n`: the query cotangent's blocks before it, and the other results' blocks from the query blocks before it. -/
theorem loop_blocks (J : In F) (hJ : J = (inp (F := F) arg1 arg2 arg3 arg4 arg5 arg6 arg7 arg8 arg9 arg0 X1 X2 X3 X4 X5 X6 X7 X8 X9)) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (n : ℕ) (hn : n ≤ 16)
    (T : List (View.Piece (Elt F) S4096x128 .f32) × List (View.Piece (Elt F) S4096x128 .f32) × List (View.Piece (Elt F) S4096x128 .f32) × List (View.Piece (Elt F) S4096x128 .f32) × List (View.Piece (Elt F) S4096x128 .f32) × List (View.Piece (Elt F) S2x16x256x256 .f32) × List (View.Piece (Elt F) S2x16x256x256 .f32))
    (hT : T = Outer.pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 n) :
    (∀ b, b < n → rows (arg10.view.read (Elt F) (arg10.view.writes (Elt F) G10 T.1)) b = dq J b)
    ∧ (∀ b, b < 16 → rows (arg11.view.read (Elt F) (arg11.view.writes (Elt F) G11 T.2.1)) b = acc (dkAdd J) (rows (arg11.view.read (Elt F) G11) b) b n)
    ∧ (∀ b, b < 16 → rows (arg12.view.read (Elt F) (arg12.view.writes (Elt F) G12 T.2.2.1)) b = acc (dvAdd J) (rows (arg12.view.read (Elt F) G12) b) b n)
    ∧ (∀ b, b < 16 → rows (arg13.view.read (Elt F) (arg13.view.writes (Elt F) G13 T.2.2.2.1)) b = acc (dc0Add J) (rows (arg13.view.read (Elt F) G13) b) b n)
    ∧ (∀ b, b < 16 → rows (arg14.view.read (Elt F) (arg14.view.writes (Elt F) G14 T.2.2.2.2.1)) b = acc (dc1Add J) (rows (arg14.view.read (Elt F) G14) b) b n) := by
  induction n generalizing T with
  | zero =>
    subst hT
    exact ⟨fun b hb => absurd hb (Nat.not_lt_zero b), fun b hb => rfl, fun b hb => rfl, fun b hb => rfl, fun b hb => rfl⟩
  | succ n ih =>
    obtain ⟨h10, h11, h12, h13, h14⟩ := ih (by omega) _ rfl
    have hlt : n < k0_t1_loop.trips := by rw [trips1]; omega
    have hs := Outer.pb_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 ⟨n, hlt⟩
    have ht := fun f10 f11 f12 f13 f14 f15 f16 => trip_blocks (J := J) (hJ := hJ) (hT := rfl) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 ⟨n, hlt⟩ f10 f11 f12 f13 f14 f15 f16
    dsimp only at hs
    generalize hP : Outer.pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 n = P at *
    replace ht := ht (arg10.view.writes (Elt F) G10 P.1) (arg11.view.writes (Elt F) G11 P.2.1) (arg12.view.writes (Elt F) G12 P.2.2.1) (arg13.view.writes (Elt F) G13 P.2.2.2.1) (arg14.view.writes (Elt F) G14 P.2.2.2.2.1) (arg15.view.writes (Elt F) G15 P.2.2.2.2.2.1) (arg16.view.writes (Elt F) G16 P.2.2.2.2.2.2)
    obtain ⟨t10, t11, t12, t13, t14⟩ := ht
    rw [hT.trans hs]
    refine ⟨fun b hb => ?_, fun b hb => ?_, fun b hb => ?_, fun b hb => ?_, fun b hb => ?_⟩
    · dsimp only
      rw [View.writes_append]
      refine (t10 b (by omega)).trans ?_
      by_cases e : b = n
      · subst e; exact if_pos rfl
      · exact (if_neg e).trans (h10 b (by omega))
    · dsimp only
      rw [View.writes_append]
      refine (t11 b hb).trans ?_
      rw [h11 b hb, acc]
      by_cases h : b < n + 1
      · exact (if_pos h).trans (if_pos (Nat.lt_succ_iff.mp h)).symm
      · exact (if_neg h).trans (if_neg fun h' => h (Nat.lt_succ_iff.mpr h')).symm
    · dsimp only
      rw [View.writes_append]
      refine (t12 b hb).trans ?_
      rw [h12 b hb, acc]
      by_cases h : b < n + 1
      · exact (if_pos h).trans (if_pos (Nat.lt_succ_iff.mp h)).symm
      · exact (if_neg h).trans (if_neg fun h' => h (Nat.lt_succ_iff.mpr h')).symm
    · dsimp only
      rw [View.writes_append]
      refine (t13 b hb).trans ?_
      rw [h13 b hb, acc]
      by_cases h : b < n + 1
      · exact (if_pos h).trans (if_pos (Nat.lt_succ_iff.mp h)).symm
      · exact (if_neg h).trans (if_neg fun h' => h (Nat.lt_succ_iff.mpr h')).symm
    · dsimp only
      rw [View.writes_append]
      refine (t14 b hb).trans ?_
      rw [h14 b hb, acc]
      by_cases h : b < n + 1
      · exact (if_pos h).trans (if_pos (Nat.lt_succ_iff.mp h)).symm
      · exact (if_neg h).trans (if_neg fun h' => h (Nat.lt_succ_iff.mpr h')).symm

end Cert.Kernel.Spec
-- ==== Proof.Loop.lean ====
/- The outer counted loop of the attention's backward body (one trip per block of 256 query rows): what one trip writes, the
   pieces of the trips before a given one, and the loop's invariant. The two inner loops go by their generated invariants. -/
module

public import proofs.«01_k».proof.Proof.Gen.KernelIdeal.Loops
public import proofs.«01_k».proof.Proof.Gen.KernelIdeal.Frame
public import Idealize.ShloMosaic.Lib.LoopRemainder

@[expose] public section

set_option maxRecDepth 16384
set_option maxHeartbeats 4000000

noncomputable section

namespace Cert.KernelIdeal.Outer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffers one trip touches: those it reads at their contents, those it writes at any. -/
abbrev Trip (c : Dev nD) (arg1 : Memref sig .tc .vmem S4096x128 .bf16) (arg2 : Memref sig .tc .vmem S4096x128 .bf16) (arg3 : Memref sig .tc .vmem S4096x128 .bf16) (arg4 : Memref sig .tc .vmem S4096x128 .bf16) (arg5 : Memref sig .tc .vmem S128x4096 .bf16) (arg6 : Memref sig .tc .vmem S128x4096 .bf16) (arg7 : Memref sig .tc .vmem S4096x128 .bf16) (arg8 : Memref sig .tc .vmem S16x4096 .f32) (arg9 : Memref sig .tc .vmem S4096x128 .f32) (arg10 : Memref sig .tc .vmem S4096x128 .f32) (arg11 : Memref sig .tc .vmem S4096x128 .f32) (arg12 : Memref sig .tc .vmem S4096x128 .f32) (arg13 : Memref sig .tc .vmem S4096x128 .f32) (arg14 : Memref sig .tc .vmem S4096x128 .f32) (arg15 : Memref sig .tc .vmem S2x16x256x256 .f32) (arg16 : Memref sig .tc .vmem S2x16x256x256 .f32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)
    (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

/-- One trip at a symbolic `k`: the pieces it writes into each buffer, functions of the contents it finds. -/
@[irreducible] def trip (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) :
    Σ' (L10 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S4096x128 .f32)) (L11 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S4096x128 .f32)) (L12 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S4096x128 .f32)) (L13 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S4096x128 .f32)) (L14 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S4096x128 .f32)) (L15 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S2x16x256x256 .f32)), { L16 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S2x16x256x256 .f32) //
      ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      Trip (F := F) c arg1 arg2 arg3 arg4 arg5 arg6 arg7 arg8 arg9 arg10 arg11 arg12 arg13 arg14 arg15 arg16 X1 X2 X3 X4 X5 X6 X7 X8 X9 f10 f11 f12 f13 f14 f15 f16
      ⊢ wp frame (wpE (defs₀ (F := F)) Variants.none (c : Thread nD τ) none) E (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k ())
          (fun _ => Trip (F := F) c arg1 arg2 arg3 arg4 arg5 arg6 arg7 arg8 arg9 arg10 arg11 arg12 arg13 arg14 arg15 arg16 X1 X2 X3 X4 X5 X6 X7 X8 X9 (arg10.view.writes (Elt F) f10 (L10 f10 f11 f12 f13 f14 f15 f16)) (arg11.view.writes (Elt F) f11 (L11 f10 f11 f12 f13 f14 f15 f16)) (arg12.view.writes (Elt F) f12 (L12 f10 f11 f12 f13 f14 f15 f16)) (arg13.view.writes (Elt F) f13 (L13 f10 f11 f12 f13 f14 f15 f16)) (arg14.view.writes (Elt F) f14 (L14 f10 f11 f12 f13 f14 f15 f16)) (arg15.view.writes (Elt F) f15 (L15 f10 f11 f12 f13 f14 f15 f16)) (arg16.view.writes (Elt F) f16 (L16 f10 f11 f12 f13 f14 f15 f16))) } := by
  refine ⟨?_, ?_, ?_, ?_, ?_, ?_, ?_, fun E f10 f11 f12 f13 f14 f15 f16 => ?run⟩
  case run =>
    unfold Gen.k0_t1_body
    simp only [Gen.k0_part7_eq_skeleton, Gen.k0_part7_skel, bind_assoc, Prog.bind_assoc, pure_bind]
    iintro ⟨H1, H2, H3, H4, H5, H6, H7, H8, H9, H10, H11, H12, H13, H14, H15, H16⟩
    sl_exec
    sl_step
    sl_close
/-- The pieces of one trip, buffer by buffer. -/
abbrev tripL (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : List (View.Piece (Elt F) S4096x128 .f32) × List (View.Piece (Elt F) S4096x128 .f32) × List (View.Piece (Elt F) S4096x128 .f32) × List (View.Piece (Elt F) S4096x128 .f32) × List (View.Piece (Elt F) S4096x128 .f32) × List (View.Piece (Elt F) S2x16x256x256 .f32) × List (View.Piece (Elt F) S2x16x256x256 .f32) :=
  ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).1 f10 f11 f12 f13 f14 f15 f16, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.1 f10 f11 f12 f13 f14 f15 f16, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.1 f10 f11 f12 f13 f14 f15 f16, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.1 f10 f11 f12 f13 f14 f15 f16, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.2.1 f10 f11 f12 f13 f14 f15 f16, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.2.2.1 f10 f11 f12 f13 f14 f15 f16, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.2.2.2.1 f10 f11 f12 f13 f14 f15 f16)

/-- The pieces of the trips before, one more trip's in front. -/
@[irreducible] def pbStep (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (k : ℕ) (prev : List (View.Piece (Elt F) S4096x128 .f32) × List (View.Piece (Elt F) S4096x128 .f32) × List (View.Piece (Elt F) S4096x128 .f32) × List (View.Piece (Elt F) S4096x128 .f32) × List (View.Piece (Elt F) S4096x128 .f32) × List (View.Piece (Elt F) S2x16x256x256 .f32) × List (View.Piece (Elt F) S2x16x256x256 .f32)) : List (View.Piece (Elt F) S4096x128 .f32) × List (View.Piece (Elt F) S4096x128 .f32) × List (View.Piece (Elt F) S4096x128 .f32) × List (View.Piece (Elt F) S4096x128 .f32) × List (View.Piece (Elt F) S4096x128 .f32) × List (View.Piece (Elt F) S2x16x256x256 .f32) × List (View.Piece (Elt F) S2x16x256x256 .f32) :=
  if h : k < k0_t1_loop.trips then
    let new := tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 ⟨k, h⟩ (arg10.view.writes (Elt F) G10 prev.1) (arg11.view.writes (Elt F) G11 prev.2.1) (arg12.view.writes (Elt F) G12 prev.2.2.1) (arg13.view.writes (Elt F) G13 prev.2.2.2.1) (arg14.view.writes (Elt F) G14 prev.2.2.2.2.1) (arg15.view.writes (Elt F) G15 prev.2.2.2.2.2.1) (arg16.view.writes (Elt F) G16 prev.2.2.2.2.2.2)
    (new.1 ++ prev.1, new.2.1 ++ prev.2.1, new.2.2.1 ++ prev.2.2.1, new.2.2.2.1 ++ prev.2.2.2.1, new.2.2.2.2.1 ++ prev.2.2.2.2.1, new.2.2.2.2.2.1 ++ prev.2.2.2.2.2.1, new.2.2.2.2.2.2 ++ prev.2.2.2.2.2.2)
  else prev

/-- The pieces of the trips before `k`, last first. -/
def pb (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) : ℕ → List (View.Piece (Elt F) S4096x128 .f32) × List (View.Piece (Elt F) S4096x128 .f32) × List (View.Piece (Elt F) S4096x128 .f32) × List (View.Piece (Elt F) S4096x128 .f32) × List (View.Piece (Elt F) S4096x128 .f32) × List (View.Piece (Elt F) S2x16x256x256 .f32) × List (View.Piece (Elt F) S2x16x256x256 .f32)
  | 0 => ([], [], [], [], [], [], [])
  | k + 1 => pbStep (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k (pb c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k)

theorem pb_succ (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (k : Fin k0_t1_loop.trips) :
    pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 (k.val + 1)
      = (let prev := pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val
         let new := tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k (arg10.view.writes (Elt F) G10 prev.1) (arg11.view.writes (Elt F) G11 prev.2.1) (arg12.view.writes (Elt F) G12 prev.2.2.1) (arg13.view.writes (Elt F) G13 prev.2.2.2.1) (arg14.view.writes (Elt F) G14 prev.2.2.2.2.1) (arg15.view.writes (Elt F) G15 prev.2.2.2.2.2.1) (arg16.view.writes (Elt F) G16 prev.2.2.2.2.2.2)
         (new.1 ++ prev.1, new.2.1 ++ prev.2.1, new.2.2.1 ++ prev.2.2.1, new.2.2.2.1 ++ prev.2.2.2.1, new.2.2.2.2.1 ++ prev.2.2.2.2.1, new.2.2.2.2.2.1 ++ prev.2.2.2.2.2.1, new.2.2.2.2.2.2 ++ prev.2.2.2.2.2.2)) := by
  rw [pb.eq_2]; unfold pbStep; exact dif_pos k.isLt

/-- Before trip `k`: what is read at its contents, what is written holding the pieces of the trips before. -/
abbrev inv (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (k : ℕ) (_ : Unit) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg10.view.loc (c : Thread nD τ) ↦[arg10.view.set]{fullShare} f) ∗ ⌜f = arg10.view.writes (Elt F) G10 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).1⌝) ∗ (∃ f, (arg11.view.loc (c : Thread nD τ) ↦[arg11.view.set]{fullShare} f) ∗ ⌜f = arg11.view.writes (Elt F) G11 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.1⌝) ∗ (∃ f, (arg12.view.loc (c : Thread nD τ) ↦[arg12.view.set]{fullShare} f) ∗ ⌜f = arg12.view.writes (Elt F) G12 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.1⌝) ∗ (∃ f, (arg13.view.loc (c : Thread nD τ) ↦[arg13.view.set]{fullShare} f) ∗ ⌜f = arg13.view.writes (Elt F) G13 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.2.1⌝) ∗ (∃ f, (arg14.view.loc (c : Thread nD τ) ↦[arg14.view.set]{fullShare} f) ∗ ⌜f = arg14.view.writes (Elt F) G14 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.2.2.1⌝) ∗ (∃ f, (arg15.view.loc (c : Thread nD τ) ↦[arg15.view.set]{fullShare} f) ∗ ⌜f = arg15.view.writes (Elt F) G15 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.2.2.2.1⌝) ∗ (∃ f, (arg16.view.loc (c : Thread nD τ) ↦[arg16.view.set]{fullShare} f) ∗ ⌜f = arg16.view.writes (Elt F) G16 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.2.2.2.2⌝))

set_option warn.classDefReducibility false in
/-- The outer loop by its invariant. -/
@[sl_loop] def loopInv (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (E : Set ℕ) :
    Gen.LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 where
  inv := inv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16
  step k acc := by
    iintro ⟨H1, H2, H3, H4, H5, H6, H7, H8, H9, ⟨%f10, H10, %h10⟩, ⟨%f11, H11, %h11⟩, ⟨%f12, H12, %h12⟩, ⟨%f13, H13, %h13⟩, ⟨%f14, H14, %h14⟩, ⟨%f15, H15, %h15⟩, ⟨%f16, H16, %h16⟩⟩
    iapply (wp_wand_r Idealize.ShloMosaic.frame (wpE (defs₀ (F := F)) Variants.none (c : Thread nD τ) none) E)
    isplitl [H1 H2 H3 H4 H5 H6 H7 H8 H9 H10 H11 H12 H13 H14 H15 H16]
    · iapply ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.2.2.2.2 E f10 f11 f12 f13 f14 f15 f16)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iintro %yld ⟨H1, H2, H3, H4, H5, H6, H7, H8, H9, H10, H11, H12, H13, H14, H15, H16⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      rw [pb_succ]
      isplitl [H10]
      · iexists _; isplitl [H10]; · iexact H10
        ipureintro; rw [h10, h11, h12, h13, h14, h15, h16, ← View.writes_append]
      isplitl [H11]
      · iexists _; isplitl [H11]; · iexact H11
        ipureintro; rw [h10, h11, h12, h13, h14, h15, h16, ← View.writes_append]
      isplitl [H12]
      · iexists _; isplitl [H12]; · iexact H12
        ipureintro; rw [h10, h11, h12, h13, h14, h15, h16, ← View.writes_append]
      isplitl [H13]
      · iexists _; isplitl [H13]; · iexact H13
        ipureintro; rw [h10, h11, h12, h13, h14, h15, h16, ← View.writes_append]
      isplitl [H14]
      · iexists _; isplitl [H14]; · iexact H14
        ipureintro; rw [h10, h11, h12, h13, h14, h15, h16, ← View.writes_append]
      isplitl [H15]
      · iexists _; isplitl [H15]; · iexact H15
        ipureintro; rw [h10, h11, h12, h13, h14, h15, h16, ← View.writes_append]
      iexists _; isplitl [H16]; · iexact H16
      ipureintro; rw [h10, h11, h12, h13, h14, h15, h16, ← View.writes_append]

end Cert.KernelIdeal.Outer
-- ==== Proof.Spec.lean ====
/- What the kernel leaves, block by block: the attention weights and their products of a pair of heads at query block `a` and key block `b`, the row
   corrections, and the five results' blocks as recursions over the blocks of the other side. Generic in the float instance. -/
module

public import proofs.«01_k».proof.Proof.Gen.KernelIdeal.Skeleton
public import Idealize.ShloMosaic.Lib.VecWindow
public import Idealize.ShloMosaic.Lib.ValueIdxCore

@[expose] public section

set_option maxRecDepth 16384

noncomputable section

namespace Cert.KernelIdeal.Spec

open Idealize.ShloMosaic Idealize.ShloMosaic.ValueIdx Cert.KernelIdeal.Gen

/-! ## Blocks of arrays -/

section Blocks

variable {α : Type}

/-- Rows `256 n … 256 n + 255` of an array of 4096 rows. -/
def rows (x : S4096x128.Idx → α) (n : ℕ) : S256x128.Idx → α := fun y => x (ix2 (Fin.ofNat 4096 (256 * n + (y 0).val)) (y 1))
/-- Columns `256 n … 256 n + 255` of an array of 128 rows. -/
def cols (x : S128x4096.Idx → α) (n : ℕ) : S128x256.Idx → α := fun y => x (ix2 (y 0) (Fin.ofNat 4096 (256 * n + (y 1).val)))
/-- Columns `256 n … 256 n + 255` of an array of 16 rows. -/
def cols16 (x : S16x4096.Idx → α) (n : ℕ) : S16x256.Idx → α := fun y => x (ix2 (y 0) (Fin.ofNat 4096 (256 * n + (y 1).val)))
/-- Tile `(h, n)` of a table of 2 × 16 tiles. -/
def tile (x : S2x16x256x256.Idx → α) (h n : ℕ) : S1x1x256x256.Idx → α := fun y => x (ix4 (Fin.ofNat 2 h) (Fin.ofNat 16 n) (y 2) (y 3))

theorem window_rows (x : S4096x128.Idx → α) {n : ℕ} (hn : n < 16) (inb) :
    VecWindow.window x ![256 * n, 0] ![256, 128] inb = rows x n := by
  funext y
  refine congrArg x (funext fun d => ?_)
  have h0 : (y 0).val < 256 := (y 0).isLt
  fin_cases d
  · refine Fin.ext ?_
    show 256 * n + 1 * (y 0).val = (256 * n + (y 0).val) % 4096
    omega
  · refine Fin.ext ?_
    show 0 + 1 * (y 1).val = (y 1).val
    omega

theorem window_cols (x : S128x4096.Idx → α) {n : ℕ} (hn : n < 16) (inb) :
    VecWindow.window x ![0, 256 * n] ![128, 256] inb = cols x n := by
  funext y
  refine congrArg x (funext fun d => ?_)
  have h0 : (y 1).val < 256 := (y 1).isLt
  fin_cases d
  · refine Fin.ext ?_
    show 0 + 1 * (y 0).val = (y 0).val
    omega
  · refine Fin.ext ?_
    show 256 * n + 1 * (y 1).val = (256 * n + (y 1).val) % 4096
    omega

theorem window_cols16 (x : S16x4096.Idx → α) {n : ℕ} (hn : n < 16) (inb) :
    VecWindow.window x ![0, 256 * n] ![16, 256] inb = cols16 x n := by
  funext y
  refine congrArg x (funext fun d => ?_)
  have h0 : (y 1).val < 256 := (y 1).isLt
  fin_cases d
  · refine Fin.ext ?_
    show 0 + 1 * (y 0).val = (y 0).val
    omega
  · refine Fin.ext ?_
    show 256 * n + 1 * (y 1).val = (256 * n + (y 1).val) % 4096
    omega

theorem window_tile (x : S2x16x256x256.Idx → α) {h n : ℕ} (hh : h < 2) (hn : n < 16) (inb) :
    VecWindow.window x ![h, n, 0, 0] ![1, 1, 256, 256] inb = tile x h n := by
  funext y
  refine congrArg x (funext fun d => ?_)
  have h0 : (y 0).val < 1 := (y 0).isLt
  have h1 : (y 1).val < 1 := (y 1).isLt
  fin_cases d
  · refine Fin.ext ?_
    show h + 1 * (y 0).val = h % 2
    omega
  · refine Fin.ext ?_
    show n + 1 * (y 1).val = n % 16
    omega
  · refine Fin.ext ?_
    show 0 + 1 * (y 2).val = (y 2).val
    omega
  · refine Fin.ext ?_
    show 0 + 1 * (y 3).val = (y 3).val
    omega

end Blocks

section Reads

variable {Val : EltTy → Type} {e : EltTy} {sig : RefSig} {κ : Kind} {sp : Space}

theorem readAt_rows (v : View sig κ sp S4096x128 e) (f : v.ty.Contents Val) {off : Fin 2 → ℕ} {n : ℕ} (inb) (h : off = ![256 * n, 0]) (hn : n < 16) :
    v.readAt Val (Rect.unit (s := S4096x128) off ![256, 128] inb).toLoadRect f = rows (v.read Val f) n := by
  subst h; exact window_rows _ hn inb

theorem readAt_cols (v : View sig κ sp S128x4096 e) (f : v.ty.Contents Val) {off : Fin 2 → ℕ} {n : ℕ} (inb) (h : off = ![0, 256 * n]) (hn : n < 16) :
    v.readAt Val (Rect.unit (s := S128x4096) off ![128, 256] inb).toLoadRect f = cols (v.read Val f) n := by
  subst h; exact window_cols _ hn inb

theorem readAt_cols16 (v : View sig κ sp S16x4096 e) (f : v.ty.Contents Val) {off : Fin 2 → ℕ} {n : ℕ} (inb) (h : off = ![0, 256 * n]) (hn : n < 16) :
    v.readAt Val (Rect.unit (s := S16x4096) off ![16, 256] inb).toLoadRect f = cols16 (v.read Val f) n := by
  subst h; exact window_cols16 _ hn inb

theorem readAt_tile (v : View sig κ sp S2x16x256x256 e) (f : v.ty.Contents Val) {off : Fin 4 → ℕ} {h n : ℕ} (inb) (ho : off = ![h, n, 0, 0])
    (hh : h < 2) (hn : n < 16) :
    v.readAt Val (Rect.unit (s := S2x16x256x256) off ![1, 1, 256, 256] inb).toLoadRect f = tile (v.read Val f) h n := by
  subst ho; exact window_tile _ hh hn inb

/-- A block written, then read: the block itself, or what was there. -/
theorem rows_writes (v : View sig κ sp S4096x128 e) (f : v.ty.Contents Val) {off : Fin 2 → ℕ} {n : ℕ} (inb) (w) (L) (h : off = ![256 * n, 0]) (hn : n < 16)
    {i : ℕ} (hi : i < 16) :
    rows (v.read Val (v.writes Val f (⟨Rect.unit (s := S4096x128) off ![256, 128] inb, w⟩ :: L))) i
      = if i = n then w else rows (v.read Val (v.writes Val f L)) i := by
  subst h
  rw [View.read_writes_cons_put v f inb w L rfl]
  by_cases hin : i = n
  · subst hin
    rw [if_pos rfl, ← window_rows _ hn inb]
    exact VecWindow.window_put_same _ _ _ inb w
  · rw [if_neg hin]
    have inb' : ∀ a, (![256 * i, 0] : Fin 2 → ℕ) a + (![256, 128] : Fin 2 → ℕ) a ≤ S4096x128.size a := by
      intro a; fin_cases a
      · show 256 * i + 256 ≤ 4096; omega
      · show 0 + 128 ≤ 128; omega
    rw [← window_rows _ hi inb', ← window_rows _ hi inb']
    refine VecWindow.window_put_of_disjoint (s := S4096x128) _ ![256 * n, 0] ![256, 128] ![256 * i, 0] ![256, 128] inb' w 0 ?_
    show 256 * i + 256 ≤ 256 * n ∨ 256 * n + 256 ≤ 256 * i
    omega

/-- A tile written, then read: the tile itself, or what was there. -/
theorem tile_writes (v : View sig κ sp S2x16x256x256 e) (f : v.ty.Contents Val) {off : Fin 4 → ℕ} {h n : ℕ} (inb) (w) (L) (ho : off = ![h, n, 0, 0])
    (hh : h < 2) (hn : n < 16) {g i : ℕ} (hg : g < 2) (hi : i < 16) :
    tile (v.read Val (v.writes Val f (⟨Rect.unit (s := S2x16x256x256) off ![1, 1, 256, 256] inb, w⟩ :: L))) g i
      = if g = h ∧ i = n then w else tile (v.read Val (v.writes Val f L)) g i := by
  subst ho
  rw [View.read_writes_cons_put v f inb w L rfl]
  have inb' : ∀ a, (![g, i, 0, 0] : Fin 4 → ℕ) a + (![1, 1, 256, 256] : Fin 4 → ℕ) a ≤ S2x16x256x256.size a := by
    intro a; fin_cases a
    · show g + 1 ≤ 2; omega
    · show i + 1 ≤ 16; omega
    · show 0 + 256 ≤ 256; omega
    · show 0 + 256 ≤ 256; omega
  by_cases hin : g = h ∧ i = n
  · obtain ⟨rfl, rfl⟩ := hin
    rw [if_pos ⟨rfl, rfl⟩, ← window_tile _ hg hi inb]
    exact VecWindow.window_put_same _ _ _ inb w
  · rw [if_neg hin, ← window_tile _ hg hi inb', ← window_tile _ hg hi inb']
    by_cases hgh : g = h
    · have hne : i ≠ n := fun e => hin ⟨hgh, e⟩
      refine VecWindow.window_put_of_disjoint (s := S2x16x256x256) _ ![h, n, 0, 0] ![1, 1, 256, 256] ![g, i, 0, 0] ![1, 1, 256, 256] inb' w 1 ?_
      show i + 1 ≤ n ∨ n + 1 ≤ i
      omega
    · refine VecWindow.window_put_of_disjoint (s := S2x16x256x256) _ ![h, n, 0, 0] ![1, 1, 256, 256] ![g, i, 0, 0] ![1, 1, 256, 256] inb' w 0 ?_
      show g + 1 ≤ h ∨ h + 1 ≤ g
      omega

end Reads

/-! ## The computation over blocks -/

variable {F : FTy → Type} [FloatOps F] [Named F]

/-- The blocks a grid point reads: of the queries, the keys, their added lanes, the transposed keys and lanes, the values, the row normalisers and the
    cotangent; and the pair's number. -/
structure In (F : FTy → Type) where
  q : ℕ → Vec F S256x128 .bf16
  k : ℕ → Vec F S256x128 .bf16
  aq : ℕ → Vec F S256x128 .bf16
  ak : ℕ → Vec F S256x128 .bf16
  kt : ℕ → Vec F S128x256 .bf16
  akt : ℕ → Vec F S128x256 .bf16
  v : ℕ → Vec F S256x128 .bf16
  lse : ℕ → Vec F S16x256 .f32
  dO : ℕ → Vec F S256x128 .f32
  pid : BitVec 32

variable (I : In F)

/-- The first head's queries of block `a`, with its added lanes. -/
def qa (a : ℕ) : Vec F S256x128 .bf16 := k0_pay33 k0_pay5 (I.q a) (I.aq a)
/-- The second head's. -/
def qb (a : ℕ) : FVec F S256x128 .bf16 := k0_pay34 k0_pay5 (I.q a) (I.aq a)
/-- The first head's cotangent of block `a`. -/
def doa (a : ℕ) : FVec F S256x128 .bf16 := k0_pay35 k0_pay5 (I.dO a)
/-- The second head's. -/
def dob (a : ℕ) : FVec F S256x128 .bf16 := k0_pay36 k0_pay5 (I.dO a)
/-- The first head's normalisers of block `a`. -/
def l0 (a : ℕ) : FVec F S1x256 .f32 := k0_pay38 I.pid (I.lse a)
/-- The second head's. -/
def l1 (a : ℕ) : FVec F S1x256 .f32 := k0_pay39 I.pid (I.lse a)
/-- The first head's weights at query block `a` and key block `b`: masked on the diagonal. -/
def p0 (a b : ℕ) : FVec F S256x256 .f32 :=
  if b = a then k0_pay50 k0_pay5 k0_pay7 (qa I a) (l0 I a) (I.k b) (I.ak b) else k0_pay9 k0_pay5 (qa I a) (l0 I a) (I.k b) (I.ak b)
/-- The second head's. -/
def p1 (a b : ℕ) : FVec F S256x256 .f32 :=
  if b = a then k0_pay51 k0_pay5 k0_pay7 (qb I a) (l1 I a) (I.k b) (I.ak b) else k0_pay10 k0_pay5 (qb I a) (l1 I a) (I.k b) (I.ak b)
/-- The first head's weight cotangents. -/
def dp0 (a b : ℕ) : FVec F S256x256 .f32 := k0_pay11 (doa I a) (I.v b)
/-- The second head's. -/
def dp1 (a b : ℕ) : FVec F S256x256 .f32 := k0_pay12 (dob I a) (I.v b)
/-- The first head's row corrections of query block `a` from the key blocks before `n`. -/
def d0 (a : ℕ) : ℕ → FVec F S1x256 .f32
  | 0 => k0_pay40
  | b + 1 => k0_pay43 (d0 a b) (p0 I a b) (dp0 I a b)
/-- The second head's. -/
def d1 (a : ℕ) : ℕ → FVec F S1x256 .f32
  | 0 => k0_pay40
  | b + 1 => k0_pay44 (d1 a b) (p1 I a b) (dp1 I a b)
/-- The first head's score cotangents. -/
def ds0 (a b : ℕ) : FVec F S256x256 .f32 := k0_pay24 (d0 I a (a + 1)) (k0_pay41 (p0 I a b)) (k0_pay41 (dp0 I a b))
/-- The second head's. -/
def ds1 (a b : ℕ) : FVec F S256x256 .f32 := k0_pay25 (d1 I a (a + 1)) (k0_pay41 (p1 I a b)) (k0_pay41 (dp1 I a b))
/-- The first head's query cotangent of block `a`, transposed, from the key blocks before `n`. -/
def dq0 (a : ℕ) : ℕ → FVec F S128x256 .f32
  | 0 => k0_pay61
  | b + 1 => k0_pay65 k0_pay6 (dq0 a b) (ds0 I a b) (I.kt b) (I.akt b)
/-- The second head's. -/
def dq1 (a : ℕ) : ℕ → FVec F S128x256 .f32
  | 0 => k0_pay61
  | b + 1 => k0_pay66 k0_pay6 (dq1 a b) (ds1 I a b) (I.kt b) (I.akt b)
/-- The query cotangent's block `a`. -/
def dq (a : ℕ) : FVec F S256x128 .f32 := k0_pay72 k0_pay6 (dq0 I a (a + 1)) (dq1 I a (a + 1))
/-- One query block's addition to the value cotangent's block `b`. -/
def dvAdd (a b : ℕ) (x : Vec F S256x128 .f32) : FVec F S256x128 .f32 := k0_pay42 (doa I a) (dob I a) (p0 I a b) (p1 I a b) x
/-- One query block's addition to the key cotangent's block `b`. -/
def dkAdd (a b : ℕ) (x : Vec F S256x128 .f32) : FVec F S256x128 .f32 :=
  k0_pay26 k0_pay5 (qa I a) (qb I a) (d0 I a (a + 1)) (d1 I a (a + 1)) (k0_pay41 (p0 I a b)) (k0_pay41 (p1 I a b)) (k0_pay41 (dp0 I a b)) (k0_pay41 (dp1 I a b)) x
/-- One query block's addition to the first head's folded column sums of block `b`. -/
def dc0Add (a b : ℕ) (x : Vec F S256x128 .f32) : FVec F S256x128 .f32 := k0_pay27 (d0 I a (a + 1)) (k0_pay41 (p0 I a b)) (k0_pay41 (dp0 I a b)) x
/-- The second head's. -/
def dc1Add (a b : ℕ) (x : Vec F S256x128 .f32) : FVec F S256x128 .f32 := k0_pay62 (ds1 I a b) x
/-- A block of a result from the query blocks before `n`: each query block at or after `b` adds to it. -/
def acc (f : ℕ → ℕ → Vec F S256x128 .f32 → FVec F S256x128 .f32) (z : Vec F S256x128 .f32) (b : ℕ) : ℕ → FVec F S256x128 .f32
  | 0 => z
  | a + 1 => if b ≤ a then f a b (acc f z b a) else acc f z b a
/-- The value cotangent's block `b` from the query blocks before `n`. -/
def dv (b n : ℕ) : FVec F S256x128 .f32 := acc (dvAdd I) (rows k0_pay2 b) b n
/-- The key cotangent's. -/
def dk (b n : ℕ) : FVec F S256x128 .f32 := acc (dkAdd I) (rows k0_pay1 b) b n
/-- The first head's folded column sums'. -/
def dc0 (b n : ℕ) : FVec F S256x128 .f32 := acc (dc0Add I) (rows k0_pay3 b) b n
/-- The second head's. -/
def dc1 (b n : ℕ) : FVec F S256x128 .f32 := acc (dc1Add I) (rows k0_pay4 b) b n

/-! ## The closed forms of the program's offsets -/

theorem trips1 : k0_t1_loop.trips = 16 := by decide +kernel
theorem trips2 : ∀ k : Fin k0_t1_loop.trips, (k0_t2_loop k).trips = k.val := by decide +kernel
theorem trips4 : ∀ k : Fin k0_t1_loop.trips, (k0_t4_loop k).trips = k.val + 1 := by decide +kernel
theorem lt1 (k : Fin k0_t1_loop.trips) : k.val < 16 := trips1 ▸ k.isLt
theorem lt2 (k : Fin k0_t1_loop.trips) (j : Fin (k0_t2_loop k).trips) : j.val < k.val := trips2 k ▸ j.isLt
theorem lt4 (k : Fin k0_t1_loop.trips) (j : Fin (k0_t4_loop k).trips) : j.val < k.val + 1 := trips4 k ▸ j.isLt

theorem off1_eq : ∀ k : Fin k0_t1_loop.trips, k0_off1 k = ![256 * k.val, 0] := by decide +kernel
theorem off2_eq : ∀ k : Fin k0_t1_loop.trips, k0_off2 k = ![0, 256 * k.val] := by decide +kernel
theorem off3_eq : ∀ (k : Fin k0_t1_loop.trips) (j : Fin (k0_t2_loop k).trips), k0_off3 k j = ![256 * j.val, 0] := by decide +kernel
theorem off4_eq : ∀ (k : Fin k0_t1_loop.trips) (j : Fin (k0_t2_loop k).trips), k0_off4 k j = ![0, j.val, 0, 0] := by decide +kernel
theorem off5_eq : ∀ (k : Fin k0_t1_loop.trips) (j : Fin (k0_t2_loop k).trips), k0_off5 k j = ![1, j.val, 0, 0] := by decide +kernel
theorem off9_eq : ∀ k : Fin k0_t1_loop.trips, k0_off9 k = ![0, k.val, 0, 0] := by decide +kernel
theorem off10_eq : ∀ k : Fin k0_t1_loop.trips, k0_off10 k = ![1, k.val, 0, 0] := by decide +kernel
theorem off11_eq : ∀ (k : Fin k0_t1_loop.trips) (j : Fin (k0_t4_loop k).trips), k0_off11 k j = ![0, j.val, 0, 0] := by decide +kernel
theorem off12_eq : ∀ (k : Fin k0_t1_loop.trips) (j : Fin (k0_t4_loop k).trips), k0_off12 k j = ![1, j.val, 0, 0] := by decide +kernel
theorem off13_eq : ∀ (k : Fin k0_t1_loop.trips) (j : Fin (k0_t4_loop k).trips), k0_off13 k j = ![256 * j.val, 0] := by decide +kernel
theorem off14_eq : ∀ (k : Fin k0_t1_loop.trips) (j : Fin (k0_t4_loop k).trips), k0_off14 k j = ![0, 256 * j.val] := by decide +kernel

end Cert.KernelIdeal.Spec
-- ==== Proof.SpecLoop.lean ====
/- The loops leave what the block recursions say: each inner loop's carried values and written blocks, one trip of the outer loop, and all of them. -/
module

public import proofs.«01_k».proof.Proof.Loop
public import proofs.«01_k».proof.Proof.Spec

@[expose] public section

set_option maxRecDepth 16384

noncomputable section

namespace Cert.KernelIdeal.Spec

open Idealize.ShloMosaic Idealize.ShloMosaic.ValueIdx Idealize.ShloMosaic.TcCoe Cert.KernelIdeal.Gen
open Idealize.SL.Sem

variable {F : FTy → Type} [FloatOps F] [Named F]

section Inbounds
theorem inb1 : ∀ (k : Fin k0_t1_loop.trips) a, k0_off1 k a + (![256, 128] : Fin 2 → ℕ) a ≤ S4096x128.size a := by decide +kernel
theorem inb3 : ∀ (k : Fin k0_t1_loop.trips) (j : Fin (k0_t2_loop k).trips) a, k0_off3 k j a + (![256, 128] : Fin 2 → ℕ) a ≤ S4096x128.size a := by decide +kernel
theorem inb4 : ∀ (k : Fin k0_t1_loop.trips) (j : Fin (k0_t2_loop k).trips) a, k0_off4 k j a + (![1, 1, 256, 256] : Fin 4 → ℕ) a ≤ S2x16x256x256.size a := by decide +kernel
theorem inb5 : ∀ (k : Fin k0_t1_loop.trips) (j : Fin (k0_t2_loop k).trips) a, k0_off5 k j a + (![1, 1, 256, 256] : Fin 4 → ℕ) a ≤ S2x16x256x256.size a := by decide +kernel
theorem inb13 : ∀ (k : Fin k0_t1_loop.trips) (j : Fin (k0_t4_loop k).trips) a, k0_off13 k j a + (![256, 128] : Fin 2 → ℕ) a ≤ S4096x128.size a := by decide +kernel
theorem inb9 : ∀ (k : Fin k0_t1_loop.trips) a, k0_off9 k a + (![1, 1, 256, 256] : Fin 4 → ℕ) a ≤ S2x16x256x256.size a := by decide +kernel
theorem inb10 : ∀ (k : Fin k0_t1_loop.trips) a, k0_off10 k a + (![1, 1, 256, 256] : Fin 4 → ℕ) a ≤ S2x16x256x256.size a := by decide +kernel
theorem inb2 : ∀ (k : Fin k0_t1_loop.trips) a, k0_off2 k a + (![16, 256] : Fin 2 → ℕ) a ≤ S16x4096.size a := by decide +kernel
theorem inb11 : ∀ (k : Fin k0_t1_loop.trips) (j : Fin (k0_t4_loop k).trips) a, k0_off11 k j a + (![1, 1, 256, 256] : Fin 4 → ℕ) a ≤ S2x16x256x256.size a := by decide +kernel
theorem inb12 : ∀ (k : Fin k0_t1_loop.trips) (j : Fin (k0_t4_loop k).trips) a, k0_off12 k j a + (![1, 1, 256, 256] : Fin 4 → ℕ) a ≤ S2x16x256x256.size a := by decide +kernel
theorem inb14 : ∀ (k : Fin k0_t1_loop.trips) (j : Fin (k0_t4_loop k).trips) a, k0_off14 k j a + (![128, 256] : Fin 2 → ℕ) a ≤ S128x4096.size a := by decide +kernel
end Inbounds

section Loops

variable (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)

/-- The blocks a grid point reads, out of its windows' contents. -/
def inp : In F where
  q := rows (arg1.view.read (Elt F) X1)
  k := rows (arg2.view.read (Elt F) X2)
  aq := rows (arg3.view.read (Elt F) X3)
  ak := rows (arg4.view.read (Elt F) X4)
  kt := cols (arg5.view.read (Elt F) X5)
  akt := cols (arg6.view.read (Elt F) X6)
  v := rows (arg7.view.read (Elt F) X7)
  lse := cols16 (arg8.view.read (Elt F) X8)
  dO := rows (arg9.view.read (Elt F) X9)
  pid := arg0

variable (k : Fin k0_t1_loop.trips)

section First
variable (w17 w25 w59 : BitVec 32) (w54 : FVec F S1x256 .f32)

theorem tripR2 (J : In F) (hJ : J = (inp (F := F) arg1 arg2 arg3 arg4 arg5 arg6 arg7 arg8 arg9 arg0 X1 X2 X3 X4 X5 X6 X7 X8 X9)) (j : Fin (k0_t2_loop k).trips) (r : FVec F S1x256 .f32 × FVec F S1x256 .f32) (f12 : BufTy.Contents (Elt F) arg12.view.ty) (f15 : BufTy.Contents (Elt F) arg15.view.ty) (f16 : BufTy.Contents (Elt F) arg16.view.ty) :
    Gen.tripR_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k w17 (qa J k) (qb J k) (doa J k) (dob J k) (l0 J k) (l1 J k) w54 w25 w59 X2 X4 X7 j r f12 f15 f16
      = (k0_pay43 r.1 (p0 J k j) (dp0 J k j), k0_pay44 r.2 (p1 J k j) (dp1 J k j)) := by
  have hne : j.val ≠ k.val := (lt2 k j).ne
  have hj : j.val < 16 := (lt2 k j).trans (lt1 k)
  have e2 : rows (arg2.view.read (Elt F) X2) j = J.k j := by rw [hJ]; rfl
  have e4 : rows (arg4.view.read (Elt F) X4) j = J.ak j := by rw [hJ]; rfl
  have e7 : rows (arg7.view.read (Elt F) X7) j = J.v j := by rw [hJ]; rfl
  unfold Gen.tripR_k0_t2 Gen.trip_k0_t2
  simp only [p0, p1, if_neg hne, dp0, dp1, ← e2, ← e4, ← e7]
  rw [← readAt_rows arg2.view X2 (inb3 k j) (off3_eq k j) hj, ← readAt_rows arg4.view X4 (inb3 k j) (off3_eq k j) hj,
    ← readAt_rows arg7.view X7 (inb3 k j) (off3_eq k j) hj]
  rfl

theorem tripL2 (J : In F) (hJ : J = (inp (F := F) arg1 arg2 arg3 arg4 arg5 arg6 arg7 arg8 arg9 arg0 X1 X2 X3 X4 X5 X6 X7 X8 X9)) (j : Fin (k0_t2_loop k).trips) (r : FVec F S1x256 .f32 × FVec F S1x256 .f32) (f12 : BufTy.Contents (Elt F) arg12.view.ty) (f15 : BufTy.Contents (Elt F) arg15.view.ty) (f16 : BufTy.Contents (Elt F) arg16.view.ty) :
    Gen.tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k w17 (qa J k) (qb J k) (doa J k) (dob J k) (l0 J k) (l1 J k) w54 w25 w59 X2 X4 X7 j r f12 f15 f16
      = ([⟨Rect.unit (s := S4096x128) (k0_off3 k j) ![256, 128] (inb3 k j), dvAdd J k j (rows (arg12.view.read (Elt F) f12) j)⟩],
        [⟨Rect.unit (s := S2x16x256x256) (k0_off5 k j) ![1, 1, 256, 256] (inb5 k j), k0_pay41 (p1 J k j)⟩, ⟨Rect.unit (s := S2x16x256x256) (k0_off4 k j) ![1, 1, 256, 256] (inb4 k j), k0_pay41 (p0 J k j)⟩],
        [⟨Rect.unit (s := S2x16x256x256) (k0_off5 k j) ![1, 1, 256, 256] (inb5 k j), k0_pay41 (dp1 J k j)⟩, ⟨Rect.unit (s := S2x16x256x256) (k0_off4 k j) ![1, 1, 256, 256] (inb4 k j), k0_pay41 (dp0 J k j)⟩]) := by
  have hne : j.val ≠ k.val := (lt2 k j).ne
  have hj : j.val < 16 := (lt2 k j).trans (lt1 k)
  have e2 : rows (arg2.view.read (Elt F) X2) j = J.k j := by rw [hJ]; rfl
  have e4 : rows (arg4.view.read (Elt F) X4) j = J.ak j := by rw [hJ]; rfl
  have e7 : rows (arg7.view.read (Elt F) X7) j = J.v j := by rw [hJ]; rfl
  unfold Gen.tripL_k0_t2 Gen.trip_k0_t2
  simp only [dvAdd, p0, p1, if_neg hne, dp0, dp1, ← e2, ← e4, ← e7]
  rw [← readAt_rows arg2.view X2 (inb3 k j) (off3_eq k j) hj, ← readAt_rows arg4.view X4 (inb3 k j) (off3_eq k j) hj,
    ← readAt_rows arg7.view X7 (inb3 k j) (off3_eq k j) hj, ← readAt_rows arg12.view f12 (inb3 k j) (off3_eq k j) hj]
  rfl

/-- The first inner loop before trip `n`: the row corrections, the value cotangent's blocks, and the tables of weights and weight cotangents. -/
theorem st2 (J : In F) (hJ : J = (inp (F := F) arg1 arg2 arg3 arg4 arg5 arg6 arg7 arg8 arg9 arg0 X1 X2 X3 X4 X5 X6 X7 X8 X9)) (f12 : BufTy.Contents (Elt F) arg12.view.ty) (f15 : BufTy.Contents (Elt F) arg15.view.ty) (f16 : BufTy.Contents (Elt F) arg16.view.ty) (n : ℕ) (hn : n ≤ k.val)
    (S : (FVec F S1x256 .f32 × FVec F S1x256 .f32) × List (View.Piece (Elt F) S4096x128 .f32) × List (View.Piece (Elt F) S2x16x256x256 .f32) × List (View.Piece (Elt F) S2x16x256x256 .f32))
    (hS : S = Gen.st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k w17 (qa J k) (qb J k) (doa J k) (dob J k) (l0 J k) (l1 J k) w54 w25 w59 X2 X4 X7 f12 f15 f16 (k0_pay40, k0_pay40) n) :
    S.1 = (d0 J k n, d1 J k n)
    ∧ (∀ b, b < 16 → rows (arg12.view.read (Elt F) (arg12.view.writes (Elt F) f12 S.2.1)) b
        = if b < n then dvAdd J k b (rows (arg12.view.read (Elt F) f12) b) else rows (arg12.view.read (Elt F) f12) b)
    ∧ (∀ b, b < n → tile (arg15.view.read (Elt F) (arg15.view.writes (Elt F) f15 S.2.2.1)) 0 b = k0_pay41 (p0 J k b)
        ∧ tile (arg15.view.read (Elt F) (arg15.view.writes (Elt F) f15 S.2.2.1)) 1 b = k0_pay41 (p1 J k b))
    ∧ (∀ b, b < n → tile (arg16.view.read (Elt F) (arg16.view.writes (Elt F) f16 S.2.2.2)) 0 b = k0_pay41 (dp0 J k b)
        ∧ tile (arg16.view.read (Elt F) (arg16.view.writes (Elt F) f16 S.2.2.2)) 1 b = k0_pay41 (dp1 J k b)) := by
  induction n generalizing S with
  | zero =>
    subst hS
    rw [show Gen.st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k w17 (qa J k) (qb J k) (doa J k) (dob J k) (l0 J k) (l1 J k) w54 w25 w59 X2 X4 X7 f12 f15 f16 (k0_pay40, k0_pay40) 0 = ((k0_pay40, k0_pay40), [], [], []) from rfl]
    exact ⟨rfl, fun b hb => by rw [if_neg (Nat.not_lt_zero b)]; rfl, fun b hb => absurd hb (Nat.not_lt_zero b), fun b hb => absurd hb (Nat.not_lt_zero b)⟩
  | succ n ih =>
    obtain ⟨h1, h2, h3, h4⟩ := ih (by omega) _ rfl
    have hlt : n < (k0_t2_loop k).trips := by rw [trips2]; omega
    have hn16 : n < 16 := by have := lt1 k; omega
    have hs := Gen.st_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k w17 (qa J k) (qb J k) (doa J k) (dob J k) (l0 J k) (l1 J k) w54 w25 w59 X2 X4 X7 f12 f15 f16 (k0_pay40, k0_pay40) ⟨n, hlt⟩
    rw [tripR2 (J := J) (hJ := hJ), tripL2 (J := J) (hJ := hJ)] at hs
    generalize hP : Gen.st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k w17 (qa J k) (qb J k) (doa J k) (dob J k) (l0 J k) (l1 J k) w54 w25 w59 X2 X4 X7 f12 f15 f16 (k0_pay40, k0_pay40) n = P at *
    rw [hS.trans hs]
    refine ⟨?_, ?_, ?_, ?_⟩
    · dsimp only
      rw [h1]; rfl
    · intro b hb
      dsimp only [List.cons_append, List.nil_append]
      rw [rows_writes _ _ _ _ _ (show k0_off3 k ⟨n, hlt⟩ = ![256 * n, 0] from off3_eq k ⟨n, hlt⟩) hn16 hb]
      by_cases e : b = n
      · subst e
        rw [if_pos rfl, if_pos (Nat.lt_succ_self b)]
        refine congrArg (dvAdd J k b) ?_
        rw [h2 b hb, if_neg (lt_irrefl b)]
      · rw [if_neg e, h2 b hb]
        by_cases h : b < n
        · rw [if_pos h, if_pos (by omega)]
        · rw [if_neg h, if_neg (by omega)]
    · intro b hb
      have hb16 : b < 16 := by omega
      dsimp only [List.cons_append, List.nil_append]
      have w5 := fun (w) (L) (g : ℕ) (hg : g < 2) => tile_writes (Val := Elt F) arg15.view f15 (inb5 k ⟨n, hlt⟩) w L (show k0_off5 k ⟨n, hlt⟩ = ![1, n, 0, 0] from off5_eq k ⟨n, hlt⟩) (by omega) hn16 hg hb16
      have w4 := fun (w) (L) (g : ℕ) (hg : g < 2) => tile_writes (Val := Elt F) arg15.view f15 (inb4 k ⟨n, hlt⟩) w L (show k0_off4 k ⟨n, hlt⟩ = ![0, n, 0, 0] from off4_eq k ⟨n, hlt⟩) (by omega) hn16 hg hb16
      rw [w5 _ _ 0 (by omega), w5 _ _ 1 (by omega), w4 _ _ 0 (by omega), w4 _ _ 1 (by omega)]
      by_cases e : b = n
      · subst e
        constructor
        · rw [if_neg (by omega), if_pos (by omega)]
        · rw [if_pos (by omega)]
      · rw [if_neg (by omega), if_neg (by omega), if_neg (by omega), if_neg (by omega)]
        exact h3 b (by omega)
    · intro b hb
      have hb16 : b < 16 := by omega
      dsimp only [List.cons_append, List.nil_append]
      have w5 := fun (w) (L) (g : ℕ) (hg : g < 2) => tile_writes (Val := Elt F) arg16.view f16 (inb5 k ⟨n, hlt⟩) w L (show k0_off5 k ⟨n, hlt⟩ = ![1, n, 0, 0] from off5_eq k ⟨n, hlt⟩) (by omega) hn16 hg hb16
      have w4 := fun (w) (L) (g : ℕ) (hg : g < 2) => tile_writes (Val := Elt F) arg16.view f16 (inb4 k ⟨n, hlt⟩) w L (show k0_off4 k ⟨n, hlt⟩ = ![0, n, 0, 0] from off4_eq k ⟨n, hlt⟩) (by omega) hn16 hg hb16
      rw [w5 _ _ 0 (by omega), w5 _ _ 1 (by omega), w4 _ _ 0 (by omega), w4 _ _ 1 (by omega)]
      by_cases e : b = n
      · subst e
        constructor
        · rw [if_neg (by omega), if_pos (by omega)]
        · rw [if_pos (by omega)]
      · rw [if_neg (by omega), if_neg (by omega), if_neg (by omega), if_neg (by omega)]
        exact h4 b (by omega)

end First

section Second
variable (w17 w18 w62 : BitVec 32)

theorem tripR4 (J : In F) (hJ : J = (inp (F := F) arg1 arg2 arg3 arg4 arg5 arg6 arg7 arg8 arg9 arg0 X1 X2 X3 X4 X5 X6 X7 X8 X9)) (j : Fin (k0_t4_loop k).trips) (r : FVec F S128x256 .f32 × FVec F S128x256 .f32) (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty)
    (h15 : tile (arg15.view.read (Elt F) f15) 0 j = k0_pay41 (p0 J k j) ∧ tile (arg15.view.read (Elt F) f15) 1 j = k0_pay41 (p1 J k j))
    (h16 : tile (arg16.view.read (Elt F) f16) 0 j = k0_pay41 (dp0 J k j) ∧ tile (arg16.view.read (Elt F) f16) 1 j = k0_pay41 (dp1 J k j)) :
    Gen.tripR_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k w17 w18 (qa J k) (qb J k) (doa J k) (dob J k) (d0 J k k) (d1 J k k) w62 (p0 J k k) (p1 J k k) (dp0 J k k) (dp1 J k k) X5 X6 f15 f16 j r f11 f13 f14
      = (k0_pay65 k0_pay6 r.1 (ds0 J k j) (J.kt j) (J.akt j), k0_pay66 k0_pay6 r.2 (ds1 J k j) (J.kt j) (J.akt j)) := by
  have hj : j.val < 16 := by have := lt4 k j; have := lt1 k; omega
  have e5 : cols (arg5.view.read (Elt F) X5) j = J.kt j := by rw [hJ]; rfl
  have e6 : cols (arg6.view.read (Elt F) X6) j = J.akt j := by rw [hJ]; rfl
  unfold Gen.tripR_k0_t4 Gen.trip_k0_t4
  simp only [ds0, ds1, ← e5, ← e6, ← h15.1, ← h15.2, ← h16.1, ← h16.2]
  rw [← readAt_cols arg5.view X5 (inb14 k j) (off14_eq k j) hj, ← readAt_cols arg6.view X6 (inb14 k j) (off14_eq k j) hj,
    ← readAt_tile arg15.view f15 (inb11 k j) (off11_eq k j) (by omega) hj, ← readAt_tile arg15.view f15 (inb12 k j) (off12_eq k j) (by omega) hj,
    ← readAt_tile arg16.view f16 (inb11 k j) (off11_eq k j) (by omega) hj, ← readAt_tile arg16.view f16 (inb12 k j) (off12_eq k j) (by omega) hj]
  rfl

theorem tripL4 (J : In F) (hJ : J = (inp (F := F) arg1 arg2 arg3 arg4 arg5 arg6 arg7 arg8 arg9 arg0 X1 X2 X3 X4 X5 X6 X7 X8 X9)) (j : Fin (k0_t4_loop k).trips) (r : FVec F S128x256 .f32 × FVec F S128x256 .f32) (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty)
    (h15 : tile (arg15.view.read (Elt F) f15) 0 j = k0_pay41 (p0 J k j) ∧ tile (arg15.view.read (Elt F) f15) 1 j = k0_pay41 (p1 J k j))
    (h16 : tile (arg16.view.read (Elt F) f16) 0 j = k0_pay41 (dp0 J k j) ∧ tile (arg16.view.read (Elt F) f16) 1 j = k0_pay41 (dp1 J k j)) :
    Gen.tripL_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k w17 w18 (qa J k) (qb J k) (doa J k) (dob J k) (d0 J k k) (d1 J k k) w62 (p0 J k k) (p1 J k k) (dp0 J k k) (dp1 J k k) X5 X6 f15 f16 j r f11 f13 f14
      = ([⟨Rect.unit (s := S4096x128) (k0_off13 k j) ![256, 128] (inb13 k j), dkAdd J k j (rows (arg11.view.read (Elt F) f11) j)⟩],
        [⟨Rect.unit (s := S4096x128) (k0_off13 k j) ![256, 128] (inb13 k j), dc0Add J k j (rows (arg13.view.read (Elt F) f13) j)⟩],
        [⟨Rect.unit (s := S4096x128) (k0_off13 k j) ![256, 128] (inb13 k j), dc1Add J k j (rows (arg14.view.read (Elt F) f14) j)⟩]) := by
  have hj : j.val < 16 := by have := lt4 k j; have := lt1 k; omega
  unfold Gen.tripL_k0_t4 Gen.trip_k0_t4
  simp only [dkAdd, dc0Add, dc1Add, ds1, ← h15.1, ← h15.2, ← h16.1, ← h16.2]
  rw [← readAt_tile arg15.view f15 (inb11 k j) (off11_eq k j) (by omega) hj, ← readAt_tile arg15.view f15 (inb12 k j) (off12_eq k j) (by omega) hj,
    ← readAt_tile arg16.view f16 (inb11 k j) (off11_eq k j) (by omega) hj, ← readAt_tile arg16.view f16 (inb12 k j) (off12_eq k j) (by omega) hj,
    ← readAt_rows arg11.view f11 (inb13 k j) (off13_eq k j) hj, ← readAt_rows arg13.view f13 (inb13 k j) (off13_eq k j) hj,
    ← readAt_rows arg14.view f14 (inb13 k j) (off13_eq k j) hj]
  rfl

/-- The second inner loop before trip `n`: the query cotangents, and the blocks of the key cotangent and of the folded column sums. -/
theorem st4 (J : In F) (hJ : J = (inp (F := F) arg1 arg2 arg3 arg4 arg5 arg6 arg7 arg8 arg9 arg0 X1 X2 X3 X4 X5 X6 X7 X8 X9)) (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty)
    (h15 : ∀ b, b < k.val + 1 → tile (arg15.view.read (Elt F) f15) 0 b = k0_pay41 (p0 J k b) ∧ tile (arg15.view.read (Elt F) f15) 1 b = k0_pay41 (p1 J k b))
    (h16 : ∀ b, b < k.val + 1 → tile (arg16.view.read (Elt F) f16) 0 b = k0_pay41 (dp0 J k b) ∧ tile (arg16.view.read (Elt F) f16) 1 b = k0_pay41 (dp1 J k b))
    (n : ℕ) (hn : n ≤ k.val + 1)
    (S : (FVec F S128x256 .f32 × FVec F S128x256 .f32) × List (View.Piece (Elt F) S4096x128 .f32) × List (View.Piece (Elt F) S4096x128 .f32) × List (View.Piece (Elt F) S4096x128 .f32))
    (hS : S = Gen.st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k w17 w18 (qa J k) (qb J k) (doa J k) (dob J k) (d0 J k k) (d1 J k k) w62 (p0 J k k) (p1 J k k) (dp0 J k k) (dp1 J k k) X5 X6 f15 f16 f11 f13 f14 (k0_pay61, k0_pay61) n) :
    S.1 = (dq0 J k n, dq1 J k n)
    ∧ (∀ b, b < 16 → rows (arg11.view.read (Elt F) (arg11.view.writes (Elt F) f11 S.2.1)) b
        = if b < n then dkAdd J k b (rows (arg11.view.read (Elt F) f11) b) else rows (arg11.view.read (Elt F) f11) b)
    ∧ (∀ b, b < 16 → rows (arg13.view.read (Elt F) (arg13.view.writes (Elt F) f13 S.2.2.1)) b
        = if b < n then dc0Add J k b (rows (arg13.view.read (Elt F) f13) b) else rows (arg13.view.read (Elt F) f13) b)
    ∧ (∀ b, b < 16 → rows (arg14.view.read (Elt F) (arg14.view.writes (Elt F) f14 S.2.2.2)) b
        = if b < n then dc1Add J k b (rows (arg14.view.read (Elt F) f14) b) else rows (arg14.view.read (Elt F) f14) b) := by
  induction n generalizing S with
  | zero =>
    subst hS
    rw [show Gen.st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k w17 w18 (qa J k) (qb J k) (doa J k) (dob J k) (d0 J k k) (d1 J k k) w62 (p0 J k k) (p1 J k k) (dp0 J k k) (dp1 J k k) X5 X6 f15 f16 f11 f13 f14 (k0_pay61, k0_pay61) 0 = ((k0_pay61, k0_pay61), [], [], []) from rfl]
    exact ⟨rfl, fun b hb => by rw [if_neg (Nat.not_lt_zero b)]; rfl, fun b hb => by rw [if_neg (Nat.not_lt_zero b)]; rfl, fun b hb => by rw [if_neg (Nat.not_lt_zero b)]; rfl⟩
  | succ n ih =>
    obtain ⟨h1, h2, h3, h4⟩ := ih (by omega) _ rfl
    have hlt : n < (k0_t4_loop k).trips := by rw [trips4]; omega
    have hn16 : n < 16 := by have := lt1 k; omega
    have hs := Gen.st_k0_t4_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k w17 w18 (qa J k) (qb J k) (doa J k) (dob J k) (d0 J k k) (d1 J k k) w62 (p0 J k k) (p1 J k k) (dp0 J k k) (dp1 J k k) X5 X6 f15 f16 f11 f13 f14 (k0_pay61, k0_pay61) ⟨n, hlt⟩
    rw [tripR4 (J := J) (hJ := hJ) (h15 := h15 n (by omega)) (h16 := h16 n (by omega)), tripL4 (J := J) (hJ := hJ) (h15 := h15 n (by omega)) (h16 := h16 n (by omega))] at hs
    generalize hP : Gen.st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k w17 w18 (qa J k) (qb J k) (doa J k) (dob J k) (d0 J k k) (d1 J k k) w62 (p0 J k k) (p1 J k k) (dp0 J k k) (dp1 J k k) X5 X6 f15 f16 f11 f13 f14 (k0_pay61, k0_pay61) n = P at *
    rw [hS.trans hs]
    refine ⟨?_, ?_, ?_, ?_⟩
    · dsimp only
      rw [h1]; rfl
    · intro b hb
      dsimp only [List.cons_append, List.nil_append]
      rw [rows_writes _ _ _ _ _ (show k0_off13 k ⟨n, hlt⟩ = ![256 * n, 0] from off13_eq k ⟨n, hlt⟩) hn16 hb]
      by_cases e : b = n
      · subst e
        rw [if_pos rfl, if_pos (Nat.lt_succ_self b)]
        refine congrArg (dkAdd J k b) ?_
        rw [h2 b hb, if_neg (lt_irrefl b)]
      · rw [if_neg e, h2 b hb]
        by_cases h : b < n
        · rw [if_pos h, if_pos (by omega)]
        · rw [if_neg h, if_neg (by omega)]
    · intro b hb
      dsimp only [List.cons_append, List.nil_append]
      rw [rows_writes _ _ _ _ _ (show k0_off13 k ⟨n, hlt⟩ = ![256 * n, 0] from off13_eq k ⟨n, hlt⟩) hn16 hb]
      by_cases e : b = n
      · subst e
        rw [if_pos rfl, if_pos (Nat.lt_succ_self b)]
        refine congrArg (dc0Add J k b) ?_
        rw [h3 b hb, if_neg (lt_irrefl b)]
      · rw [if_neg e, h3 b hb]
        by_cases h : b < n
        · rw [if_pos h, if_pos (by omega)]
        · rw [if_neg h, if_neg (by omega)]
    · intro b hb
      dsimp only [List.cons_append, List.nil_append]
      rw [rows_writes _ _ _ _ _ (show k0_off13 k ⟨n, hlt⟩ = ![256 * n, 0] from off13_eq k ⟨n, hlt⟩) hn16 hb]
      by_cases e : b = n
      · subst e
        rw [if_pos rfl, if_pos (Nat.lt_succ_self b)]
        refine congrArg (dc1Add J k b) ?_
        rw [h4 b hb, if_neg (lt_irrefl b)]
      · rw [if_neg e, h4 b hb]
        by_cases h : b < n
        · rw [if_pos h, if_pos (by omega)]
        · rw [if_neg h, if_neg (by omega)]

end Second

end Loops

end Cert.KernelIdeal.Spec
-- ==== Proof.SpecOuter.lean ====
/- One trip of the outer loop by blocks, and all sixteen of them: what each result's blocks hold. -/
module

public import proofs.«01_k».proof.Proof.SpecLoop

@[expose] public section

set_option maxRecDepth 16384
set_option maxHeartbeats 2000000

noncomputable section

namespace Cert.KernelIdeal.Spec

open Idealize.ShloMosaic Idealize.ShloMosaic.ValueIdx Idealize.ShloMosaic.TcCoe Cert.KernelIdeal.Gen
open Idealize.SL.Sem

variable {F : FTy → Type} [FloatOps F] [Named F]

variable (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)

section Trip
variable (k : Fin k0_t1_loop.trips)

theorem e25 (J : In F) (hJ : J = (inp (F := F) arg1 arg2 arg3 arg4 arg5 arg6 arg7 arg8 arg9 arg0 X1 X2 X3 X4 X5 X6 X7 X8 X9)) : Outer.trip.sl.v25 arg1 arg3 X1 X3 k = qa J k := by
  subst hJ
  show k0_pay33 k0_pay5 (arg1.view.readAt (Elt F) (Rect.unit (s := S4096x128) (k0_off1 k) ![256, 128] (inb1 k)).toLoadRect X1) (arg3.view.readAt (Elt F) (Rect.unit (s := S4096x128) (k0_off1 k) ![256, 128] (inb1 k)).toLoadRect X3) = _
  rw [readAt_rows arg1.view X1 (inb1 k) (off1_eq k) (lt1 k), readAt_rows arg3.view X3 (inb1 k) (off1_eq k) (lt1 k)]; rfl
theorem e26 (J : In F) (hJ : J = (inp (F := F) arg1 arg2 arg3 arg4 arg5 arg6 arg7 arg8 arg9 arg0 X1 X2 X3 X4 X5 X6 X7 X8 X9)) : Outer.trip.sl.v26 arg1 arg3 X1 X3 k = qb J k := by
  subst hJ
  show k0_pay34 k0_pay5 (arg1.view.readAt (Elt F) (Rect.unit (s := S4096x128) (k0_off1 k) ![256, 128] (inb1 k)).toLoadRect X1) (arg3.view.readAt (Elt F) (Rect.unit (s := S4096x128) (k0_off1 k) ![256, 128] (inb1 k)).toLoadRect X3) = _
  rw [readAt_rows arg1.view X1 (inb1 k) (off1_eq k) (lt1 k), readAt_rows arg3.view X3 (inb1 k) (off1_eq k) (lt1 k)]; rfl
theorem e31 (J : In F) (hJ : J = (inp (F := F) arg1 arg2 arg3 arg4 arg5 arg6 arg7 arg8 arg9 arg0 X1 X2 X3 X4 X5 X6 X7 X8 X9)) : Outer.trip.sl.v31 arg9 X9 k = doa J k := by
  subst hJ
  show k0_pay35 k0_pay5 (arg9.view.readAt (Elt F) (Rect.unit (s := S4096x128) (k0_off1 k) ![256, 128] (inb1 k)).toLoadRect X9) = _
  rw [readAt_rows arg9.view X9 (inb1 k) (off1_eq k) (lt1 k)]; rfl
theorem e34 (J : In F) (hJ : J = (inp (F := F) arg1 arg2 arg3 arg4 arg5 arg6 arg7 arg8 arg9 arg0 X1 X2 X3 X4 X5 X6 X7 X8 X9)) : Outer.trip.sl.v34 arg9 X9 k = dob J k := by
  subst hJ
  show k0_pay36 k0_pay5 (arg9.view.readAt (Elt F) (Rect.unit (s := S4096x128) (k0_off1 k) ![256, 128] (inb1 k)).toLoadRect X9) = _
  rw [readAt_rows arg9.view X9 (inb1 k) (off1_eq k) (lt1 k)]; rfl
theorem e45 (J : In F) (hJ : J = (inp (F := F) arg1 arg2 arg3 arg4 arg5 arg6 arg7 arg8 arg9 arg0 X1 X2 X3 X4 X5 X6 X7 X8 X9)) : Outer.trip.sl.v45 arg8 arg0 X8 k = l0 J k := by
  subst hJ
  show k0_pay38 arg0 (arg8.view.readAt (Elt F) (Rect.unit (s := S16x4096) (k0_off2 k) ![16, 256] (inb2 k)).toLoadRect X8) = _
  rw [readAt_cols16 arg8.view X8 (inb2 k) (off2_eq k) (lt1 k)]; rfl
theorem e53 (J : In F) (hJ : J = (inp (F := F) arg1 arg2 arg3 arg4 arg5 arg6 arg7 arg8 arg9 arg0 X1 X2 X3 X4 X5 X6 X7 X8 X9)) : Outer.trip.sl.v53 arg8 arg0 X8 k = l1 J k := by
  subst hJ
  show k0_pay39 arg0 (arg8.view.readAt (Elt F) (Rect.unit (s := S16x4096) (k0_off2 k) ![16, 256] (inb2 k)).toLoadRect X8) = _
  rw [readAt_cols16 arg8.view X8 (inb2 k) (off2_eq k) (lt1 k)]; rfl
theorem e54 : Outer.trip.sl.v54 (F := F) = k0_pay40 := rfl
theorem er2 (J : In F) (hJ : J = (inp (F := F) arg1 arg2 arg3 arg4 arg5 arg6 arg7 arg8 arg9 arg0 X1 X2 X3 X4 X5 X6 X7 X8 X9)) : Outer.trip.sl.r_2 arg1 arg2 arg3 arg4 arg8 arg0 X1 X2 X3 X4 X8 k = p0 J k k := by
  show k0_pay50 k0_pay5 k0_pay7 (Outer.trip.sl.v25 arg1 arg3 X1 X3 k) (Outer.trip.sl.v45 arg8 arg0 X8 k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4) = _
  rw [e25 (J := J) (hJ := hJ), e45 (J := J) (hJ := hJ), readAt_rows arg2.view X2 (inb1 k) (off1_eq k) (lt1 k), readAt_rows arg4.view X4 (inb1 k) (off1_eq k) (lt1 k), p0, if_pos rfl]
  subst hJ; rfl
theorem er3 (J : In F) (hJ : J = (inp (F := F) arg1 arg2 arg3 arg4 arg5 arg6 arg7 arg8 arg9 arg0 X1 X2 X3 X4 X5 X6 X7 X8 X9)) : Outer.trip.sl.r_3 arg1 arg2 arg3 arg4 arg8 arg0 X1 X2 X3 X4 X8 k = p1 J k k := by
  show k0_pay51 k0_pay5 k0_pay7 (Outer.trip.sl.v26 arg1 arg3 X1 X3 k) (Outer.trip.sl.v53 arg8 arg0 X8 k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4) = _
  rw [e26 (J := J) (hJ := hJ), e53 (J := J) (hJ := hJ), readAt_rows arg2.view X2 (inb1 k) (off1_eq k) (lt1 k), readAt_rows arg4.view X4 (inb1 k) (off1_eq k) (lt1 k), p1, if_pos rfl]
  subst hJ; rfl
theorem er4 (J : In F) (hJ : J = (inp (F := F) arg1 arg2 arg3 arg4 arg5 arg6 arg7 arg8 arg9 arg0 X1 X2 X3 X4 X5 X6 X7 X8 X9)) : Outer.trip.sl.r_4 arg7 arg9 X7 X9 k = dp0 J k k := by
  show k0_pay52 (Outer.trip.sl.v31 arg9 X9 k) (arg7.view.readAt (Elt F) (Rect.unit (s := S4096x128) (k0_off1 k) ![256, 128] (inb1 k)).toLoadRect X7) = _
  rw [e31 (J := J) (hJ := hJ), readAt_rows arg7.view X7 (inb1 k) (off1_eq k) (lt1 k)]; subst hJ; rfl
theorem er5 (J : In F) (hJ : J = (inp (F := F) arg1 arg2 arg3 arg4 arg5 arg6 arg7 arg8 arg9 arg0 X1 X2 X3 X4 X5 X6 X7 X8 X9)) : Outer.trip.sl.r_5 arg7 arg9 X7 X9 k = dp1 J k k := by
  show k0_pay53 (Outer.trip.sl.v34 arg9 X9 k) (arg7.view.readAt (Elt F) (Rect.unit (s := S4096x128) (k0_off1 k) ![256, 128] (inb1 k)).toLoadRect X7) = _
  rw [e34 (J := J) (hJ := hJ), readAt_rows arg7.view X7 (inb1 k) (off1_eq k) (lt1 k)]; subst hJ; rfl

theorem tr2 : Scf.trips (0#32) (Scalar.addi (0#32) (Scalar.muli (Scalar.divsi (Scalar.subi (Scf.iv 0#32 1#32 k) 0#32) 1#32) 1#32)) 1#32 = k.val := trips2 k
theorem tr4 : Scf.trips (0#32) (Scalar.addi (0#32) (Scalar.muli (Scalar.divsi (Scalar.subi (Scalar.addi (Scf.iv 0#32 1#32 k) 1#32) 0#32) 1#32) 1#32)) 1#32 = k.val + 1 := trips4 k

variable (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)

/-- The first inner loop of a trip, all of it. -/
abbrev S2 (J : In F) (hJ : J = (inp (F := F) arg1 arg2 arg3 arg4 arg5 arg6 arg7 arg8 arg9 arg0 X1 X2 X3 X4 X5 X6 X7 X8 X9)) := Gen.st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k (Outer.trip.sl.arg17 k) (qa J k) (qb J k) (doa J k) (dob J k) (l0 J k) (l1 J k) k0_pay40 0#32 (Outer.trip.sl.v59 k) X2 X4 X7 f12 f15 f16 (k0_pay40, k0_pay40) k.val

theorem er (J : In F) (hJ : J = (inp (F := F) arg1 arg2 arg3 arg4 arg5 arg6 arg7 arg8 arg9 arg0 X1 X2 X3 X4 X5 X6 X7 X8 X9)) : Outer.trip.sl.r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X7 X8 X9 k f12 f15 f16 = d0 J k k := by
  unfold Outer.trip.sl.r
  simp only [e25 (J := J) (hJ := hJ), e26 (J := J) (hJ := hJ), e31 (J := J) (hJ := hJ), e34 (J := J) (hJ := hJ), e45 (J := J) (hJ := hJ), e53 (J := J) (hJ := hJ), e54, tr2]
  exact congrArg Prod.fst (st2 (J := J) (hJ := hJ) (n := k.val) (hn := le_rfl) (hS := rfl) ..).1
theorem er1 (J : In F) (hJ : J = (inp (F := F) arg1 arg2 arg3 arg4 arg5 arg6 arg7 arg8 arg9 arg0 X1 X2 X3 X4 X5 X6 X7 X8 X9)) : Outer.trip.sl.r_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X7 X8 X9 k f12 f15 f16 = d1 J k k := by
  unfold Outer.trip.sl.r_1
  simp only [e25 (J := J) (hJ := hJ), e26 (J := J) (hJ := hJ), e31 (J := J) (hJ := hJ), e34 (J := J) (hJ := hJ), e45 (J := J) (hJ := hJ), e53 (J := J) (hJ := hJ), e54, tr2]
  exact congrArg Prod.snd (st2 (J := J) (hJ := hJ) (n := k.val) (hn := le_rfl) (hS := rfl) ..).1
theorem ex (J : In F) (hJ : J = (inp (F := F) arg1 arg2 arg3 arg4 arg5 arg6 arg7 arg8 arg9 arg0 X1 X2 X3 X4 X5 X6 X7 X8 X9)) : Outer.trip.sl.x c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X7 X8 X9 k f12 f15 f16 = rows (arg12.view.read (Elt F) f12) k := by
  unfold Outer.trip.sl.x
  simp only [e25 (J := J) (hJ := hJ), e26 (J := J) (hJ := hJ), e31 (J := J) (hJ := hJ), e34 (J := J) (hJ := hJ), e45 (J := J) (hJ := hJ), e53 (J := J) (hJ := hJ), e54, tr2]
  refine (readAt_rows arg12.view _ (inb1 k) (off1_eq k) (lt1 k)).trans ?_
  rw [(st2 (J := J) (hJ := hJ) (n := k.val) (hn := le_rfl) (hS := rfl) ..).2.1 k (lt1 k), if_neg (lt_irrefl _)]

/-- One trip: the query cotangent's block, and what is added to the other results' blocks. -/
theorem trip_blocks (J : In F) (hJ : J = (inp (F := F) arg1 arg2 arg3 arg4 arg5 arg6 arg7 arg8 arg9 arg0 X1 X2 X3 X4 X5 X6 X7 X8 X9)) (T : List (View.Piece (Elt F) S4096x128 .f32) × List (View.Piece (Elt F) S4096x128 .f32) × List (View.Piece (Elt F) S4096x128 .f32) × List (View.Piece (Elt F) S4096x128 .f32) × List (View.Piece (Elt F) S4096x128 .f32) × List (View.Piece (Elt F) S2x16x256x256 .f32) × List (View.Piece (Elt F) S2x16x256x256 .f32))
    (hT : T = Outer.tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k f10 f11 f12 f13 f14 f15 f16) :
    (∀ b, b < 16 → rows (arg10.view.read (Elt F) (arg10.view.writes (Elt F) f10 T.1)) b = if b = k.val then dq J k else rows (arg10.view.read (Elt F) f10) b)
    ∧ (∀ b, b < 16 → rows (arg11.view.read (Elt F) (arg11.view.writes (Elt F) f11 T.2.1)) b = if b < k.val + 1 then dkAdd J k b (rows (arg11.view.read (Elt F) f11) b) else rows (arg11.view.read (Elt F) f11) b)
    ∧ (∀ b, b < 16 → rows (arg12.view.read (Elt F) (arg12.view.writes (Elt F) f12 T.2.2.1)) b = if b < k.val + 1 then dvAdd J k b (rows (arg12.view.read (Elt F) f12) b) else rows (arg12.view.read (Elt F) f12) b)
    ∧ (∀ b, b < 16 → rows (arg13.view.read (Elt F) (arg13.view.writes (Elt F) f13 T.2.2.2.1)) b = if b < k.val + 1 then dc0Add J k b (rows (arg13.view.read (Elt F) f13) b) else rows (arg13.view.read (Elt F) f13) b)
    ∧ (∀ b, b < 16 → rows (arg14.view.read (Elt F) (arg14.view.writes (Elt F) f14 T.2.2.2.2.1)) b = if b < k.val + 1 then dc1Add J k b (rows (arg14.view.read (Elt F) f14) b) else rows (arg14.view.read (Elt F) f14) b) := by
  unfold Outer.tripL Outer.trip at hT
  dsimp only at hT
  rw [er (J := J) (hJ := hJ), er1 (J := J) (hJ := hJ), er2 (J := J) (hJ := hJ), er3 (J := J) (hJ := hJ), er4 (J := J) (hJ := hJ), er5 (J := J) (hJ := hJ), ex (J := J) (hJ := hJ),
    e25 (J := J) (hJ := hJ), e26 (J := J) (hJ := hJ), e31 (J := J) (hJ := hJ), e34 (J := J) (hJ := hJ), e45 (J := J) (hJ := hJ), e53 (J := J) (hJ := hJ), e54, tr2, tr4] at hT
  have hS2 := st2 (J := J) (hJ := hJ) (n := k.val) (hn := le_rfl) (hS := rfl) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k (Outer.trip.sl.arg17 k) 0#32 (Outer.trip.sl.v59 k) k0_pay40 f12 f15 f16
  generalize Gen.st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k (Outer.trip.sl.arg17 k) (qa J k) (qb J k) (doa J k) (dob J k) (l0 J k) (l1 J k) k0_pay40 0#32 (Outer.trip.sl.v59 k) X2 X4 X7 f12 f15 f16 (k0_pay40, k0_pay40) k.val = P at hT hS2
  obtain ⟨-, h12, h15, h16⟩ := hS2
  have w10 := fun (v : View sig .tc .vmem S2x16x256x256 .f32) (f) (w) (L) (b : ℕ) (hb : b < 16) (g : ℕ) (hg : g < 2) => tile_writes (Val := Elt F) v f (inb10 k) w L (off10_eq k) (by omega) (lt1 k) hg hb
  have w9 := fun (v : View sig .tc .vmem S2x16x256x256 .f32) (f) (w) (L) (b : ℕ) (hb : b < 16) (g : ℕ) (hg : g < 2) => tile_writes (Val := Elt F) v f (inb9 k) w L (off9_eq k) (by omega) (lt1 k) hg hb
  have hk := lt1 k
  have t15 : ∀ (w0 : Vec F S1x1x256x256 .f32) (w1 : Vec F S1x1x256x256 .f32), w0 = k0_pay41 (p0 J k k) → w1 = k0_pay41 (p1 J k k) →
      ∀ b, b < k.val + 1 → tile (arg15.view.read (Elt F) (arg15.view.writes (Elt F) f15 (⟨Rect.unit (s := S2x16x256x256) (k0_off10 k) ![1, 1, 256, 256] (inb10 k), w1⟩ :: ⟨Rect.unit (s := S2x16x256x256) (k0_off9 k) ![1, 1, 256, 256] (inb9 k), w0⟩ :: P.2.2.1))) 0 b = k0_pay41 (p0 J k b)
      ∧ tile (arg15.view.read (Elt F) (arg15.view.writes (Elt F) f15 (⟨Rect.unit (s := S2x16x256x256) (k0_off10 k) ![1, 1, 256, 256] (inb10 k), w1⟩ :: ⟨Rect.unit (s := S2x16x256x256) (k0_off9 k) ![1, 1, 256, 256] (inb9 k), w0⟩ :: P.2.2.1))) 1 b = k0_pay41 (p1 J k b) := by
    intro w0 w1 h0 h1 b hb
    rw [w10 _ _ _ _ b (by omega) 0 (by omega), w10 _ _ _ _ b (by omega) 1 (by omega), w9 _ _ _ _ b (by omega) 0 (by omega), w9 _ _ _ _ b (by omega) 1 (by omega)]
    by_cases e : b = k.val
    · subst e
      constructor
      · rw [if_neg (by omega), if_pos (by omega), h0]
      · rw [if_pos (by omega), h1]
    · rw [if_neg (by omega), if_neg (by omega), if_neg (by omega), if_neg (by omega)]
      exact h15 b (by omega)
  have t16 : ∀ (w0 : Vec F S1x1x256x256 .f32) (w1 : Vec F S1x1x256x256 .f32), w0 = k0_pay41 (dp0 J k k) → w1 = k0_pay41 (dp1 J k k) →
      ∀ b, b < k.val + 1 → tile (arg16.view.read (Elt F) (arg16.view.writes (Elt F) f16 (⟨Rect.unit (s := S2x16x256x256) (k0_off10 k) ![1, 1, 256, 256] (inb10 k), w1⟩ :: ⟨Rect.unit (s := S2x16x256x256) (k0_off9 k) ![1, 1, 256, 256] (inb9 k), w0⟩ :: P.2.2.2))) 0 b = k0_pay41 (dp0 J k b)
      ∧ tile (arg16.view.read (Elt F) (arg16.view.writes (Elt F) f16 (⟨Rect.unit (s := S2x16x256x256) (k0_off10 k) ![1, 1, 256, 256] (inb10 k), w1⟩ :: ⟨Rect.unit (s := S2x16x256x256) (k0_off9 k) ![1, 1, 256, 256] (inb9 k), w0⟩ :: P.2.2.2))) 1 b = k0_pay41 (dp1 J k b) := by
    intro w0 w1 h0 h1 b hb
    rw [w10 _ _ _ _ b (by omega) 0 (by omega), w10 _ _ _ _ b (by omega) 1 (by omega), w9 _ _ _ _ b (by omega) 0 (by omega), w9 _ _ _ _ b (by omega) 1 (by omega)]
    by_cases e : b = k.val
    · subst e
      constructor
      · rw [if_neg (by omega), if_pos (by omega), h0]
      · rw [if_pos (by omega), h1]
    · rw [if_neg (by omega), if_neg (by omega), if_neg (by omega), if_neg (by omega)]
      exact h16 b (by omega)
  have y54 : k0_pay54 k0_pay5 k0_pay7 (qa J k) (l0 J k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4) = k0_pay41 (p0 J k k) := by
    show k0_pay41 (k0_pay50 k0_pay5 k0_pay7 (qa J k) (l0 J k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4)) = _
    rw [readAt_rows arg2.view X2 (inb1 k) (off1_eq k) (lt1 k), readAt_rows arg4.view X4 (inb1 k) (off1_eq k) (lt1 k), p0, if_pos rfl]
    subst hJ; rfl
  have y55 : k0_pay55 k0_pay5 k0_pay7 (qb J k) (l1 J k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4) = k0_pay41 (p1 J k k) := by
    show k0_pay41 (k0_pay51 k0_pay5 k0_pay7 (qb J k) (l1 J k) (arg2.view.readAt (Elt F) (Rect.unit (s := S4096x128) (k0_off1 k) ![256, 128] (inb1 k)).toLoadRect X2) (arg4.view.readAt (Elt F) (Rect.unit (s := S4096x128) (k0_off1 k) ![256, 128] (inb1 k)).toLoadRect X4)) = _
    rw [readAt_rows arg2.view X2 (inb1 k) (off1_eq k) (lt1 k), readAt_rows arg4.view X4 (inb1 k) (off1_eq k) (lt1 k), p1, if_pos rfl]
    subst hJ; rfl
  have hS4 := st4 (J := J) (hJ := hJ) (n := k.val + 1) (hn := le_rfl) (hS := rfl) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k (Outer.trip.sl.arg17 k) (Outer.trip.sl.v18 k) (Outer.trip.sl.v62 k)
    f11 f13 f14 _ _ (t15 _ _ y54 y55) (t16 (k0_pay56 (dp0 J k k)) (k0_pay57 (dp1 J k k)) rfl rfl)
  generalize Gen.st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k _ _ _ _ _ _ _ _ _ _ _ _ _ X5 X6 _ _ f11 f13 f14 (k0_pay61, k0_pay61) (k.val + 1) = Q at hT hS4
  obtain ⟨q1, q11, q13, q14⟩ := hS4
  subst hT
  refine ⟨fun b hb => ?_, q11, fun b hb => ?_, q13, q14⟩
  · dsimp only
    rw [rows_writes _ _ _ _ _ (off1_eq k) hk hb, q1]
    rfl
  · dsimp only
    rw [rows_writes _ _ _ _ _ (off1_eq k) hk hb, h12 b hb]
    by_cases e : b = k.val
    · subst e
      rw [if_pos rfl, if_pos (Nat.lt_succ_self _)]
      rfl
    · rw [if_neg e]
      by_cases h : b < k.val
      · rw [if_pos h, if_pos (by omega)]
      · rw [if_neg h, if_neg (by omega)]

end Trip

/-- The outer loop before trip `n`: the query cotangent's blocks before it, and the other results' blocks from the query blocks before it. -/
theorem loop_blocks (J : In F) (hJ : J = (inp (F := F) arg1 arg2 arg3 arg4 arg5 arg6 arg7 arg8 arg9 arg0 X1 X2 X3 X4 X5 X6 X7 X8 X9)) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (n : ℕ) (hn : n ≤ 16)
    (T : List (View.Piece (Elt F) S4096x128 .f32) × List (View.Piece (Elt F) S4096x128 .f32) × List (View.Piece (Elt F) S4096x128 .f32) × List (View.Piece (Elt F) S4096x128 .f32) × List (View.Piece (Elt F) S4096x128 .f32) × List (View.Piece (Elt F) S2x16x256x256 .f32) × List (View.Piece (Elt F) S2x16x256x256 .f32))
    (hT : T = Outer.pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 n) :
    (∀ b, b < n → rows (arg10.view.read (Elt F) (arg10.view.writes (Elt F) G10 T.1)) b = dq J b)
    ∧ (∀ b, b < 16 → rows (arg11.view.read (Elt F) (arg11.view.writes (Elt F) G11 T.2.1)) b = acc (dkAdd J) (rows (arg11.view.read (Elt F) G11) b) b n)
    ∧ (∀ b, b < 16 → rows (arg12.view.read (Elt F) (arg12.view.writes (Elt F) G12 T.2.2.1)) b = acc (dvAdd J) (rows (arg12.view.read (Elt F) G12) b) b n)
    ∧ (∀ b, b < 16 → rows (arg13.view.read (Elt F) (arg13.view.writes (Elt F) G13 T.2.2.2.1)) b = acc (dc0Add J) (rows (arg13.view.read (Elt F) G13) b) b n)
    ∧ (∀ b, b < 16 → rows (arg14.view.read (Elt F) (arg14.view.writes (Elt F) G14 T.2.2.2.2.1)) b = acc (dc1Add J) (rows (arg14.view.read (Elt F) G14) b) b n) := by
  induction n generalizing T with
  | zero =>
    subst hT
    exact ⟨fun b hb => absurd hb (Nat.not_lt_zero b), fun b hb => rfl, fun b hb => rfl, fun b hb => rfl, fun b hb => rfl⟩
  | succ n ih =>
    obtain ⟨h10, h11, h12, h13, h14⟩ := ih (by omega) _ rfl
    have hlt : n < k0_t1_loop.trips := by rw [trips1]; omega
    have hs := Outer.pb_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 ⟨n, hlt⟩
    have ht := fun f10 f11 f12 f13 f14 f15 f16 => trip_blocks (J := J) (hJ := hJ) (hT := rfl) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 ⟨n, hlt⟩ f10 f11 f12 f13 f14 f15 f16
    dsimp only at hs
    generalize hP : Outer.pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 n = P at *
    replace ht := ht (arg10.view.writes (Elt F) G10 P.1) (arg11.view.writes (Elt F) G11 P.2.1) (arg12.view.writes (Elt F) G12 P.2.2.1) (arg13.view.writes (Elt F) G13 P.2.2.2.1) (arg14.view.writes (Elt F) G14 P.2.2.2.2.1) (arg15.view.writes (Elt F) G15 P.2.2.2.2.2.1) (arg16.view.writes (Elt F) G16 P.2.2.2.2.2.2)
    obtain ⟨t10, t11, t12, t13, t14⟩ := ht
    rw [hT.trans hs]
    refine ⟨fun b hb => ?_, fun b hb => ?_, fun b hb => ?_, fun b hb => ?_, fun b hb => ?_⟩
    · dsimp only
      rw [View.writes_append]
      refine (t10 b (by omega)).trans ?_
      by_cases e : b = n
      · subst e; exact if_pos rfl
      · exact (if_neg e).trans (h10 b (by omega))
    · dsimp only
      rw [View.writes_append]
      refine (t11 b hb).trans ?_
      rw [h11 b hb, acc]
      by_cases h : b < n + 1
      · exact (if_pos h).trans (if_pos (Nat.lt_succ_iff.mp h)).symm
      · exact (if_neg h).trans (if_neg fun h' => h (Nat.lt_succ_iff.mpr h')).symm
    · dsimp only
      rw [View.writes_append]
      refine (t12 b hb).trans ?_
      rw [h12 b hb, acc]
      by_cases h : b < n + 1
      · exact (if_pos h).trans (if_pos (Nat.lt_succ_iff.mp h)).symm
      · exact (if_neg h).trans (if_neg fun h' => h (Nat.lt_succ_iff.mpr h')).symm
    · dsimp only
      rw [View.writes_append]
      refine (t13 b hb).trans ?_
      rw [h13 b hb, acc]
      by_cases h : b < n + 1
      · exact (if_pos h).trans (if_pos (Nat.lt_succ_iff.mp h)).symm
      · exact (if_neg h).trans (if_neg fun h' => h (Nat.lt_succ_iff.mpr h')).symm
    · dsimp only
      rw [View.writes_append]
      refine (t14 b hb).trans ?_
      rw [h14 b hb, acc]
      by_cases h : b < n + 1
      · exact (if_pos h).trans (if_pos (Nat.lt_succ_iff.mp h)).symm
      · exact (if_neg h).trans (if_neg fun h' => h (Nat.lt_succ_iff.mpr h')).symm

end Cert.KernelIdeal.Spec
-- ==== Proof.Body.lean ====
/- The body's triple at explicit contents — each result window assembled of the blocks the recursions say —, the pipeline's proof data, and the run. -/
module

public import proofs.«01_k».proof.Proof.SpecOuter

@[expose] public section

set_option maxRecDepth 16384
set_option maxHeartbeats 2000000

noncomputable section

namespace Cert.KernelIdeal.Body

open Idealize.ShloMosaic Idealize.ShloMosaic.TcCoe Idealize.ShloMosaic.Tactic Idealize.ShloMosaic.ValueIdx
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Spec

variable {F : FTy → Type} [FloatOps F] [Named F]

local notation "𝕄" => MT nD τ sig Unit (Elt F) ℕ (UR sig nD τ) ℕ

/-- A window assembled of its sixteen blocks of rows. -/
def ofRows (g : ℕ → Vec F S256x128 .f32) : Vec F S4096x128 .f32 :=
  fun y => g ((y 0).val / 256) (ix2 (Fin.ofNat 256 ((y 0).val % 256)) (y 1))

theorem eq_ofRows (x : Vec F S4096x128 .f32) (g : ℕ → Vec F S256x128 .f32) (h : ∀ b, b < 16 → rows x b = g b) : x = ofRows g := by
  funext y
  have hy : (y 0).val < 4096 := (y 0).isLt
  unfold ofRows
  rw [← h ((y 0).val / 256) (by omega)]
  refine congrArg x (funext fun d => ?_)
  fin_cases d
  · refine Fin.ext ?_
    show (y 0).val = (256 * ((y 0).val / 256) + (y 0).val % 256 % 256) % 4096
    omega
  · rfl

/-- The query cotangent's window. -/
def outDq (I : In F) : Vec F S4096x128 .f32 := ofRows (dq I)
/-- The key cotangent's. -/
def outDk (I : In F) : Vec F S4096x128 .f32 := ofRows fun b => dk I b 16
/-- The value cotangent's. -/
def outDv (I : In F) : Vec F S4096x128 .f32 := ofRows fun b => dv I b 16
/-- The first head's folded column sums'. -/
def outDc0 (I : In F) : Vec F S4096x128 .f32 := ofRows fun b => dc0 I b 16
/-- The second head's. -/
def outDc1 (I : In F) : Vec F S4096x128 .f32 := ofRows fun b => dc1 I b 16

/-- The blocks of a grid point's windows. -/
def ofWindows (x1 : Vec F S4096x128 .bf16) (x2 : Vec F S4096x128 .bf16) (x3 : Vec F S4096x128 .bf16) (x4 : Vec F S4096x128 .bf16) (x5 : Vec F S128x4096 .bf16) (x6 : Vec F S128x4096 .bf16) (x7 : Vec F S4096x128 .bf16) (x8 : Vec F S16x4096 .f32) (x9 : Vec F S4096x128 .f32) (pid : BitVec 32) : In F where
  q := rows x1
  k := rows x2
  aq := rows x3
  ak := rows x4
  kt := cols x5
  akt := cols x6
  v := rows x7
  lse := cols16 x8
  dO := rows x9
  pid := pid

theorem sound_kernel (c : Dev nD) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole)
    (x1 : Vec F S4096x128 .bf16) (x2 : Vec F S4096x128 .bf16) (x3 : Vec F S4096x128 .bf16) (x4 : Vec F S4096x128 .bf16) (x5 : Vec F S128x4096 .bf16) (x6 : Vec F S128x4096 .bf16) (x7 : Vec F S4096x128 .bf16) (x8 : Vec F S16x4096 .f32) (x9 : Vec F S4096x128 .f32) (I : In F) (hI : I = ofWindows x1 x2 x3 x4 x5 x6 x7 x8 x9 (BitVec.ofNat 32 (i 0).val)) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} f) ∗ (∃ f, arg16.view.loc (c : Thread nD τ) ↦[arg16.view.set]{fullShare} f)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outDq I) ∗ owns (c : Thread nD τ) arg11 fullShare (outDk I) ∗ owns (c : Thread nD τ) arg12 fullShare (outDv I) ∗ owns (c : Thread nD τ) arg13 fullShare (outDc0 I) ∗ owns (c : Thread nD τ) arg14 fullShare (outDc1 I) ∗ (∃ f, arg15.view.loc (c : Thread nD τ) ↦[arg15.view.set]{fullShare} f) ∗ (∃ f, arg16.view.loc (c : Thread nD τ) ↦[arg16.view.set]{fullShare} f)) -∗ K ⟨⟩))
      ⊢ wp frame (wpE (defs₀ (F := F)) Variants.none (c : Thread nD τ) none) E (cc0_fox_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_fox_bwd_eq_skeleton]; unfold cc0_fox_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, H15⟩, ⟨%f16, H16⟩, Hk⟩
  subst hf1 hf2 hf3 hf4 hf5 hf6 hf7 hf8 hf9
  sl_exec
  sl_step
  have ht : Scf.trips k0_t1_loop.lb k0_t1_loop.ub k0_t1_loop.st = 16 := trips1
  rw [ht]
  obtain ⟨h10, h11, h12, h13, h14⟩ := loop_blocks (J := I) (hJ := hI) (hn := le_rfl) (hT := rfl) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) f1 f2 f3 f4 f5 f6 f7 f8 f9
    f10 (arg11.view.writes (Elt F) arg11.view.junk sound_kernel.sl.H11_1) (arg12.view.writes (Elt F) arg12.view.junk sound_kernel.sl.H12_1)
    (arg13.view.writes (Elt F) arg13.view.junk sound_kernel.sl.H13_1) (arg14.view.writes (Elt F) arg14.view.junk sound_kernel.sl.H14_1) f15 f16
  generalize Outer.pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) f1 f2 f3 f4 f5 f6 f7 f8 f9
    f10 (arg11.view.writes (Elt F) arg11.view.junk sound_kernel.sl.H11_1) (arg12.view.writes (Elt F) arg12.view.junk sound_kernel.sl.H12_1)
    (arg13.view.writes (Elt F) arg13.view.junk sound_kernel.sl.H13_1) (arg14.view.writes (Elt F) arg14.view.junk sound_kernel.sl.H14_1) f15 f16 16 = P at *
  iapply Hk

  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    exact eq_ofRows _ _ h10
  isplitl [H11]
  · iexists _; isplitr; swap; · iexact H11
    ipureintro
    rw [View.writes_append]
    refine eq_ofRows _ _ fun b hb => (h11 b hb).trans ?_
    rw [show arg11.view.read (Elt F) (arg11.view.writes (Elt F) arg11.view.junk sound_kernel.sl.H11_1) = k0_pay1 from View.read_writes_full arg11.view _ _ _ []]
    rfl
  isplitl [H12]
  · iexists _; isplitr; swap; · iexact H12
    ipureintro
    rw [View.writes_append]
    refine eq_ofRows _ _ fun b hb => (h12 b hb).trans ?_
    rw [show arg12.view.read (Elt F) (arg12.view.writes (Elt F) arg12.view.junk sound_kernel.sl.H12_1) = k0_pay2 from View.read_writes_full arg12.view _ _ _ []]
    rfl
  isplitl [H13]
  · iexists _; isplitr; swap; · iexact H13
    ipureintro
    rw [View.writes_append]
    refine eq_ofRows _ _ fun b hb => (h13 b hb).trans ?_
    rw [show arg13.view.read (Elt F) (arg13.view.writes (Elt F) arg13.view.junk sound_kernel.sl.H13_1) = k0_pay3 from View.read_writes_full arg13.view _ _ _ []]
    rfl
  isplitl [H14]
  · iexists _; isplitr; swap; · iexact H14
    ipureintro
    rw [View.writes_append]
    refine eq_ofRows _ _ fun b hb => (h14 b hb).trans ?_
    rw [show arg14.view.read (Elt F) (arg14.view.writes (Elt F) arg14.view.junk sound_kernel.sl.H14_1) = k0_pay4 from View.read_writes_full arg14.view _ _ _ []]
    rfl
  isplitl [H15]; · iexists _; iexact H15
  iexists _; iexact H16

variable (m : (ℓ : Loc nD τ sig) → Buf (Elt F) ℓ) (ρ : Dev nD → PrngReg)

/-- The blocks of grid point `t`. -/
def blocks (c : Dev nD) (t : Fin cfg0.N) : In F := ofWindows (iblk m c 0 t) (iblk m c 1 t) (iblk m c 2 t) (iblk m c 3 t) (iblk m c 4 t) (iblk m c 5 t) (iblk m c 6 t) (iblk m c 7 t) (iblk m c 8 t) (BitVec.ofNat 32 (grid0.coords t 0).val)

/-- The pipeline's proof data: each input's buffer at its block, each result's assembled of the recursions' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outDq (blocks m c t)
    | ⟨10, _⟩ => outDk (blocks m c t)
    | ⟨11, _⟩ => outDv (blocks m c t)
    | ⟨12, _⟩ => outDc0 (blocks m c t)
    | ⟨13, _⟩ => outDc1 (blocks m c t)
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outDq (blocks m c t) := by dsimp only [dats]
theorem after0_10 (c : Dev nD) (t : Fin cfg0.N) : (dats m 0 c).after 10 t = outDk (blocks m c t) := by dsimp only [dats]
theorem after0_11 (c : Dev nD) (t : Fin cfg0.N) : (dats m 0 c).after 11 t = outDv (blocks m c t) := by dsimp only [dats]
theorem after0_12 (c : Dev nD) (t : Fin cfg0.N) : (dats m 0 c).after 12 t = outDc0 (blocks m c t) := by dsimp only [dats]
theorem after0_13 (c : Dev nD) (t : Fin cfg0.N) : (dats m 0 c).after 13 t = outDc1 (blocks m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem scratch_eq (c : Dev nD) (b : Ref sig .tc) (f : Buf (Elt F) ((c : Thread nD τ).loc b)) :
    ((c : Thread nD τ).loc b ↦{fullShare} f : sProp 𝕄) = ((View.whole b).loc (c : Thread nD τ) ↦[(View.whole b).set]{fullShare} f) := by
  rw [View.set_whole]

/-- What a grid point owns beside its windows: the two tables at some contents, and the generator's register. -/
theorem own_eq (c : Dev nD) : (Pipeline.ΦA (U := UR sig nD τ) spec0 c : sProp 𝕄)
    = iprop(((∃ f, (Memref.whole cc0_scratch0).view.loc (c : Thread nD τ) ↦[(Memref.whole cc0_scratch0).view.set]{fullShare} f)
        ∗ (∃ f, (Memref.whole cc0_scratch1).view.loc (c : Thread nD τ) ↦[(Memref.whole cc0_scratch1).view.set]{fullShare} f)) ∗ ∃ r, prngReg c r) := by
  unfold Pipeline.ΦA
  rw [scopedRest0_eq]
  simp only [scratch_eq]

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [own_eq]
  iintro ⟨⟨⟨⟨%f15, H15⟩, ⟨%f16, H16⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (blocks m c t) rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H15]; · iexists f15; iexact H15
  isplitl [H16]; · iexists f16; iexact H16
  iintro ⟨H0, H1, H2, H3, H4, H5, H6, H7, H8, H9, H10, H11, H12, H13, ⟨%g15, H15⟩, ⟨%g16, H16⟩⟩
  isplitl [H15 H16 HR]
  · isplitl [H15 H16]
    · isplitl [H15]; · iexists g15; iexact H15
      iexists g16; iexact H16
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: the program ends with every array of the pipeline at what the proof data says, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program ends with its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.KernelIdeal.Body

end
-- ==== Proof.RefFrame.lean ====
/- The reference runs, leaves its arguments as they were and every counter at zero. -/
module

public import proofs.«01_k».proof.Defs
public import proofs.«01_k».proof.Proof.Gen.ReferenceIdeal
public import Idealize.ShloMosaic.Lib.Claim
public import Idealize.ShloMosaic.Lib.Quiescent

public section

set_option maxRecDepth 16384
set_option maxHeartbeats 4000000

open Idealize.ShloMosaic Idealize.ShloMosaic.Tactic

namespace Cert.Proof

theorem frame_reference : Cert.quiescent_ReferenceIdeal (hReferenceIdeal := Cert.ReferenceIdeal.Gen.facts) := by
  intro m g _
  hlo_run
  · exact fun _ => ⟨trivial, trivial, trivial, trivial, trivial⟩
  · exact Idealize.ShloMosaic.sem_eq_zero_of_no_sems (by decide) _

end Cert.Proof

end
-- ==== Proof.Attend.lean ====
/- The mathematics of one head of causal attention over the extended reals: a row's softmax as real numbers, and the gradient of the scores in the two
   forms that are equal. -/
module

public import Idealize.ShloMosaic.Lib.Pointwise

@[expose] public section

noncomputable section

namespace Cert.Attend

open Idealize.ShloMosaic

/-! ## Comparisons of small numbers -/

theorem toInt_small (r : ℕ) (hr : r < 4096) : (BitVec.ofNat 32 r).toInt = r := by
  have h : (BitVec.ofNat 32 r).toNat = r := by rw [BitVec.toNat_ofNat]; omega
  rw [BitVec.toInt_eq_toNat_of_lt (by omega), h]

theorem select_sge (r s : ℕ) (hr : r < 4096) (hs : s < 4096) {α : Type} (a b : α) :
    Scalar.select (IntOp.cmpi CmpIPredicate.sge (BitVec.ofNat 32 r) (BitVec.ofNat 32 s)) a b = if s ≤ r then a else b := by
  have h1 : (BitVec.ofNat 32 r).toInt = r := toInt_small r hr
  have h2 : (BitVec.ofNat 32 s).toInt = s := toInt_small s hs
  by_cases h : s ≤ r
  · simp [Scalar.select, IntOp.cmpi, BitVec.sle, h1, h2, h]
  · simp [Scalar.select, IntOp.cmpi, BitVec.sle, h1, h2, h]

theorem select_slt (r s : ℕ) (hr : r < 4096) (hs : s < 4096) {α : Type} (a b : α) :
    Scalar.select (IntOp.cmpi CmpIPredicate.slt (BitVec.ofNat 32 r) (BitVec.ofNat 32 s)) a b = if r < s then a else b := by
  have h1 : (BitVec.ofNat 32 r).toInt = r := toInt_small r hr
  have h2 : (BitVec.ofNat 32 s).toInt = s := toInt_small s hs
  by_cases h : r < s
  · simp [Scalar.select, IntOp.cmpi, BitVec.slt, h1, h2, h]
  · simp [Scalar.select, IntOp.cmpi, BitVec.slt, h1, h2, h]

theorem select_eq (r s : ℕ) (hr : r < 4096) (hs : s < 4096) {α : Type} (a b : α) :
    Scalar.select (IntOp.cmpi CmpIPredicate.eq (BitVec.ofNat 32 r) (BitVec.ofNat 32 s)) a b = if r = s then a else b := by
  have h0 : BitVec.ofNat 32 r = BitVec.ofNat 32 s ↔ r = s := by
    constructor
    · intro h
      have := congrArg BitVec.toNat h
      simp only [BitVec.toNat_ofNat] at this
      omega
    · rintro rfl; rfl
  by_cases h : r = s
  · simp [Scalar.select, IntOp.cmpi, h]
  · have e : (BitVec.ofNat 32 r == BitVec.ofNat 32 s) = false := by
      rw [beq_eq_false_iff_ne]; exact fun e => h (h0.1 e)
    simp [Scalar.select, IntOp.cmpi, e, h]

/-! ## Sums over the extended reals -/

theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum. -/
theorem mul_sum {ι : Type} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-! ## A row -/

section Row

variable {n : ℕ}

/-- The largest of a row. -/
def top (z : Fin n → EReal) : EReal := Finset.univ.fold max ⊥ z
/-- A row's exponentials, less its largest. -/
def ex (z : Fin n → EReal) (s : Fin n) : EReal := Ideal.exp (z s - top z)
/-- Their sum. -/
def tot (z : Fin n → EReal) : EReal := ∑ s, ex z s
/-- The weights. -/
def prob (z : Fin n → EReal) (s : Fin n) : EReal := Ideal.div (ex z s) (tot z)

/-- A row with no infinite score above and one not at the bottom: its exponentials are nonnegative reals with a positive sum, zero where the score is at
    the bottom, and the exponential less the logarithm of the sum is the quotient by it. -/
theorem row (z : Fin n → EReal) (hz : ∀ s, z s ≠ ⊤) (s0 : Fin n) (h0 : z s0 ≠ ⊥) :
    ∃ (ε : Fin n → ℝ) (σ : ℝ), (∀ s, ex z s = ε s) ∧ tot z = σ ∧ 0 < σ ∧ (∀ s, 0 ≤ ε s) ∧ (∀ s, z s = ⊥ → ε s = 0)
      ∧ ∀ s, Ideal.exp (z s - (top z + Ideal.log (tot z))) = ((ε s / σ : ℝ) : EReal) := by
  have htop : top z ≠ ⊤ := by
    refine ne_of_lt ?_
    unfold top
    rw [Finset.fold_max_lt]
    exact ⟨bot_lt_top, fun s _ => lt_of_le_of_ne le_top (hz s)⟩
  have hbot : top z ≠ ⊥ := by
    refine ne_of_gt (lt_of_lt_of_le (bot_lt_iff_ne_bot.2 h0) ?_)
    unfold top
    rw [Finset.le_fold_max]
    exact .inr ⟨s0, Finset.mem_univ _, le_rfl⟩
  obtain ⟨μ, hμ⟩ : ∃ μ : ℝ, top z = μ := ⟨_, (EReal.coe_toReal htop hbot).symm⟩
  have hcase : ∀ s, z s = ⊥ ∨ ∃ r : ℝ, z s = r := fun s => by
    by_cases h : z s = ⊥
    · exact .inl h
    · exact .inr ⟨_, (EReal.coe_toReal (hz s) h).symm⟩
  let ε : Fin n → ℝ := fun s => if z s = ⊥ then 0 else Real.exp ((z s).toReal - μ)
  have hε : ∀ s, ex z s = ε s := fun s => by
    unfold ex
    rw [hμ]
    rcases hcase s with h | ⟨r, h⟩
    · simp only [ε, h, if_true, EReal.bot_sub, Ideal.exp_bot, EReal.coe_zero]
    · simp only [ε, h, EReal.coe_ne_bot, if_false, EReal.toReal_coe, ← EReal.coe_sub, Ideal.exp_coe]
  have hpos : ∀ s, 0 ≤ ε s := fun s => by
    simp only [ε]; split_ifs
    · exact le_rfl
    · exact (Real.exp_pos _).le
  have hσ : tot z = ((∑ s, ε s : ℝ) : EReal) := by
    unfold tot
    rw [← sum_coe]
    exact Finset.sum_congr rfl fun s _ => hε s
  have hσpos : 0 < ∑ s, ε s := by
    refine lt_of_lt_of_le ?_ (Finset.single_le_sum (fun s _ => hpos s) (Finset.mem_univ s0))
    simp only [ε, h0, if_false]
    exact Real.exp_pos _
  refine ⟨ε, ∑ s, ε s, hε, hσ, hσpos, hpos, fun s h => by simp only [ε, h, if_true], fun s => ?_⟩
  rw [hσ, hμ, Ideal.log_coe, if_neg (not_le.2 hσpos), ← EReal.coe_add]
  rcases hcase s with h | ⟨r, h⟩
  · simp only [ε, h, if_true, EReal.bot_sub, Ideal.exp_bot, zero_div, EReal.coe_zero]
  · have e1 : ε s = Real.exp (r - μ) := by simp only [ε, h, EReal.coe_ne_bot, if_false, EReal.toReal_coe]
    rw [h, ← EReal.coe_sub, Ideal.exp_coe, e1, ← sub_sub, Real.exp_sub _ (Real.log _), Real.exp_log hσpos]

theorem div_real (x : EReal) {σ : ℝ} (hσ : 0 < σ) : Ideal.div x σ = ((1 / σ : ℝ) : EReal) * x := by
  rw [Ideal.div_coe hσ.ne', mul_comm]

/-- The gradient of a row's scores: the weight times the weight's cotangent less the row's correction. -/
def cot (z : Fin n → EReal) (dp : Fin n → EReal) (s : Fin n) : EReal := prob z s * (dp s - ∑ j, prob z j * dp j)

/-- The weights are nonnegative reals. -/
theorem prob_real (z : Fin n → EReal) (hz : ∀ s, z s ≠ ⊤) (s0 : Fin n) (h0 : z s0 ≠ ⊥) :
    ∃ π : Fin n → ℝ, (∀ s, prob z s = π s) ∧ (∀ s, 0 ≤ π s) ∧ (∀ s, z s = ⊥ → π s = 0)
      ∧ ∀ s, Ideal.exp (z s - (top z + Ideal.log (tot z))) = π s := by
  obtain ⟨ε, σ, hε, hσ, hσpos, hpos, hbot, hlse⟩ := row z hz s0 h0
  refine ⟨fun s => ε s / σ, fun s => ?_, fun s => div_nonneg (hpos s) hσpos.le, fun s h => ?_, hlse⟩
  · unfold prob
    rw [hε, hσ, div_real _ hσpos, ← EReal.coe_mul]
    congr 1
    rw [one_div, mul_comm]
    exact (div_eq_mul_inv _ _).symm
  · simp only [hbot s h, zero_div]

/-- The form of a row's gradient that differentiating the exponentials and their sum apart gives. -/
theorem cot_eq (z : Fin n → EReal) (hz : ∀ s, z s ≠ ⊤) (s0 : Fin n) (h0 : z s0 ≠ ⊥) (dp : Fin n → EReal) (s : Fin n) :
    (Ideal.div (dp s) (tot z) + ∑ _x : Fin 1, -∑ j, dp j * Ideal.div 1 (tot z * tot z) * ex z j) * ex z s = cot z dp s := by
  obtain ⟨ε, σ, hε, hσ, hσpos, hpos, hbot, -⟩ := row z hz s0 h0
  have hp : ∀ j, prob z j = ((1 / σ : ℝ) : EReal) * ε j := fun j => by
    unfold prob; rw [hε, hσ, div_real _ hσpos]
  have h1 : (0 : ℝ) ≤ 1 / σ := (one_div_pos.2 hσpos).le
  unfold cot
  rw [Fin.sum_univ_one]
  have e1 : (∑ j, dp j * Ideal.div 1 (tot z * tot z) * ex z j) = ((1 / σ : ℝ) : EReal) * ∑ j, prob z j * dp j := by
    rw [mul_sum _ h1]
    refine Finset.sum_congr rfl fun j _ => ?_
    rw [hp, hε, hσ, ← EReal.coe_mul, div_real _ (mul_pos hσpos hσpos), mul_one, show (1 / (σ * σ) : ℝ) = 1 / σ * (1 / σ) from by rw [one_div_mul_one_div], EReal.coe_mul]
    ac_rfl
  rw [e1, hσ, div_real _ hσpos, hp, hε]
  rw [show -(((1 / σ : ℝ) : EReal) * ∑ j, prob z j * dp j) = ((1 / σ : ℝ) : EReal) * -∑ j, prob z j * dp j from (mul_neg _ _).symm,
    ← EReal.left_distrib_of_nonneg_of_ne_top (by exact_mod_cast h1) (EReal.coe_ne_top _), sub_eq_add_neg]
  ac_rfl

/-- Where the score is at the bottom the gradient is zero. -/
theorem cot_bot (z : Fin n → EReal) (hz : ∀ s, z s ≠ ⊤) (s0 : Fin n) (h0 : z s0 ≠ ⊥) (dp : Fin n → EReal) (s : Fin n) (hs : z s = ⊥) : cot z dp s = 0 := by
  obtain ⟨π, hπ, -, hb, -⟩ := prob_real z hz s0 h0
  unfold cot
  rw [hπ s, hb s hs, EReal.coe_zero, zero_mul]

end Row

/-! ## The heads of an attention layer -/

section Heads

/-- Lane `d` of head `h`. -/
def lane (h : Fin 16) (d : Fin 64) : Fin 1024 := ⟨↑h * 64 + ↑d, by omega⟩
/-- The head of a lane. -/
def headOf (l : Fin 1024) : Fin 16 := ⟨↑l / 64, by omega⟩

variable (Q K V G : Fin 4096 → Fin 1024 → EReal) (C : Fin 4096 → Fin 16 → EReal)

/-- The score of query `r` and key `s`. -/
def score (h : Fin 16) (r s : Fin 4096) : EReal := ∑ x, Q r (lane h x) * K s (lane h x) + C r h - C s h
/-- The same, at the bottom where the key is after the query. -/
def seenScore (h : Fin 16) (r s : Fin 4096) : EReal := if (s : ℕ) ≤ r then score Q K C h r s else ⊥
/-- The weight's cotangent. -/
def weightCot (h : Fin 16) (r s : Fin 4096) : EReal := ∑ x, G r (lane h x) * V s (lane h x)
/-- The score's cotangent. -/
def scoreCot (h : Fin 16) (r s : Fin 4096) : EReal := cot (seenScore Q K C h r) (weightCot V G h r) s
/-- The query cotangent. -/
def dq (r : Fin 4096) (l : Fin 1024) : EReal := ∑ s, scoreCot Q K V G C (headOf l) r s * K s l
/-- The key cotangent. -/
def dk (s : Fin 4096) (l : Fin 1024) : EReal := ∑ r, scoreCot Q K V G C (headOf l) r s * Q r l
/-- The value cotangent. -/
def dv (s : Fin 4096) (l : Fin 1024) : EReal := ∑ r, G r l * prob (seenScore Q K C (headOf l) r) s

variable {Q K V G C}

/-- A finite score is a real number. -/
theorem score_real (hQ : ∀ r l, ∃ x : ℝ, Q r l = x) (hK : ∀ r l, ∃ x : ℝ, K r l = x) (hC : ∀ r h, ∃ x : ℝ, C r h = x) (h : Fin 16) (r s : Fin 4096) :
    ∃ x : ℝ, score Q K C h r s = x := by
  choose q hq using hQ
  choose k hk using hK
  choose c hc using hC
  refine ⟨∑ x, q r (lane h x) * k s (lane h x) + c r h - c s h, ?_⟩
  unfold score
  rw [EReal.coe_sub, EReal.coe_add, ← sum_coe, hc, hc]
  refine congrArg (· + ((c r h : ℝ) : EReal) - c s h) (Finset.sum_congr rfl fun x _ => ?_)
  rw [hq, hk, EReal.coe_mul]

theorem seenScore_ne_top (hQ : ∀ r l, ∃ x : ℝ, Q r l = x) (hK : ∀ r l, ∃ x : ℝ, K r l = x) (hC : ∀ r h, ∃ x : ℝ, C r h = x) (h : Fin 16) (r s : Fin 4096) :
    seenScore Q K C h r s ≠ ⊤ := by
  unfold seenScore
  split_ifs
  · obtain ⟨x, hx⟩ := score_real hQ hK hC h r s
    rw [hx]; exact EReal.coe_ne_top x
  · exact bot_ne_top

theorem seenScore_self (hQ : ∀ r l, ∃ x : ℝ, Q r l = x) (hK : ∀ r l, ∃ x : ℝ, K r l = x) (hC : ∀ r h, ∃ x : ℝ, C r h = x) (h : Fin 16) (r : Fin 4096) :
    seenScore Q K C h r r ≠ ⊥ := by
  unfold seenScore
  rw [if_pos le_rfl]
  obtain ⟨x, hx⟩ := score_real hQ hK hC h r r
  rw [hx]; exact EReal.coe_ne_bot x

end Heads

end Cert.Attend

end
-- ==== Proof.Entry.lean ====
/- What the kernel's windows hold at the launch, as terms of the arguments, and each read at an index. -/
module

public import proofs.«01_k».proof.Proof.Body
public import proofs.«01_k».proof.Proof.Attend
public import Idealize.ShloMosaic.Lib.Claim
public import Idealize.ShloMosaic.Lib.Quiescent
public import Idealize.ShloMosaic.Lib.Pipeline.ValueKit

@[expose] public section

set_option maxRecDepth 16384

noncomputable section

namespace Cert.KernelIdeal.Entry

open Idealize.ShloMosaic Cert.KernelIdeal Idealize.ShloMosaic.TcCoe Idealize.ShloMosaic.Tactic
open Cert.Attend hiding dq dk dv

/-! ## The stages -/

/-- A forget gate's sum rounded. -/
def part (c : FVec Ideal S4096x16 .f32) : FVec Ideal S4096x16 .f32 := extf .f32 (truncf .bf16 c Gen.bitsLt_bf16_f32) Gen.bitsLt_bf16_f32
/-- What the rounding left. -/
def rest (c : FVec Ideal S4096x16 .f32) : FVec Ideal S4096x16 .f32 := subf c (part c)
/-- One lane of each head. -/
def column (c : FVec Ideal S4096x16 .f32) : FVec Ideal S4096x16x1 .f32 := broadcastInDim S4096x16x1 ![0, 1] Gen.bcast_S4096x16_S4096x16x1_0_1 c
/-- A lane of ones. -/
def one : FVec Ideal S4096x16x1 .f32 := broadcastInDim S4096x16x1 ![] Gen.bcast_S_S4096x16x1 (constant S_ .f32 0x3F800000#32)
/-- The lanes of a head: six taken and the rest zero. -/
def lanes (a b c d e f : FVec Ideal S4096x16x1 .f32) : FVec Ideal S4096x16x64 .f32 :=
  concatenate S4096x16x64 2 [⟨S4096x16x1, a⟩, ⟨S4096x16x1, b⟩, ⟨S4096x16x1, c⟩, ⟨S4096x16x1, d⟩, ⟨S4096x16x1, e⟩, ⟨S4096x16x1, f⟩,
    ⟨S4096x16x58, broadcastInDim S4096x16x58 ![] Gen.bcast_S_S4096x16x58 (constant (F := Ideal) S_ .f32 0x00000000#32)⟩]
    Gen.concatenates_S4096x16x1_S4096x16x1_S4096x16x1_S4096x16x1_S4096x16x1_S4096x16x1_S4096x16x58_S4096x16x64_d2
/-- The heads of each pair exchanged. -/
def swap (x : FVec Ideal S4096x16x64 .f32) : FVec Ideal S4096x1024 .f32 :=
  shapeCast S4096x1024 (concatenate S4096x8x2x64 2
    [⟨S4096x8x1x64, extractStridedSlice S4096x8x1x64 ![0, 0, 1, 0] (shapeCast S4096x8x2x64 x Gen.shapeCasts_S4096x16x64_S4096x8x2x64) Gen.slices_S4096x8x2x64_S4096x8x1x64_0_0_1_0⟩,
     ⟨S4096x8x1x64, extractStridedSlice S4096x8x1x64 ![0, 0, 0, 0] (shapeCast S4096x8x2x64 x Gen.shapeCasts_S4096x16x64_S4096x8x2x64) Gen.slices_S4096x8x2x64_S4096x8x1x64_0_0_0_0⟩]
    Gen.concatenates_S4096x8x1x64_S4096x8x1x64_S4096x8x2x64_d2) Gen.shapeCasts_S4096x8x2x64_S4096x1024
/-- The queries' bias lanes. -/
def aq (c : FVec Ideal S4096x16 .f32) : FVec Ideal S4096x1024 .bf16 :=
  truncf .bf16 (swap (lanes (column (part c)) (column (part (rest c))) (column (part (rest (rest c)))) one one one)) Gen.bitsLt_bf16_f32
/-- The keys' bias lanes. -/
def ak (c : FVec Ideal S4096x16 .f32) : FVec Ideal S4096x1024 .bf16 :=
  truncf .bf16 (swap (lanes one one one (Host.negf (column (part c))) (Host.negf (column (part (rest c)))) (Host.negf (column (part (rest (rest c))))))) Gen.bitsLt_bf16_f32
/-- An array of 1024 lanes turned. -/
def turned (x : FVec Ideal S4096x1024 .bf16) : FVec Ideal S1024x4096 .bf16 := transpose S1024x4096 [1, 0] x Gen.transposes_S4096x1024_S1024x4096_1_0
/-- The heads of an array apart. -/
def heads (x : FVec Ideal S4096x1024 .bf16) : FVec Ideal S16x4096x64 .f32 :=
  transpose S16x4096x64 [1, 0, 2] (shapeCast S4096x16x64 (extf .f32 x Gen.bitsLt_bf16_f32) Gen.shapeCasts_S4096x1024_S4096x16x64) Gen.transposes_S4096x16x64_S16x4096x64_1_0_2
/-- Where the query is not before the key. -/
def seen : IVec S16x4096x4096 1 := cmpi .sge (iotaInDim S16x4096x4096 32 1) (iotaInDim S16x4096x4096 32 2)
/-- The scores, with no regard to which key is after the query. -/
def plain (q k : FVec Ideal S4096x1024 .bf16) (c : FVec Ideal S4096x16 .f32) : FVec Ideal S16x4096x4096 .f32 :=
  subf (addf (Host.dotGeneral (F := Ideal) dot_S16x4096x64_S16x4096x64_S16x4096x4096_2_2_1_1_0_0 none (heads q) (heads k))
      (broadcastInDim S16x4096x4096 ![0, 1, 2] Gen.bcast_S16x4096x1_S16x4096x4096_0_1_2 (broadcastInDim S16x4096x1 ![0, 1] Gen.bcast_S16x4096_S16x4096x1_0_1 (transpose S16x4096 [1, 0] c Gen.transposes_S4096x16_S16x4096_1_0))))
      (broadcastInDim S16x4096x4096 ![0, 1, 2] Gen.bcast_S16x1x4096_S16x4096x4096_0_1_2 (broadcastInDim S16x1x4096 ![0, 2] Gen.bcast_S16x4096_S16x1x4096_0_2 (transpose S16x4096 [1, 0] c Gen.transposes_S4096x16_S16x4096_1_0)))
/-- The scores, at the bottom where the key is after the query. -/
def scores (q k : FVec Ideal S4096x1024 .bf16) (c : FVec Ideal S4096x16 .f32) : FVec Ideal S16x4096x4096 .f32 :=
  select seen (plain q k c) (broadcastInDim S16x4096x4096 ![] Gen.bcast_S_S16x4096x4096 (constant S_ .f32 0xFF800000#32))
/-- The largest of each row. -/
def tops (z : FVec Ideal S16x4096x4096 .f32) : FVec Ideal S16x4096 .f32 :=
  Host.reduce FloatOps.maximumf z (constant S_ .f32 0xFF800000#32) Gen.reducesTo_S16x4096x4096_S16x4096_d2 Gen.h_S_
/-- The same in an array with a lane. -/
def lone (z : FVec Ideal S16x4096 .f32) : FVec Ideal S16x4096x1 .f32 := broadcastInDim S16x4096x1 ![0, 1] Gen.bcast_S16x4096_S16x4096x1_0_1 z
/-- The exponentials of the scores less each row's largest. -/
def exps (z : FVec Ideal S16x4096x4096 .f32) : FVec Ideal S16x4096x4096 .f32 :=
  Host.exp (subf z (broadcastInDim S16x4096x4096 ![0, 1, 2] Gen.bcast_S16x4096x1_S16x4096x4096_0_1_2 (lone (tops z))))
/-- Each row's sum of exponentials. -/
def sums (z : FVec Ideal S16x4096x4096 .f32) : FVec Ideal S16x4096 .f32 :=
  Host.reduceAdd (exps z) (constant S_ .f32 0x00000000#32) Gen.reducesTo_S16x4096x4096_S16x4096_d2 Gen.h_S_
/-- The logarithm of each row's sum of exponentials. -/
def saved (z : FVec Ideal S16x4096x4096 .f32) : FVec Ideal S16x4096 .f32 :=
  shapeCast S16x4096 (addf (lone (tops z)) (Host.log (lone (sums z)))) Gen.shapeCasts_S16x4096x1_S16x4096

/-! ## The stages read at an index -/

/-- The other head of a pair. -/
def other (h : Fin 16) : Fin 16 := ⟨2 * ((h : ℕ) / 2) + (1 - (h : ℕ) % 2), by omega⟩

theorem swap_at (x : FVec Ideal S4096x16x64 .f32) (r : Fin 4096) (h : Fin 16) (d : Fin 64) : swap x (ix2 r (lane (other h) d)) = x (ix3 r h d) := by
  have e : ∀ l : Fin 1024, swap x (ix2 r l) = x (ix3 r (other (headOf l)) ⟨↑l % 64, Nat.mod_lt _ (by decide)⟩) := fun l => by
    pointwise [swap]
    split_ifs with hl <;> refine congrArg x (congrArg₂ (ix3 r) (Fin.ext ?_) (Fin.ext ?_)) <;> dsimp only [other, headOf] <;> omega
  rw [e]
  refine congrArg x (congrArg₂ (ix3 r) (Fin.ext ?_) (Fin.ext ?_)) <;> dsimp only [other, headOf, lane] <;> omega

theorem lanes_at (a b c d e f : FVec Ideal S4096x16x1 .f32) (r : Fin 4096) (h : Fin 16) (x : Fin 64) : lanes a b c d e f (ix3 r h x)
    = if ((x : ℕ) < 1) then a (ix3 r h 0) else if ((x : ℕ) - 1 < 1) then b (ix3 r h 0) else if ((x : ℕ) - 1 - 1 < 1) then c (ix3 r h 0) else if ((x : ℕ) - 1 - 1 - 1 < 1) then d (ix3 r h 0) else if ((x : ℕ) - 1 - 1 - 1 - 1 < 1) then e (ix3 r h 0) else if ((x : ℕ) - 1 - 1 - 1 - 1 - 1 < 1) then f (ix3 r h 0) else 0 := by
  pointwise [lanes]
  have z : ∀ u v : Fin 1, u = v := fun u v => Subsingleton.elim u v
  split_ifs <;> first | rfl | exact congrArg _ (congrArg (ix3 r h) (z _ _))

theorem part_at (c : FVec Ideal S4096x16 .f32) (r : Fin 4096) (h : Fin 16) : part c (ix2 r h) = c (ix2 r h) := by
  pointwise [part]

theorem rest_at (c : FVec Ideal S4096x16 .f32) (r : Fin 4096) (h : Fin 16) : rest c (ix2 r h) = c (ix2 r h) - c (ix2 r h) := by
  pointwise [rest, part]

theorem column_at (c : FVec Ideal S4096x16 .f32) (r : Fin 4096) (h : Fin 16) : column c (ix3 r h 0) = c (ix2 r h) := by
  pointwise [column]

theorem negf_column_at (c : FVec Ideal S4096x16 .f32) (r : Fin 4096) (h : Fin 16) : Host.negf (column c) (ix3 r h 0) = -c (ix2 r h) := by
  pointwise [column]

theorem one_at (r : Fin 4096) (h : Fin 16) : one (ix3 r h 0) = 1 := by
  pointwise [one]

theorem aq_at (c : FVec Ideal S4096x16 .f32) (hc : ∀ (r : Fin 4096) (h : Fin 16), ∃ x : ℝ, c (ix2 r h) = x) (r : Fin 4096) (h : Fin 16) (d : Fin 64) :
    aq c (ix2 r (lane (other h) d)) = if ((d : ℕ) < 1) then c (ix2 r h) else if ((d : ℕ) - 1 < 1) then 0 else if ((d : ℕ) - 1 - 1 < 1) then 0 else if ((d : ℕ) - 1 - 1 - 1 < 1) then 1 else if ((d : ℕ) - 1 - 1 - 1 - 1 < 1) then 1 else if ((d : ℕ) - 1 - 1 - 1 - 1 - 1 < 1) then 1 else 0 := by
  refine (swap_at _ r h d).trans ?_
  obtain ⟨x, hx⟩ := hc r h
  have hz : ((x : ℝ) : EReal) - x = 0 := by rw [← EReal.coe_sub, sub_self]; rfl
  rw [lanes_at, column_at, column_at, column_at, one_at, part_at, part_at, part_at, rest_at, rest_at, rest_at, hx, hz, sub_zero]

theorem ak_at (c : FVec Ideal S4096x16 .f32) (hc : ∀ (r : Fin 4096) (h : Fin 16), ∃ x : ℝ, c (ix2 r h) = x) (r : Fin 4096) (h : Fin 16) (d : Fin 64) :
    ak c (ix2 r (lane (other h) d)) = if ((d : ℕ) < 1) then 1 else if ((d : ℕ) - 1 < 1) then 1 else if ((d : ℕ) - 1 - 1 < 1) then 1 else if ((d : ℕ) - 1 - 1 - 1 < 1) then -c (ix2 r h) else if ((d : ℕ) - 1 - 1 - 1 - 1 < 1) then 0 else if ((d : ℕ) - 1 - 1 - 1 - 1 - 1 < 1) then 0 else 0 := by
  refine (swap_at _ r h d).trans ?_
  obtain ⟨x, hx⟩ := hc r h
  have hz : ((x : ℝ) : EReal) - x = 0 := by rw [← EReal.coe_sub, sub_self]; rfl
  rw [lanes_at, negf_column_at, negf_column_at, negf_column_at, one_at, part_at, part_at, part_at, rest_at, rest_at, rest_at, hx, hz, sub_zero, neg_zero]

/-- The bias lanes multiply to the difference of the query's and the key's bias. -/
theorem bias (c : FVec Ideal S4096x16 .f32) (hc : ∀ (r : Fin 4096) (h : Fin 16), ∃ x : ℝ, c (ix2 r h) = x) (r s : Fin 4096) (h : Fin 16) :
    ∑ d, ak c (ix2 s (lane (other h) d)) * aq c (ix2 r (lane (other h) d)) = c (ix2 r h) - c (ix2 s h) := by
  have e : ∀ d : Fin 64, ak c (ix2 s (lane (other h) d)) * aq c (ix2 r (lane (other h) d)) = (if d = 0 then c (ix2 r h) else 0) + if d = 3 then -c (ix2 s h) else 0 := fun d => by
    rw [aq_at c hc, ak_at c hc]
    by_cases h0 : d = 0
    · subst h0; simp
    by_cases h3 : d = 3
    · subst h3; simp
    have h0' : (d : ℕ) ≠ 0 := fun h => h0 (Fin.ext h)
    have h3' : (d : ℕ) ≠ 3 := fun h => h3 (Fin.ext h)
    rw [if_neg h0, if_neg h3]
    split_ifs <;> first | (exfalso; omega) | simp
  rw [Finset.sum_congr rfl fun d _ => e d, Finset.sum_add_distrib, Finset.sum_ite_eq', Finset.sum_ite_eq', if_pos (Finset.mem_univ _), if_pos (Finset.mem_univ _), sub_eq_add_neg]

theorem turned_at (x : FVec Ideal S4096x1024 .bf16) (r : Fin 4096) (l : Fin 1024) : turned x (ix2 l r) = x (ix2 r l) := by
  pointwise [turned]

theorem neg_inf : Ideal.ofBits FTy.f32 4286578688#32 = ⊥ := by simp [Ideal.ofBits, Ideal.ieee]

theorem scores_at (q k : FVec Ideal S4096x1024 .bf16) (c : FVec Ideal S4096x16 .f32) (h : Fin 16) (r s : Fin 4096) :
    scores q k c (ix3 h r s) = seenScore (fun r l => q (ix2 r l)) (fun r l => k (ix2 r l)) (fun r h => c (ix2 r h)) h r s := by
  pointwise [scores, plain, seen, heads]
  rw [select_sge _ _ r.isLt s.isLt, neg_inf]
  rfl

theorem tops_at (z : FVec Ideal S16x4096x4096 .f32) (h : Fin 16) (r : Fin 4096) : tops z (ix2 h r) = top fun s => z (ix3 h r s) := by
  unfold tops top
  have e := Host.reduce_eq_fold (α := EReal) max z (constant (F := Ideal) S_ .f32 0xFF800000#32) Gen.reducesTo_S16x4096x4096_S16x4096_d2 Gen.h_S_ (ix2 h r)
  rw [show ∀ i, constant (F := Ideal) S_ .f32 0xFF800000#32 i = ⊥ from fun _ => neg_inf] at e
  exact e.trans (Shape.ReducesTo.fold_fiber_r3_a2 Gen.reducesTo_S16x4096x4096_S16x4096_d2 (ix2 h r) max ⊥ z)

theorem exps_at (z : FVec Ideal S16x4096x4096 .f32) (h : Fin 16) (r s : Fin 4096) : exps z (ix3 h r s) = ex (fun s => z (ix3 h r s)) s := by
  pointwise [exps, lone]
  unfold ex
  rw [tops_at]

theorem sums_at (z : FVec Ideal S16x4096x4096 .f32) (h : Fin 16) (r : Fin 4096) : sums z (ix2 h r) = tot fun s => z (ix3 h r s) := by
  pointwise [sums]
  unfold tot
  simp only [exps_at]

theorem lone_at (z : FVec Ideal S16x4096 .f32) (h : Fin 16) (r : Fin 4096) (i : Fin 1) : lone z (ix3 h r i) = z (ix2 h r) := by
  pointwise [lone]

theorem flat_at (x : FVec Ideal S16x4096x1 .f32) (h : Fin 16) (r : Fin 4096) : shapeCast S16x4096 x Gen.shapeCasts_S16x4096x1_S16x4096 (ix2 h r) = x (ix3 h r 0) := by
  pointwise

theorem add_log {s : Shape} (a b : FVec Ideal s .f32) (i : s.Idx) : addf a (Host.log b) i = a i + Ideal.log (b i) := rfl

theorem saved_at (z : FVec Ideal S16x4096x4096 .f32) (h : Fin 16) (r : Fin 4096) : saved z (ix2 h r) = top (fun s => z (ix3 h r s)) + Ideal.log (tot fun s => z (ix3 h r s)) := by
  unfold saved
  rw [flat_at, add_log, lone_at, lone_at, tops_at, sums_at]

/-! ## The windows' arrays -/

variable (m : (ℓ : Loc nD τ sig) → Buf (Elt Ideal) ℓ) (c : Dev nD)

set_option maxHeartbeats 4000000 in
theorem V_aq : Gen.V m c main_v19 = aq (m ((c : Thread nD τ).loc main_arg3)) := by
  entry_read
  rfl

set_option maxHeartbeats 4000000 in
theorem V_ak : Gen.V m c main_v30 = ak (m ((c : Thread nD τ).loc main_arg3)) := by
  entry_read
  rfl

set_option maxHeartbeats 4000000 in
theorem V_kt : Gen.V m c main_v31 = turned (m ((c : Thread nD τ).loc main_arg1)) := by
  entry_read
  rfl

/-! The saved logarithms are made by three groups of operations, read one after another. -/

variable (σ : (b : DevRef τ sig) → Buf (Elt Ideal) ((c, b) : Loc nD τ sig))

set_option maxHeartbeats 4000000 in
theorem group2 : StableHlo.after Gen.hostOps0_2 σ (Proc.tc.devRef main_v60) = saved (σ (Proc.tc.devRef main_v50)) := by
  entry_read
  rfl

set_option maxHeartbeats 4000000 in
theorem group1 : StableHlo.after Gen.hostOps0_1 σ (Proc.tc.devRef main_v50) = select (σ (Proc.tc.devRef main_v49)) (σ (Proc.tc.devRef main_v46))
    (broadcastInDim S16x4096x4096 ![] Gen.bcast_S_S16x4096x4096 (σ (Proc.tc.devRef main_cst_2) : FVec Ideal S_ .f32)) := by
  entry_read
  rfl

set_option maxHeartbeats 4000000 in
theorem group0_seen : StableHlo.after Gen.hostOps0 σ (Proc.tc.devRef main_v49) = seen := by
  entry_read
  rfl

set_option maxHeartbeats 4000000 in
theorem group0_bottom : StableHlo.after Gen.hostOps0 σ (Proc.tc.devRef main_cst_2) = constant (F := Ideal) S_ .f32 0xFF800000#32 := by
  entry_read
  rfl

set_option maxHeartbeats 4000000 in
theorem group0_scores : StableHlo.after Gen.hostOps0 σ (Proc.tc.devRef main_v46)
    = plain (σ (Proc.tc.devRef main_arg0)) (σ (Proc.tc.devRef main_arg1)) (σ (Proc.tc.devRef main_arg3)) := by
  entry_read
  rfl

theorem V_lse : Gen.V m c main_v60 = saved (scores (m ((c : Thread nD τ).loc main_arg0)) (m ((c : Thread nD τ).loc main_arg1)) (m ((c : Thread nD τ).loc main_arg3))) := by
  have e : Gen.V m c main_v60 = StableHlo.after Gen.hostOps0_2 (StableHlo.after Gen.hostOps0_1 (StableHlo.after Gen.hostOps0 fun b => m (c, b))) (Proc.tc.devRef main_v60) := by
    unfold Gen.V
    rw [List.flatten_cons, List.flatten_cons, List.flatten_cons, List.flatten_nil, List.append_nil, StableHlo.after_append, StableHlo.after_append]
  rw [e, group2 c, group1 c, group0_seen c, group0_bottom c, group0_scores c]
  rfl

end Cert.KernelIdeal.Entry

end
-- ==== Proof.Words.lean ====
/- The kernel's words read at an index. -/
module

public import proofs.«01_k».proof.Proof.Gen.KernelIdeal.Skeleton
public import proofs.«01_k».proof.Proof.Spec
public import proofs.«01_k».proof.Proof.Attend

@[expose] public section

set_option maxRecDepth 16384

noncomputable section

namespace Cert.KernelIdeal.Words

open Idealize.ShloMosaic Cert.KernelIdeal Cert.KernelIdeal.Gen Cert.KernelIdeal.Spec
open Cert.Attend hiding dq dk dv

/-- A lane of the first head of a pair. -/
theorem lane_lt (x : Fin 128) {α : Type} (a b : α) :
    Scalar.select (IntOp.cmpi CmpIPredicate.slt (BitVec.ofNat 32 (x : ℕ)) 64#32) a b = if (x : ℕ) < 64 then a else b :=
  select_slt x 64 (by omega) (by norm_num) a b

theorem mask_bot : Named.named (F := Ideal) (φ := .f32) κ "mask" 4048155338#32 = (⊥ : EReal) := rfl

/-- A row of keys, of its own lanes and its added ones, against a row of queries. -/
def mix (k ak qa : Vec Ideal S256x128 .bf16) (i j : Fin 256) : EReal :=
  ∑ x : Fin 128, (if (x : ℕ) < 64 then k (ix2 i x) else ak (ix2 i x)) * qa (ix2 j x)

theorem pay9_at (qa : Vec Ideal S256x128 .bf16) (l : FVec Ideal S1x256 .f32) (k ak : Vec Ideal S256x128 .bf16) (i j : Fin 256) :
    k0_pay9 (F := Ideal) k0_pay5 qa l k ak (ix2 i j) = Ideal.exp (mix k ak qa i j - l (ix2 0 j)) := by
  pointwise [k0_pay9, k0_pay8, k0_pay5]
  simp only [lane_lt]
  rfl

theorem pay10_at (qa : Vec Ideal S256x128 .bf16) (l : FVec Ideal S1x256 .f32) (k ak : Vec Ideal S256x128 .bf16) (i j : Fin 256) :
    k0_pay10 (F := Ideal) k0_pay5 qa l k ak (ix2 i j) = Ideal.exp (mix ak k qa i j - l (ix2 0 j)) := by
  pointwise [k0_pay10, k0_pay8, k0_pay5]
  simp only [lane_lt]
  rfl

theorem pay50_at (qa : Vec Ideal S256x128 .bf16) (l : FVec Ideal S1x256 .f32) (k ak : Vec Ideal S256x128 .bf16) (i j : Fin 256) :
    k0_pay50 (F := Ideal) k0_pay5 k0_pay7 qa l k ak (ix2 i j) = Ideal.exp ((if (i : ℕ) ≤ j then mix k ak qa i j else ⊥) - l (ix2 0 j)) := by
  pointwise [k0_pay50, k0_pay49, k0_pay5, k0_pay7]
  simp only [lane_lt, select_sge (j : ℕ) (i : ℕ) (by omega) (by omega), mask_bot]
  rfl

theorem pay51_at (qa : Vec Ideal S256x128 .bf16) (l : FVec Ideal S1x256 .f32) (k ak : Vec Ideal S256x128 .bf16) (i j : Fin 256) :
    k0_pay51 (F := Ideal) k0_pay5 k0_pay7 qa l k ak (ix2 i j) = Ideal.exp ((if (i : ℕ) ≤ j then mix ak k qa i j else ⊥) - l (ix2 0 j)) := by
  pointwise [k0_pay51, k0_pay49, k0_pay5, k0_pay7]
  simp only [lane_lt, select_sge (j : ℕ) (i : ℕ) (by omega) (by omega), mask_bot]
  rfl

theorem pay33_at (q aq : Vec Ideal S256x128 .bf16) (i : Fin 256) (l : Fin 128) :
    k0_pay33 (F := Ideal) k0_pay5 q aq (ix2 i l) = if (l : ℕ) < 64 then q (ix2 i l) else aq (ix2 i l) := by
  pointwise [k0_pay33, k0_pay5, k0_pay32]
  simp only [lane_lt]

theorem pay34_at (q aq : Vec Ideal S256x128 .bf16) (i : Fin 256) (l : Fin 128) :
    k0_pay34 (F := Ideal) k0_pay5 q aq (ix2 i l) = if (l : ℕ) < 64 then aq (ix2 i l) else q (ix2 i l) := by
  pointwise [k0_pay34, k0_pay5, k0_pay32]
  simp only [lane_lt]

theorem pay35_at (g : Vec Ideal S256x128 .f32) (i : Fin 256) (l : Fin 128) :
    k0_pay35 (F := Ideal) k0_pay5 g (ix2 i l) = if (l : ℕ) < 64 then g (ix2 i l) else 0 := by
  pointwise [k0_pay35, k0_pay5]
  simp only [lane_lt]

theorem pay36_at (g : Vec Ideal S256x128 .f32) (i : Fin 256) (l : Fin 128) :
    k0_pay36 (F := Ideal) k0_pay5 g (ix2 i l) = if (l : ℕ) < 64 then 0 else g (ix2 i l) := by
  pointwise [k0_pay36, k0_pay5]
  simp only [lane_lt]

theorem pay38_at (p : Fin 8) (q : Vec Ideal S16x256 .f32) (i : Fin 256) : k0_pay38 (F := Ideal) (BitVec.ofNat 32 (p : ℕ)) q (ix2 0 i) = q (ix2 ⟨2 * (p : ℕ), by omega⟩ i) := by
  pointwise [k0_pay38, k0_pay37]
  have hw : Scalar.muli (2#32) (BitVec.ofNat 32 (p : ℕ)) = BitVec.ofNat 32 (2 * (p : ℕ)) := by revert p; decide
  have e : ∀ x : Fin 16, Scalar.select (IntOp.cmpi CmpIPredicate.eq (BitVec.ofNat 32 (x : ℕ)) (Scalar.muli (2#32) (BitVec.ofNat 32 (p : ℕ)))) (q (ix2 x i)) (0 : EReal) = if x = ⟨2 * (p : ℕ), by omega⟩ then q (ix2 x i) else 0 := fun x => by
    rw [hw, select_eq x (2 * (p : ℕ)) (by omega) (by omega)]
    by_cases hx : (x : ℕ) = 2 * (p : ℕ)
    · rw [if_pos hx, if_pos (Fin.ext hx)]
    · rw [if_neg hx, if_neg fun h => hx (congrArg Fin.val h)]
  rw [Finset.sum_congr rfl fun x _ => e x, Finset.sum_ite_eq', if_pos (Finset.mem_univ _)]

theorem pay39_at (p : Fin 8) (q : Vec Ideal S16x256 .f32) (i : Fin 256) : k0_pay39 (F := Ideal) (BitVec.ofNat 32 (p : ℕ)) q (ix2 0 i) = q (ix2 ⟨2 * (p : ℕ) + 1, by omega⟩ i) := by
  pointwise [k0_pay39, k0_pay37]
  have hw : Scalar.addi (Scalar.muli (2#32) (BitVec.ofNat 32 (p : ℕ))) 1#32 = BitVec.ofNat 32 (2 * (p : ℕ) + 1) := by revert p; decide
  have e : ∀ x : Fin 16, Scalar.select (IntOp.cmpi CmpIPredicate.eq (BitVec.ofNat 32 (x : ℕ)) (Scalar.addi (Scalar.muli (2#32) (BitVec.ofNat 32 (p : ℕ))) 1#32)) (q (ix2 x i)) (0 : EReal) = if x = ⟨2 * (p : ℕ) + 1, by omega⟩ then q (ix2 x i) else 0 := fun x => by
    rw [hw, select_eq x (2 * (p : ℕ) + 1) (by omega) (by omega)]
    by_cases hx : (x : ℕ) = 2 * (p : ℕ) + 1
    · rw [if_pos hx, if_pos (Fin.ext hx)]
    · rw [if_neg hx, if_neg fun h => hx (congrArg Fin.val h)]
  rw [Finset.sum_congr rfl fun x _ => e x, Finset.sum_ite_eq', if_pos (Finset.mem_univ _)]

theorem pay43_at (d : FVec Ideal S1x256 .f32) (p dp : FVec Ideal S256x256 .f32) (j : Fin 256) :
    k0_pay43 (F := Ideal) d p dp (ix2 0 j) = d (ix2 0 j) + ∑ x : Fin 256, p (ix2 x j) * dp (ix2 x j) := by
  pointwise [k0_pay43]

theorem pay44_at (d : FVec Ideal S1x256 .f32) (p dp : FVec Ideal S256x256 .f32) (j : Fin 256) :
    k0_pay44 (F := Ideal) d p dp (ix2 0 j) = d (ix2 0 j) + ∑ x : Fin 256, p (ix2 x j) * dp (ix2 x j) := by
  pointwise [k0_pay44]

theorem pay24_at (d : FVec Ideal S1x256 .f32) (p dp : FVec Ideal S256x256 .f32) (i j : Fin 256) :
    k0_pay24 (F := Ideal) d (k0_pay41 p) (k0_pay41 dp) (ix2 i j) = p (ix2 i j) * (dp (ix2 i j) - d (ix2 0 j)) := by
  pointwise [k0_pay24, k0_pay41]

theorem pay25_at (d : FVec Ideal S1x256 .f32) (p dp : FVec Ideal S256x256 .f32) (i j : Fin 256) :
    k0_pay25 (F := Ideal) d (k0_pay41 p) (k0_pay41 dp) (ix2 i j) = p (ix2 i j) * (dp (ix2 i j) - d (ix2 0 j)) := by
  pointwise [k0_pay25, k0_pay41]

theorem pay65_at (dq : FVec Ideal S128x256 .f32) (ds : FVec Ideal S256x256 .f32) (kt akt : Vec Ideal S128x256 .bf16) (i : Fin 128) (j : Fin 256) :
    k0_pay65 (F := Ideal) k0_pay6 dq ds kt akt (ix2 i j) = dq (ix2 i j) + ∑ x : Fin 256, (if (i : ℕ) < 64 then kt (ix2 i x) else akt (ix2 i x)) * ds (ix2 x j) := by
  pointwise [k0_pay65, k0_pay63, k0_pay64, k0_pay6]
  simp only [lane_lt]

theorem pay66_at (dq : FVec Ideal S128x256 .f32) (ds : FVec Ideal S256x256 .f32) (kt akt : Vec Ideal S128x256 .bf16) (i : Fin 128) (j : Fin 256) :
    k0_pay66 (F := Ideal) k0_pay6 dq ds kt akt (ix2 i j) = dq (ix2 i j) + ∑ x : Fin 256, (if (i : ℕ) < 64 then akt (ix2 i x) else kt (ix2 i x)) * ds (ix2 x j) := by
  pointwise [k0_pay66, k0_pay63, k0_pay64, k0_pay6]
  simp only [lane_lt]

theorem pay72_at (a b : FVec Ideal S128x256 .f32) (i : Fin 128) (j : Fin 256) :
    k0_pay72 (F := Ideal) k0_pay6 a b (ix2 j i) = if (i : ℕ) < 64 then a (ix2 i j) else b (ix2 i j) := by
  pointwise [k0_pay72, k0_pay6]
  simp only [lane_lt]

theorem pay42_at (a b : FVec Ideal S256x128 .bf16) (p0 p1 : FVec Ideal S256x256 .f32) (x : Vec Ideal S256x128 .f32) (i : Fin 128) (j : Fin 256) :
    k0_pay42 (F := Ideal) a b p0 p1 x (ix2 j i) = x (ix2 j i) + (∑ x : Fin 256, p0 (ix2 j x) * a (ix2 x i) + ∑ x : Fin 256, p1 (ix2 j x) * b (ix2 x i)) := by
  pointwise [k0_pay42]

theorem pay26_at (a b : FVec Ideal S256x128 .bf16) (d0 d1 : FVec Ideal S1x256 .f32) (p0 p1 e0 e1 : FVec Ideal S256x256 .f32) (x : Vec Ideal S256x128 .f32) (i : Fin 128) (j : Fin 256) :
    k0_pay26 (F := Ideal) k0_pay5 a b d0 d1 (k0_pay41 p0) (k0_pay41 p1) (k0_pay41 e0) (k0_pay41 e1) x (ix2 j i) = x (ix2 j i) + if (i : ℕ) < 64 then ∑ x : Fin 256, p0 (ix2 j x) * (e0 (ix2 j x) - d0 (ix2 0 x)) * a (ix2 x i) else ∑ x : Fin 256, p1 (ix2 j x) * (e1 (ix2 j x) - d1 (ix2 0 x)) * b (ix2 x i) := by
  pointwise [k0_pay26, k0_pay24, k0_pay25, k0_pay41, k0_pay5]
  simp only [lane_lt]

theorem pay11_at (a : FVec Ideal S256x128 .bf16) (v : Vec Ideal S256x128 .bf16) (i j : Fin 256) :
    k0_pay11 (F := Ideal) a v (ix2 i j) = ∑ x : Fin 128, v (ix2 i x) * a (ix2 j x) := by
  pointwise [k0_pay11, k0_pay13]

theorem pay12_at (a : FVec Ideal S256x128 .bf16) (v : Vec Ideal S256x128 .bf16) (i j : Fin 256) :
    k0_pay12 (F := Ideal) a v (ix2 i j) = ∑ x : Fin 128, v (ix2 i x) * a (ix2 j x) := by
  pointwise [k0_pay12, k0_pay13]

theorem pay40_at (j : Fin 256) : k0_pay40 (F := Ideal) (ix2 0 j) = 0 := by
  pointwise [k0_pay40]

theorem pay61_at (i : Fin 128) (j : Fin 256) : k0_pay61 (F := Ideal) (ix2 i j) = 0 := by
  pointwise [k0_pay61]

theorem rows_pay1_at (b : ℕ) (j : Fin 256) (i : Fin 128) : rows (k0_pay1 (F := Ideal)) b (ix2 j i) = 0 := by
  show k0_pay1 (F := Ideal) (ix2 (Fin.ofNat 4096 (256 * b + (j : ℕ))) i) = 0
  pointwise [k0_pay1]

theorem rows_pay2_at (b : ℕ) (j : Fin 256) (i : Fin 128) : rows (k0_pay2 (F := Ideal)) b (ix2 j i) = 0 := by
  show k0_pay2 (F := Ideal) (ix2 (Fin.ofNat 4096 (256 * b + (j : ℕ))) i) = 0
  pointwise [k0_pay2]

end Cert.KernelIdeal.Words

end
-- ==== Proof.Value.lean ====
/- The blocks the kernel's recursions make, read at an index: the gradients of the pair's two heads. -/
module

public import proofs.«01_k».proof.Proof.Words

@[expose] public section

set_option maxRecDepth 16384

noncomputable section

namespace Cert.KernelIdeal.Value

open Idealize.ShloMosaic Cert.KernelIdeal Cert.KernelIdeal.Gen Cert.KernelIdeal.Spec Cert.KernelIdeal.Words
open Cert.Attend hiding dq dk dv

/-! ## Rows, lanes and heads -/

/-- Row `i` of block `a`. -/
def row (a : ℕ) (i : Fin 256) : Fin 4096 := Fin.ofNat 4096 (256 * a + (i : ℕ))
/-- Lane `x` of pair `p`. -/
def laneOf (p : Fin 8) (x : Fin 128) : Fin 1024 := ⟨128 * (p : ℕ) + (x : ℕ), by omega⟩
/-- The first head of pair `p`. -/
def head0 (p : Fin 8) : Fin 16 := ⟨2 * (p : ℕ), by omega⟩
/-- The second. -/
def head1 (p : Fin 8) : Fin 16 := ⟨2 * (p : ℕ) + 1, by omega⟩
/-- Lane `x` of a pair's first head. -/
def low (x : Fin 64) : Fin 128 := ⟨(x : ℕ), by omega⟩
/-- Lane `x` of a pair's second head. -/
def high (x : Fin 64) : Fin 128 := ⟨64 + (x : ℕ), by omega⟩

theorem row_val {a : ℕ} (ha : a < 16) (i : Fin 256) : (row a i : ℕ) = 256 * a + (i : ℕ) := by
  show (256 * a + (i : ℕ)) % 4096 = _
  omega

theorem laneOf_low (p : Fin 8) (x : Fin 64) : laneOf p (low x) = lane (head0 p) x := Fin.ext (by dsimp only [laneOf, low, lane, head0]; omega)
theorem laneOf_high (p : Fin 8) (x : Fin 64) : laneOf p (high x) = lane (head1 p) x := Fin.ext (by dsimp only [laneOf, high, lane, head1]; omega)
theorem headOf_low (p : Fin 8) (l : Fin 128) (hl : (l : ℕ) < 64) : headOf (laneOf p l) = head0 p := Fin.ext (by dsimp only [laneOf, headOf, head0]; omega)
theorem headOf_high (p : Fin 8) (l : Fin 128) (hl : ¬(l : ℕ) < 64) : headOf (laneOf p l) = head1 p := Fin.ext (by dsimp only [laneOf, headOf, head1]; omega)

/-- A pair's lanes are its two heads'. -/
theorem sum_lanes (f : Fin 128 → EReal) : ∑ x, f x = ∑ x, f (low x) + ∑ x, f (high x) := Fin.sum_univ_add (a := 64) (b := 64) f

/-- All rows are the blocks' rows. -/
theorem sum_rows (f : Fin 4096 → EReal) : ∑ r, f r = ∑ a ∈ Finset.range 16, ∑ i, f (row a i) := by
  rw [Finset.sum_range fun a => ∑ i, f (row a i), ← Fintype.sum_prod_type' fun (a : Fin 16) i => f (row a i)]
  refine (Equiv.sum_comp (finProdFinEquiv (m := 16) (n := 256)) f).symm.trans (Finset.sum_congr rfl fun x _ => congrArg f (Fin.ext ?_))
  rw [row_val x.1.isLt]
  show (x.2 : ℕ) + 256 * (x.1 : ℕ) = _
  omega

/-- The rows of the blocks up to `a`, where the later rows count nothing. -/
theorem sum_upto (f : Fin 4096 → EReal) {a : ℕ} (ha : a < 16) (hf : ∀ b, a < b → b < 16 → ∀ i, f (row b i) = 0) :
    ∑ r, f r = ∑ b ∈ Finset.range (a + 1), ∑ i, f (row b i) := by
  rw [sum_rows]
  refine (Finset.sum_subset (Finset.range_mono (by omega)) fun b hb hb' => ?_).symm
  exact Finset.sum_eq_zero fun i _ => hf b (by simpa using hb') (by simpa using hb) i

/-- The rows of the blocks from `b` on, where the earlier rows count nothing. -/
theorem sum_from (f : Fin 4096 → EReal) {b : ℕ} (hf : ∀ a, a < b → ∀ i, f (row a i) = 0) :
    ∑ r, f r = ∑ a ∈ Finset.range 16, if b ≤ a then ∑ i, f (row a i) else 0 := by
  rw [sum_rows]
  refine Finset.sum_congr rfl fun a _ => ?_
  split_ifs with h
  · rfl
  · exact Finset.sum_eq_zero fun i _ => hf a (by omega) i

/-- What a block accumulates, at an index. -/
theorem acc_at (f : ℕ → ℕ → Vec Ideal S256x128 .f32 → FVec Ideal S256x128 .f32) (z : Vec Ideal S256x128 .f32) (b : ℕ) (y : S256x128.Idx) (g : ℕ → EReal)
    (hz : z y = 0) (hf : ∀ a x, b ≤ a → a < 16 → f a b x y = x y + g a) : ∀ n, n ≤ 16 → acc f z b n y = ∑ a ∈ Finset.range n, if b ≤ a then g a else 0
  | 0, _ => hz
  | n + 1, hn => by
    rw [Finset.sum_range_succ, ← acc_at f z b y g hz hf n (by omega)]
    show (if b ≤ n then f n b (acc f z b n) else acc f z b n) y = _
    split_ifs with h
    · exact hf n _ h (by omega)
    · exact (add_zero _).symm

theorem low_lt (x : Fin 64) : (low x : ℕ) < 64 := x.isLt
theorem high_lt (x : Fin 64) : ¬(high x : ℕ) < 64 := by dsimp only [high]; omega

/-! ## What the inputs hold -/

/-- The kernel's blocks are the arrays' of pair `p`. -/
structure Holds (I : In Ideal) (p : Fin 8) (Q K V G : Fin 4096 → Fin 1024 → EReal) (C : Fin 4096 → Fin 16 → EReal) : Prop where
  pid : I.pid = BitVec.ofNat 32 (p : ℕ)
  q : ∀ a i x, I.q a (ix2 i x) = Q (row a i) (laneOf p x)
  k : ∀ a i x, I.k a (ix2 i x) = K (row a i) (laneOf p x)
  kt : ∀ a i x, I.kt a (ix2 x i) = K (row a i) (laneOf p x)
  v : ∀ a i x, I.v a (ix2 i x) = V (row a i) (laneOf p x)
  dO : ∀ a i x, I.dO a (ix2 i x) = G (row a i) (laneOf p x)
  lse : ∀ a i h, I.lse a (ix2 h i) = top (seenScore Q K C h (row a i)) + Ideal.log (tot (seenScore Q K C h (row a i)))
  bias0 : ∀ a b i j, ∑ x, I.ak b (ix2 i (high x)) * I.aq a (ix2 j (high x)) = C (row a j) (head0 p) - C (row b i) (head0 p)
  bias1 : ∀ a b i j, ∑ x, I.ak b (ix2 i (low x)) * I.aq a (ix2 j (low x)) = C (row a j) (head1 p) - C (row b i) (head1 p)
  realQ : ∀ r l, ∃ x : ℝ, Q r l = x
  realK : ∀ r l, ∃ x : ℝ, K r l = x
  realC : ∀ r h, ∃ x : ℝ, C r h = x

variable {I : In Ideal} {p : Fin 8} {Q K V G : Fin 4096 → Fin 1024 → EReal} {C : Fin 4096 → Fin 16 → EReal} (H : Holds I p Q K V G C)

include H

theorem prob_later (h : Fin 16) (r s : Fin 4096) (hs : ¬(s : ℕ) ≤ r) : prob (seenScore Q K C h r) s = 0 := by
  obtain ⟨π, hπ, -, hb, -⟩ := prob_real _ (seenScore_ne_top H.realQ H.realK H.realC h r) r (seenScore_self H.realQ H.realK H.realC h r)
  rw [hπ s, hb s (if_neg hs)]; rfl

theorem cot_later (h : Fin 16) (r s : Fin 4096) (hs : ¬(s : ℕ) ≤ r) : scoreCot Q K V G C h r s = 0 := by
  unfold scoreCot cot
  rw [prob_later H h r s hs, zero_mul]

theorem exp_prob (h : Fin 16) (r s : Fin 4096) :
    Ideal.exp (seenScore Q K C h r s - (top (seenScore Q K C h r) + Ideal.log (tot (seenScore Q K C h r)))) = prob (seenScore Q K C h r) s := by
  obtain ⟨π, hπ, -, -, he⟩ := prob_real _ (seenScore_ne_top H.realQ H.realK H.realC h r) r (seenScore_self H.realQ H.realK H.realC h r)
  rw [he s, hπ s]

/-! ## The first head's blocks -/

theorem score0_at (a b : ℕ) (i j : Fin 256) : mix (I.k b) (I.ak b) (qa I a) i j = score Q K C (head0 p) (row a j) (row b i) := by
  unfold mix score qa
  simp only [pay33_at]
  rw [sum_lanes]
  rw [add_sub_assoc, ← H.bias0 a b i j]
  refine congrArg₂ (· + ·) ?_ ?_ <;> refine Finset.sum_congr rfl fun x _ => ?_
  · rw [if_pos (low_lt x), if_pos (low_lt x), H.k, H.q, laneOf_low, mul_comm]
  · rw [if_neg (high_lt x), if_neg (high_lt x)]

theorem lse0_at (a : ℕ) (j : Fin 256) : l0 I a (ix2 0 j) = top (seenScore Q K C (head0 p) (row a j)) + Ideal.log (tot (seenScore Q K C (head0 p) (row a j))) := by
  unfold l0
  rw [H.pid, pay38_at]
  exact H.lse a j (head0 p)

theorem p0_at {a b : ℕ} (ha : a < 16) (hb : b ≤ a) (i j : Fin 256) : p0 I a b (ix2 i j) = prob (seenScore Q K C (head0 p) (row a j)) (row b i) := by
  rw [← exp_prob H]
  unfold p0
  have hr := row_val ha j
  have hs := row_val (show b < 16 by omega) i
  split_ifs with h
  · subst h
    rw [pay50_at, score0_at H, lse0_at H]
    unfold seenScore
    by_cases hij : (i : ℕ) ≤ j
    · rw [if_pos hij, if_pos (by omega)]
    · rw [if_neg hij, if_neg (by omega)]
  · rw [pay9_at, score0_at H, lse0_at H, show seenScore Q K C (head0 p) (row a j) (row b i) = score Q K C (head0 p) (row a j) (row b i) from if_pos (by omega)]

theorem do0_at (a : ℕ) (i : Fin 256) (l : Fin 128) : doa I a (ix2 i l) = if (l : ℕ) < 64 then G (row a i) (laneOf p l) else 0 := by
  unfold doa
  rw [pay35_at, H.dO]

theorem dp0_at (a b : ℕ) (i j : Fin 256) : dp0 I a b (ix2 i j) = weightCot V G (head0 p) (row a j) (row b i) := by
  unfold dp0
  rw [pay11_at, sum_lanes]
  simp only [do0_at H, H.v]
  have e : ∑ x : Fin 64, V (row b i) (laneOf p (high x)) * (if (high x : ℕ) < 64 then G (row a j) (laneOf p (high x)) else 0) = 0 :=
    Finset.sum_eq_zero fun x _ => by rw [if_neg (high_lt x), mul_zero]
  rw [e, add_zero]
  refine Finset.sum_congr rfl fun x _ => ?_
  rw [if_pos (low_lt x), laneOf_low, mul_comm]

theorem d0_upto {a : ℕ} (ha : a < 16) (j : Fin 256) : ∀ n, n ≤ a + 1 → d0 I a n (ix2 0 j)
    = ∑ b ∈ Finset.range n, ∑ i, prob (seenScore Q K C (head0 p) (row a j)) (row b i) * weightCot V G (head0 p) (row a j) (row b i)
  | 0, _ => pay40_at j
  | n + 1, hn => by
    rw [Finset.sum_range_succ, ← d0_upto ha j n (by omega)]
    refine (pay43_at _ _ _ j).trans (congrArg (d0 I a n (ix2 0 j) + ·) (Finset.sum_congr rfl fun i _ => ?_))
    rw [p0_at H ha (by omega), dp0_at H]

theorem d0_at {a : ℕ} (ha : a < 16) (j : Fin 256) : d0 I a (a + 1) (ix2 0 j)
    = ∑ s, prob (seenScore Q K C (head0 p) (row a j)) s * weightCot V G (head0 p) (row a j) s := by
  rw [d0_upto H ha j _ le_rfl, sum_upto _ ha fun b hab hb i => ?_]
  rw [prob_later H _ _ _ (by rw [row_val ha, row_val hb]; omega), zero_mul]

theorem cot0_at {a b : ℕ} (ha : a < 16) (hb : b ≤ a) (i j : Fin 256) :
    p0 I a b (ix2 i j) * (dp0 I a b (ix2 i j) - d0 I a (a + 1) (ix2 0 j)) = scoreCot Q K V G C (head0 p) (row a j) (row b i) := by
  rw [p0_at H ha hb, dp0_at H, d0_at H ha]
  rfl

theorem ds0_at {a b : ℕ} (ha : a < 16) (hb : b ≤ a) (i j : Fin 256) : ds0 I a b (ix2 i j) = scoreCot Q K V G C (head0 p) (row a j) (row b i) := by
  unfold ds0
  rw [pay24_at, cot0_at H ha hb]

theorem dq0_upto {a : ℕ} (ha : a < 16) (l : Fin 128) (hl : (l : ℕ) < 64) (j : Fin 256) : ∀ n, n ≤ a + 1 → dq0 I a n (ix2 l j)
    = ∑ b ∈ Finset.range n, ∑ i, scoreCot Q K V G C (head0 p) (row a j) (row b i) * K (row b i) (laneOf p l)
  | 0, _ => pay61_at l j
  | n + 1, hn => by
    rw [Finset.sum_range_succ, ← dq0_upto ha l hl j n (by omega)]
    refine (pay65_at _ _ _ _ l j).trans (congrArg (dq0 I a n (ix2 l j) + ·) (Finset.sum_congr rfl fun i _ => ?_))
    rw [if_pos hl, H.kt, ds0_at H ha (by omega), mul_comm]

theorem dq0_at {a : ℕ} (ha : a < 16) (l : Fin 128) (hl : (l : ℕ) < 64) (j : Fin 256) : dq0 I a (a + 1) (ix2 l j) = Attend.dq Q K V G C (row a j) (laneOf p l) := by
  unfold Attend.dq
  rw [dq0_upto H ha l hl j _ le_rfl, headOf_low p l hl, sum_upto _ ha fun b hab hb i => ?_]
  rw [cot_later H _ _ _ (by rw [row_val ha, row_val hb]; omega), zero_mul]

/-! ## The second head's blocks -/

theorem score1_at (a b : ℕ) (i j : Fin 256) : mix (I.ak b) (I.k b) (qb I a) i j = score Q K C (head1 p) (row a j) (row b i) := by
  unfold mix score qb
  simp only [pay34_at]
  rw [sum_lanes]
  rw [add_sub_assoc, ← H.bias1 a b i j, add_comm]
  refine congrArg₂ (· + ·) ?_ ?_ <;> refine Finset.sum_congr rfl fun x _ => ?_
  · rw [if_neg (high_lt x), if_neg (high_lt x), H.k, H.q, laneOf_high, mul_comm]
  · rw [if_pos (low_lt x), if_pos (low_lt x)]

theorem lse1_at (a : ℕ) (j : Fin 256) : l1 I a (ix2 0 j) = top (seenScore Q K C (head1 p) (row a j)) + Ideal.log (tot (seenScore Q K C (head1 p) (row a j))) := by
  unfold l1
  rw [H.pid, pay39_at]
  exact H.lse a j (head1 p)

theorem p1_at {a b : ℕ} (ha : a < 16) (hb : b ≤ a) (i j : Fin 256) : p1 I a b (ix2 i j) = prob (seenScore Q K C (head1 p) (row a j)) (row b i) := by
  rw [← exp_prob H]
  unfold p1
  have hr := row_val ha j
  have hs := row_val (show b < 16 by omega) i
  split_ifs with h
  · subst h
    rw [pay51_at, score1_at H, lse1_at H]
    unfold seenScore
    by_cases hij : (i : ℕ) ≤ j
    · rw [if_pos hij, if_pos (by omega)]
    · rw [if_neg hij, if_neg (by omega)]
  · rw [pay10_at, score1_at H, lse1_at H, show seenScore Q K C (head1 p) (row a j) (row b i) = score Q K C (head1 p) (row a j) (row b i) from if_pos (by omega)]

theorem do1_at (a : ℕ) (i : Fin 256) (l : Fin 128) : dob I a (ix2 i l) = if (l : ℕ) < 64 then 0 else G (row a i) (laneOf p l) := by
  unfold dob
  rw [pay36_at, H.dO]

theorem dp1_at (a b : ℕ) (i j : Fin 256) : dp1 I a b (ix2 i j) = weightCot V G (head1 p) (row a j) (row b i) := by
  unfold dp1
  rw [pay12_at, sum_lanes]
  simp only [do1_at H, H.v]
  have e : ∑ x : Fin 64, V (row b i) (laneOf p (low x)) * (if (low x : ℕ) < 64 then 0 else G (row a j) (laneOf p (low x))) = 0 :=
    Finset.sum_eq_zero fun x _ => by rw [if_pos (low_lt x), mul_zero]
  rw [e, zero_add]
  refine Finset.sum_congr rfl fun x _ => ?_
  rw [if_neg (high_lt x), laneOf_high, mul_comm]

theorem d1_upto {a : ℕ} (ha : a < 16) (j : Fin 256) : ∀ n, n ≤ a + 1 → d1 I a n (ix2 0 j)
    = ∑ b ∈ Finset.range n, ∑ i, prob (seenScore Q K C (head1 p) (row a j)) (row b i) * weightCot V G (head1 p) (row a j) (row b i)
  | 0, _ => pay40_at j
  | n + 1, hn => by
    rw [Finset.sum_range_succ, ← d1_upto ha j n (by omega)]
    refine (pay44_at _ _ _ j).trans (congrArg (d1 I a n (ix2 0 j) + ·) (Finset.sum_congr rfl fun i _ => ?_))
    rw [p1_at H ha (by omega), dp1_at H]

theorem d1_at {a : ℕ} (ha : a < 16) (j : Fin 256) : d1 I a (a + 1) (ix2 0 j)
    = ∑ s, prob (seenScore Q K C (head1 p) (row a j)) s * weightCot V G (head1 p) (row a j) s := by
  rw [d1_upto H ha j _ le_rfl, sum_upto _ ha fun b hab hb i => ?_]
  rw [prob_later H _ _ _ (by rw [row_val ha, row_val hb]; omega), zero_mul]

theorem cot1_at {a b : ℕ} (ha : a < 16) (hb : b ≤ a) (i j : Fin 256) :
    p1 I a b (ix2 i j) * (dp1 I a b (ix2 i j) - d1 I a (a + 1) (ix2 0 j)) = scoreCot Q K V G C (head1 p) (row a j) (row b i) := by
  rw [p1_at H ha hb, dp1_at H, d1_at H ha]
  rfl

theorem ds1_at {a b : ℕ} (ha : a < 16) (hb : b ≤ a) (i j : Fin 256) : ds1 I a b (ix2 i j) = scoreCot Q K V G C (head1 p) (row a j) (row b i) := by
  unfold ds1
  rw [pay25_at, cot1_at H ha hb]

theorem dq1_upto {a : ℕ} (ha : a < 16) (l : Fin 128) (hl : ¬(l : ℕ) < 64) (j : Fin 256) : ∀ n, n ≤ a + 1 → dq1 I a n (ix2 l j)
    = ∑ b ∈ Finset.range n, ∑ i, scoreCot Q K V G C (head1 p) (row a j) (row b i) * K (row b i) (laneOf p l)
  | 0, _ => pay61_at l j
  | n + 1, hn => by
    rw [Finset.sum_range_succ, ← dq1_upto ha l hl j n (by omega)]
    refine (pay66_at _ _ _ _ l j).trans (congrArg (dq1 I a n (ix2 l j) + ·) (Finset.sum_congr rfl fun i _ => ?_))
    rw [if_neg hl, H.kt, ds1_at H ha (by omega), mul_comm]

theorem dq1_at {a : ℕ} (ha : a < 16) (l : Fin 128) (hl : ¬(l : ℕ) < 64) (j : Fin 256) : dq1 I a (a + 1) (ix2 l j) = Attend.dq Q K V G C (row a j) (laneOf p l) := by
  unfold Attend.dq
  rw [dq1_upto H ha l hl j _ le_rfl, headOf_high p l hl, sum_upto _ ha fun b hab hb i => ?_]
  rw [cot_later H _ _ _ (by rw [row_val ha, row_val hb]; omega), zero_mul]

/-! ## The results' blocks -/

theorem dq_at {a : ℕ} (ha : a < 16) (j : Fin 256) (l : Fin 128) : Spec.dq I a (ix2 j l) = Attend.dq Q K V G C (row a j) (laneOf p l) := by
  unfold Spec.dq
  rw [pay72_at]
  split_ifs with hl
  · exact dq0_at H ha l hl j
  · exact dq1_at H ha l hl j

theorem dv_at {b : ℕ} (hb : b < 16) (j : Fin 256) (l : Fin 128) : Spec.dv I b 16 (ix2 j l) = Attend.dv Q K G C (row b j) (laneOf p l) := by
  unfold Spec.dv Attend.dv
  rw [sum_from _ (b := b) fun a hab i => by rw [prob_later H _ _ _ (by rw [row_val hb, row_val (by omega)]; omega), mul_zero]]
  refine acc_at _ _ b _ (fun a => ∑ i, G (row a i) (laneOf p l) * prob (seenScore Q K C (headOf (laneOf p l)) (row a i)) (row b j)) (rows_pay2_at b j l) (fun a x hba ha => ?_) 16 le_rfl
  unfold dvAdd
  rw [pay42_at]
  refine congrArg (x (ix2 j l) + ·) ?_
  simp only [do0_at H, do1_at H, p0_at H ha hba, p1_at H ha hba]
  by_cases hl : (l : ℕ) < 64
  · simp only [if_pos hl, mul_zero, Finset.sum_const_zero, add_zero, headOf_low p l hl]
    exact Finset.sum_congr rfl fun i _ => mul_comm _ _
  · simp only [if_neg hl, mul_zero, Finset.sum_const_zero, zero_add, headOf_high p l hl]
    exact Finset.sum_congr rfl fun i _ => mul_comm _ _

theorem dk_at {b : ℕ} (hb : b < 16) (j : Fin 256) (l : Fin 128) : Spec.dk I b 16 (ix2 j l) = Attend.dk Q K V G C (row b j) (laneOf p l) := by
  unfold Spec.dk Attend.dk
  rw [sum_from _ (b := b) fun a hab i => by rw [cot_later H _ _ _ (by rw [row_val hb, row_val (by omega)]; omega), zero_mul]]
  refine acc_at _ _ b _ (fun a => ∑ i, scoreCot Q K V G C (headOf (laneOf p l)) (row a i) (row b j) * Q (row a i) (laneOf p l)) (rows_pay1_at b j l) (fun a x hba ha => ?_) 16 le_rfl
  unfold dkAdd
  rw [pay26_at]
  refine congrArg (x (ix2 j l) + ·) ?_
  simp only [cot0_at H ha hba, cot1_at H ha hba]
  by_cases hl : (l : ℕ) < 64
  · rw [if_pos hl, headOf_low p l hl]
    refine Finset.sum_congr rfl fun i _ => ?_
    unfold qa
    rw [pay33_at, if_pos hl, H.q]
  · rw [if_neg hl, headOf_high p l hl]
    refine Finset.sum_congr rfl fun i _ => ?_
    unfold qb
    rw [pay34_at, if_neg hl, H.q]

end Cert.KernelIdeal.Value

end
-- ==== Proof.RefTerm.lean ====
/- The reference's three results as terms of its arguments, stage by stage, and each stage read at an index. -/
module

public import proofs.«01_k».proof.Proof.Gen.ReferenceIdeal
public import proofs.«01_k».proof.Proof.Attend

@[expose] public section

set_option maxRecDepth 16384

noncomputable section

namespace Cert.ReferenceIdeal.Term

open Idealize.ShloMosaic Cert.ReferenceIdeal
open Cert.Attend hiding dq dk dv

/-! ## The stages -/

/-- An array of 1024 lanes, its heads apart. -/
def heads (x : FVec Ideal S4096x1024 .f32) : FVec Ideal S16x4096x64 .f32 :=
  transpose S16x4096x64 [1, 0, 2] (shapeCast S4096x16x64 x Gen.shapeCasts_S4096x1024_S4096x16x64) Gen.transposes_S4096x16x64_S16x4096x64_1_0_2

/-- The heads put together again. -/
def together (x : FVec Ideal S16x4096x64 .f32) : FVec Ideal S4096x1024 .f32 :=
  shapeCast S4096x1024 (transpose S4096x16x64 [1, 0, 2] x Gen.transposes_S16x4096x64_S4096x16x64_1_0_2) Gen.shapeCasts_S4096x16x64_S4096x1024

/-- Which keys a query sees. -/
def seen : IVec S16x4096x4096 1 := cmpi .sge (iotaInDim S16x4096x4096 32 1) (iotaInDim S16x4096x4096 32 2)

/-- The scores, the unseen ones at the bottom. -/
def scores (q k : FVec Ideal S16x4096x64 .f32) (c : FVec Ideal S4096x16 .f32) : FVec Ideal S16x4096x4096 .f32 :=
  select seen
    (subf (addf (Host.dotGeneral dot_S16x4096x64_S16x4096x64_S16x4096x4096_2_2_1_1_0_0 none q k)
        (broadcastInDim S16x4096x4096 ![0, 1, 2] Gen.bcast_S16x4096x1_S16x4096x4096_0_1_2 (broadcastInDim S16x4096x1 ![0, 1] Gen.bcast_S16x4096_S16x4096x1_0_1
          (transpose S16x4096 [1, 0] c Gen.transposes_S4096x16_S16x4096_1_0))))
      (broadcastInDim S16x4096x4096 ![0, 1, 2] Gen.bcast_S16x1x4096_S16x4096x4096_0_1_2 (broadcastInDim S16x1x4096 ![0, 2] Gen.bcast_S16x4096_S16x1x4096_0_2
        (transpose S16x4096 [1, 0] c Gen.transposes_S4096x16_S16x4096_1_0))))
    (broadcastInDim S16x4096x4096 ![] Gen.bcast_S_S16x4096x4096 (constant S_ .f32 0xFF800000#32))

/-- The largest of each row. -/
def tops (z : FVec Ideal S16x4096x4096 .f32) : FVec Ideal S16x4096 .f32 :=
  maximumf (broadcastInDim S16x4096 ![] Gen.bcast_S_S16x4096 (constant S_ .f32 0xFF800000#32))
    (Host.reduce FloatOps.maximumf z (constant S_ .f32 0xFF800000#32) Gen.reducesTo_S16x4096x4096_S16x4096_d2 Gen.h_S_)

/-- The exponentials of the scores, less each row's largest. -/
def exps (z : FVec Ideal S16x4096x4096 .f32) : FVec Ideal S16x4096x4096 .f32 :=
  Host.exp (subf z (broadcastInDim S16x4096x4096 ![0, 1, 2] Gen.bcast_S16x4096x1_S16x4096x4096_0_1_2 (broadcastInDim S16x4096x1 ![0, 1] Gen.bcast_S16x4096_S16x4096x1_0_1
    (tops z))))

/-- The sums of each row. -/
def totals (e : FVec Ideal S16x4096x4096 .f32) : FVec Ideal S16x4096x1 .f32 :=
  broadcastInDim S16x4096x1 ![0, 1] Gen.bcast_S16x4096_S16x4096x1_0_1
    (Host.reduceAdd e (constant S_ .f32 0x00000000#32) Gen.reducesTo_S16x4096x4096_S16x4096_d2 Gen.h_S_)

/-- A row's number, at every key. -/
def wide (x : FVec Ideal S16x4096x1 .f32) : FVec Ideal S16x4096x4096 .f32 :=
  broadcastInDim S16x4096x4096 ![0, 1, 2] Gen.bcast_S16x4096x1_S16x4096x4096_0_1_2 x

/-- The weights. -/
def weights (e : FVec Ideal S16x4096x4096 .f32) : FVec Ideal S16x4096x4096 .f32 := Host.divf e (wide (totals e))

/-- The cotangents of the weights. -/
def weightCots (g v : FVec Ideal S16x4096x64 .f32) : FVec Ideal S16x4096x4096 .f32 :=
  Host.dotGeneral dot_S16x4096x64_S16x4096x64_S16x4096x4096_2_2_1_1_0_0 none g v

/-- The cotangents of each row's sum. -/
def totalCots (e dp : FVec Ideal S16x4096x4096 .f32) : FVec Ideal S16x4096x1 .f32 :=
  Host.negf (shapeCast S16x4096x1 (Host.reduceAdd (mulf (mulf dp (wide (Host.divf (broadcastInDim S16x4096x1 ![] Gen.bcast_S_S16x4096x1 (constant S_ .f32 0x3F800000#32))
    (mulf (totals e) (totals e))))) e) (constant S_ .f32 0x00000000#32) Gen.reducesTo_S16x4096x4096_S16x4096_d2 Gen.h_S_) Gen.shapeCasts_S16x4096_S16x4096x1)

/-- The cotangents of the scores. -/
def scoreCots (e dp : FVec Ideal S16x4096x4096 .f32) : FVec Ideal S16x4096x4096 .f32 :=
  select seen
    (mulf (addf (Host.divf dp (wide (totals e))) (broadcastInDim S16x4096x4096 ![0, 1] Gen.bcast_S16x4096_S16x4096x4096_0_1
      (Host.reduceAdd (totalCots e dp) (constant S_ .f32 0x00000000#32) Gen.reducesTo_S16x4096x1_S16x4096_d2 Gen.h_S_))) e)
    (broadcastInDim S16x4096x4096 ![] Gen.bcast_S_S16x4096x4096 (constant S_ .f32 0x00000000#32))

section Results

variable (q k v : FVec Ideal S4096x1024 .bf16) (c : FVec Ideal S4096x16 .f32) (g : FVec Ideal S4096x2048 .f32)

/-- An argument's heads. -/
def argHeads (x : FVec Ideal S4096x1024 .bf16) : FVec Ideal S16x4096x64 .f32 := heads (extf .f32 x Gen.bitsLt_bf16_f32)
/-- The cotangent's heads. -/
def cotHeads : FVec Ideal S16x4096x64 .f32 := heads (extractStridedSlice S4096x1024 ![0, 1024] g Gen.slices_S4096x2048_S4096x1024_0_1024)
/-- The exponentials, of the arguments. -/
def argExps : FVec Ideal S16x4096x4096 .f32 := exps (scores (argHeads q) (argHeads k) c)
/-- The cotangents of the scores, of the arguments. -/
def argScoreCots : FVec Ideal S16x4096x4096 .f32 := scoreCots (argExps q k c) (weightCots (cotHeads g) (argHeads v))

/-- The query cotangent. -/
def dq : FVec Ideal S4096x1024 .f32 :=
  together (Host.dotGeneral dot_S16x4096x4096_S16x4096x64_S16x4096x64_2_1_1_2_0_0 none (argScoreCots q k v c g) (argHeads k))
/-- The key cotangent. -/
def dk : FVec Ideal S4096x1024 .f32 :=
  together (Host.dotGeneral dot_S16x4096x4096_S16x4096x64_S16x4096x64_1_1_2_2_0_0 none (argScoreCots q k v c g) (argHeads q))
/-- The value cotangent. -/
def dv : FVec Ideal S4096x1024 .f32 :=
  together (transpose S16x4096x64 [0, 2, 1] (Host.dotGeneral dot_S16x4096x64_S16x4096x4096_S16x64x4096_1_1_2_2_0_0 none (cotHeads g) (weights (argExps q k c)))
    Gen.transposes_S16x64x4096_S16x4096x64_0_2_1)

end Results

/-! ## The stages read at an index -/

theorem heads_at (x : FVec Ideal S4096x1024 .f32) (h : Fin 16) (r : Fin 4096) (d : Fin 64) : heads x (ix3 h r d) = x (ix2 r (lane h d)) := by
  pointwise [heads]; rfl

theorem together_at (x : FVec Ideal S16x4096x64 .f32) (r : Fin 4096) (l : Fin 1024) :
    together x (ix2 r l) = x (ix3 (headOf l) r ⟨↑l % 64, Nat.mod_lt _ (by decide)⟩) := by
  pointwise [together]; rfl

theorem neg_inf : Ideal.ofBits FTy.f32 4286578688#32 = ⊥ := by simp [Ideal.ofBits, Ideal.ieee]

theorem scores_at (q k : FVec Ideal S16x4096x64 .f32) (c : FVec Ideal S4096x16 .f32) (h : Fin 16) (r s : Fin 4096) :
    scores q k c (ix3 h r s) = if (s : ℕ) ≤ r then ∑ x, q (ix3 h r x) * k (ix3 h s x) + c (ix2 r h) - c (ix2 s h) else ⊥ := by
  pointwise [scores, seen]
  rw [select_sge _ _ r.isLt s.isLt, neg_inf]

theorem max_at {s : Shape} (x y : FVec Ideal s .f32) (i : s.Idx) : maximumf x y i = max (x i) (y i) := rfl

theorem reduce_max (z : FVec Ideal S16x4096x4096 .f32) (b : FVec Ideal S_ .f32) (h : Fin 16) (r : Fin 4096) (x : EReal) (hb : ∀ i, b i = x) :
    Host.reduce FloatOps.maximumf z b Gen.reducesTo_S16x4096x4096_S16x4096_d2 Gen.h_S_ (ix2 h r) = Finset.univ.fold max x fun s => z (ix3 h r s) := by
  have e := Host.reduce_eq_fold (α := EReal) max z b Gen.reducesTo_S16x4096x4096_S16x4096_d2 Gen.h_S_ (ix2 h r)
  rw [hb] at e
  exact e.trans (Shape.ReducesTo.fold_fiber_r3_a2 Gen.reducesTo_S16x4096x4096_S16x4096_d2 (ix2 h r) max x z)

theorem tops_at (z : FVec Ideal S16x4096x4096 .f32) (h : Fin 16) (r : Fin 4096) : tops z (ix2 h r) = top fun s => z (ix3 h r s) := by
  unfold tops top
  rw [max_at, reduce_max z (constant S_ .f32 0xFF800000#32) h r ⊥ fun _ => neg_inf]
  refine max_eq_right ?_
  rw [show ∀ (b : FVec Ideal S_ .f32) (hb : ∀ i, b i = ⊥), broadcastInDim S16x4096 ![] Gen.bcast_S_S16x4096 b (ix2 h r) = ⊥ from fun b hb => hb _]
  · exact bot_le
  · exact fun _ => neg_inf

theorem exps_at (z : FVec Ideal S16x4096x4096 .f32) (h : Fin 16) (r s : Fin 4096) : exps z (ix3 h r s) = ex (fun s => z (ix3 h r s)) s := by
  pointwise [exps]
  unfold ex
  rw [tops_at]

theorem weights_at (e : FVec Ideal S16x4096x4096 .f32) (h : Fin 16) (r s : Fin 4096) : weights e (ix3 h r s) = Ideal.div (e (ix3 h r s)) (∑ x, e (ix3 h r x)) := by
  pointwise [weights, wide, totals]

theorem weightCots_at (g v : FVec Ideal S16x4096x64 .f32) (h : Fin 16) (r s : Fin 4096) : weightCots g v (ix3 h r s) = ∑ x, g (ix3 h r x) * v (ix3 h s x) := by
  pointwise [weightCots]

theorem scoreCots_at (e dp : FVec Ideal S16x4096x4096 .f32) (h : Fin 16) (r s : Fin 4096) :
    scoreCots e dp (ix3 h r s) = if (s : ℕ) ≤ r then (Ideal.div (dp (ix3 h r s)) (∑ x, e (ix3 h r x))
      + ∑ _x : Fin 1, -∑ j, dp (ix3 h r j) * Ideal.div 1 ((∑ x, e (ix3 h r x)) * ∑ x, e (ix3 h r x)) * e (ix3 h r j)) * e (ix3 h r s) else 0 := by
  pointwise [scoreCots, totalCots, wide, seen, totals]
  exact select_sge _ _ r.isLt s.isLt _ _

/-! ## The results read at an index -/

section Results

variable (q k v : FVec Ideal S4096x1024 .bf16) (c : FVec Ideal S4096x16 .f32) (g : FVec Ideal S4096x2048 .f32)

/-- The cotangent's lanes. -/
def gLane (r : Fin 4096) (l : Fin 1024) : EReal := g (ix2 r ⟨1024 + ↑l, by omega⟩)

theorem argHeads_at (x : FVec Ideal S4096x1024 .bf16) (h : Fin 16) (r : Fin 4096) (d : Fin 64) : argHeads x (ix3 h r d) = x (ix2 r (lane h d)) := by
  unfold argHeads
  rw [heads_at]; rfl

theorem cotHeads_at (h : Fin 16) (r : Fin 4096) (d : Fin 64) : cotHeads g (ix3 h r d) = gLane g r (lane h d) := by
  unfold cotHeads
  rw [heads_at]
  pointwise [gLane]

theorem scores_seen (h : Fin 16) (r s : Fin 4096) : scores (argHeads q) (argHeads k) c (ix3 h r s)
    = seenScore (fun r l => q (ix2 r l)) (fun r l => k (ix2 r l)) (fun r h => c (ix2 r h)) h r s := by
  rw [scores_at]
  simp only [argHeads_at]
  rfl

theorem argExps_at (h : Fin 16) (r s : Fin 4096) : argExps q k c (ix3 h r s)
    = ex (seenScore (fun r l => q (ix2 r l)) (fun r l => k (ix2 r l)) (fun r h => c (ix2 r h)) h r) s := by
  unfold argExps
  rw [exps_at]
  simp only [scores_seen]

variable {q k v c}

theorem argScoreCots_at (hq : ∀ (r : Fin 4096) (l : Fin 1024), ∃ x : ℝ, q (ix2 r l) = x) (hk : ∀ (r : Fin 4096) (l : Fin 1024), ∃ x : ℝ, k (ix2 r l) = x)
    (hc : ∀ (r : Fin 4096) (h : Fin 16), ∃ x : ℝ, c (ix2 r h) = x) (h : Fin 16) (r s : Fin 4096) : argScoreCots q k v c g (ix3 h r s)
    = scoreCot (fun r l => q (ix2 r l)) (fun r l => k (ix2 r l)) (fun r l => v (ix2 r l)) (gLane g) (fun r h => c (ix2 r h)) h r s := by
  unfold argScoreCots
  rw [scoreCots_at]
  simp only [argExps_at, weightCots_at, cotHeads_at, argHeads_at]
  unfold scoreCot
  split_ifs with hs
  · exact cot_eq _ (seenScore_ne_top hq hk hc h r) r (seenScore_self hq hk hc h r) (weightCot (fun r l => v (ix2 r l)) (gLane g) h r) s
  · exact (cot_bot _ (seenScore_ne_top hq hk hc h r) r (seenScore_self hq hk hc h r) _ s (if_neg hs)).symm

theorem dq_at (hq : ∀ (r : Fin 4096) (l : Fin 1024), ∃ x : ℝ, q (ix2 r l) = x) (hk : ∀ (r : Fin 4096) (l : Fin 1024), ∃ x : ℝ, k (ix2 r l) = x)
    (hc : ∀ (r : Fin 4096) (h : Fin 16), ∃ x : ℝ, c (ix2 r h) = x) (r : Fin 4096) (l : Fin 1024) : dq q k v c g (ix2 r l)
    = Attend.dq (fun r l => q (ix2 r l)) (fun r l => k (ix2 r l)) (fun r l => v (ix2 r l)) (gLane g) (fun r h => c (ix2 r h)) r l := by
  pointwise [dq, together, argHeads, heads]
  refine Finset.sum_congr rfl fun s _ => ?_
  rw [argScoreCots_at g hq hk hc]
  rfl

theorem dk_at (hq : ∀ (r : Fin 4096) (l : Fin 1024), ∃ x : ℝ, q (ix2 r l) = x) (hk : ∀ (r : Fin 4096) (l : Fin 1024), ∃ x : ℝ, k (ix2 r l) = x)
    (hc : ∀ (r : Fin 4096) (h : Fin 16), ∃ x : ℝ, c (ix2 r h) = x) (r : Fin 4096) (l : Fin 1024) : dk q k v c g (ix2 r l)
    = Attend.dk (fun r l => q (ix2 r l)) (fun r l => k (ix2 r l)) (fun r l => v (ix2 r l)) (gLane g) (fun r h => c (ix2 r h)) r l := by
  pointwise [dk, together, argHeads, heads]
  refine Finset.sum_congr rfl fun s _ => ?_
  rw [argScoreCots_at g hq hk hc]
  rfl

theorem dv_at (r : Fin 4096) (l : Fin 1024) : dv q k c g (ix2 r l)
    = Attend.dv (fun r l => q (ix2 r l)) (fun r l => k (ix2 r l)) (gLane g) (fun r h => c (ix2 r h)) r l := by
  pointwise [dv, together, cotHeads, heads]
  refine Finset.sum_congr rfl fun s _ => ?_
  rw [weights_at]
  simp only [argExps_at]
  rfl

end Results

end Cert.ReferenceIdeal.Term

end
-- ==== Proof.Final.lean ====
/- The pipeline's result arrays are the reference's terms. -/
module

public import proofs.«01_k».proof.Defs
public import proofs.«01_k».proof.Proof.Entry
public import proofs.«01_k».proof.Proof.Value
public import proofs.«01_k».proof.Proof.RefTerm

@[expose] public section

set_option maxRecDepth 16384

noncomputable section

namespace Cert.KernelIdeal.Final

open Idealize.ShloMosaic Cert.KernelIdeal Cert.KernelIdeal.Gen Idealize.ShloMosaic.TcCoe Idealize.ShloMosaic.Tactic
open Cert.KernelIdeal.Body (blocks dats outDq outDk outDv)
open Cert.Attend hiding dq dk dv

/-! ## What the precondition says -/

section Pre

theorem real_of (x : Ideal .f32) (h : BitVec.ofBool (decide (FloatOps.absf x < Ideal.ofBits FTy.f32 2139095040#32)) = 1#1) : ∃ y : ℝ, (x : EReal) = y := by
  have hi : Ideal.ofBits FTy.f32 2139095040#32 = (⊤ : EReal) := by simp [Ideal.ofBits, Ideal.ieee]
  rw [hi] at h
  have h' : max (x : EReal) (-x) < ⊤ := by
    by_contra hn
    rw [show decide (FloatOps.absf x < (⊤ : EReal)) = false from decide_eq_false hn] at h
    exact absurd h (by decide)
  have h1 : x ≠ (⊤ : EReal) := fun e => by rw [e] at h'; revert h'; simp
  have h2 : x ≠ (⊥ : EReal) := fun e => by rw [e] at h'; revert h'; simp
  exact ⟨EReal.toReal x, (EReal.coe_toReal h1 h2).symm⟩

variable [Cert.Pre_finite.Facts] {q k v : FVec Ideal S4096x1024 .bf16} {c : FVec Ideal S4096x16 .f32} {g : FVec Ideal S4096x2048 .f32}
  (h : Cert.Pre_finite.fn (F := Ideal) q k v c g = fun _ => 1#1)

include h

theorem real_q (r : Fin 4096) (l : Fin 1024) : ∃ x : ℝ, q (ix2 r l) = x := by
  have e := congrFun h (ix2 r ⟨(l : ℕ), by omega⟩)
  revert e
  pointwise [Cert.Pre_finite.fn]
  exact real_of _

theorem real_k (r : Fin 4096) (l : Fin 1024) : ∃ x : ℝ, k (ix2 r l) = x := by
  have e := congrFun h (ix2 r ⟨1024 + (l : ℕ), by omega⟩)
  revert e
  pointwise [Cert.Pre_finite.fn]
  exact real_of _

theorem real_c (r : Fin 4096) (l : Fin 16) : ∃ x : ℝ, c (ix2 r l) = x := by
  have e := congrFun h (ix2 r ⟨2048 + (l : ℕ), by omega⟩)
  revert e
  pointwise [Cert.Pre_finite.fn]
  rw [dif_neg (by omega : ¬2048 + (l : ℕ) < 1024), dif_neg (by omega : ¬2048 + (l : ℕ) - 1024 < 1024),
    show (⟨2048 + (l : ℕ) - 1024 - 1024, by omega⟩ : Fin 16) = l from Fin.ext (by dsimp only; omega)]
  exact real_of _

end Pre

theorem idx : ∀ t : Fin cfg0.N, win0_0.index t = ![0, t.val] ∧ win0_1.index t = ![0, t.val] ∧ win0_2.index t = ![0, t.val] ∧ win0_3.index t = ![0, t.val]
    ∧ win0_4.index t = ![t.val, 0] ∧ win0_5.index t = ![t.val, 0] ∧ win0_6.index t = ![0, t.val] ∧ win0_7.index t = ![0, 0] ∧ win0_8.index t = ![0, 8 + t.val]
    ∧ win0_9.index t = ![0, t.val] ∧ win0_10.index t = ![0, t.val] ∧ win0_11.index t = ![0, t.val] := (by decide +kernel : ∀ t : Fin grid0.N, _)

theorem coord : ∀ t : Fin cfg0.N, (grid0.coords t 0).val = t.val := (by decide +kernel : ∀ t : Fin grid0.N, _)

variable (m : (ℓ : Loc nD τ sig) → Buf (Elt Ideal) ℓ) (c : Dev nD)

/-- The pair of heads of a grid point. -/
def pair (t : Fin cfg0.N) : Fin 8 := ⟨t.val, t.isLt⟩

theorem iblk_q (t : Fin cfg0.N) (r : Fin 4096) (x : Fin 128) : iblk m c 0 t (ix2 r x) = m ((c : Thread nD τ).loc main_arg0) (ix2 r (Value.laneOf (pair t) x)) := by
  blk_point [iblk, V, idx t]
  dsimp only [Value.laneOf, pair]
  omega

theorem iblk_k (t : Fin cfg0.N) (r : Fin 4096) (x : Fin 128) : iblk m c 1 t (ix2 r x) = m ((c : Thread nD τ).loc main_arg1) (ix2 r (Value.laneOf (pair t) x)) := by
  blk_point [iblk, V, idx t]
  dsimp only [Value.laneOf, pair]
  omega

theorem iblk_v (t : Fin cfg0.N) (r : Fin 4096) (x : Fin 128) : iblk m c 6 t (ix2 r x) = m ((c : Thread nD τ).loc main_arg2) (ix2 r (Value.laneOf (pair t) x)) := by
  blk_point [iblk, V, idx t]
  dsimp only [Value.laneOf, pair]
  omega

theorem iblk_dO (t : Fin cfg0.N) (r : Fin 4096) (x : Fin 128) : iblk m c 8 t (ix2 r x) = Cert.ReferenceIdeal.Term.gLane (m ((c : Thread nD τ).loc main_arg4)) r (Value.laneOf (pair t) x) := by
  unfold Cert.ReferenceIdeal.Term.gLane
  blk_point [iblk, V, idx t]
  dsimp only [Value.laneOf, pair]
  omega

theorem iblk_aq (t : Fin cfg0.N) (r : Fin 4096) (x : Fin 128) : iblk m c 2 t (ix2 r x) = Entry.aq (m ((c : Thread nD τ).loc main_arg3)) (ix2 r (Value.laneOf (pair t) x)) := by
  blk_simp [iblk, idx t]
  rw [Entry.V_aq]
  generalize Entry.aq (m ((c : Thread nD τ).loc main_arg3)) = X
  blk_ext [idx t]
  dsimp only [Value.laneOf, pair]
  omega

theorem iblk_ak (t : Fin cfg0.N) (r : Fin 4096) (x : Fin 128) : iblk m c 3 t (ix2 r x) = Entry.ak (m ((c : Thread nD τ).loc main_arg3)) (ix2 r (Value.laneOf (pair t) x)) := by
  blk_simp [iblk, idx t]
  rw [Entry.V_ak]
  generalize Entry.ak (m ((c : Thread nD τ).loc main_arg3)) = X
  blk_ext [idx t]
  dsimp only [Value.laneOf, pair]
  omega

theorem iblk_kt (t : Fin cfg0.N) (r : Fin 4096) (x : Fin 128) : iblk m c 4 t (ix2 x r) = m ((c : Thread nD τ).loc main_arg1) (ix2 r (Value.laneOf (pair t) x)) := by
  refine Eq.trans ?_ (Entry.turned_at (m ((c : Thread nD τ).loc main_arg1)) r (Value.laneOf (pair t) x))
  blk_simp [iblk, idx t]
  rw [Entry.V_kt]
  generalize Entry.turned (m ((c : Thread nD τ).loc main_arg1)) = X
  blk_ext [idx t]
  dsimp only [Value.laneOf, pair]
  omega

theorem emb_lse (t : Fin cfg0.N) (h : Fin 16) (r : Fin 4096) (X : S16x4096.Idx → EReal) : X ((win0_7.blk t).view.emb (ix2 h r)) = X (ix2 h r) := by
  blk_ext [idx t]

theorem read_lse (A) (_ : V m c = A) (t : Fin cfg0.N) (h : Fin 16) (r : Fin 4096) :
    ((cfg0.win 7).blk t).view.read (Elt Ideal) (A (Pipeline.arrRef spec0 7)) (ix2 h r) = A main_v60 ((win0_7.blk t).view.emb (ix2 h r)) := rfl

theorem iblk_lse (t : Fin cfg0.N) (h : Fin 16) (r : Fin 4096) : iblk m c 7 t (ix2 h r)
    = Entry.saved (Entry.scores (m ((c : Thread nD τ).loc main_arg0)) (m ((c : Thread nD τ).loc main_arg1)) (m ((c : Thread nD τ).loc main_arg3))) (ix2 h r) := by
  unfold iblk
  rw [read_lse m c (V m c) rfl, Entry.V_lse]
  exact emb_lse t h r _

/-! ## The kernel's inputs -/

/-- An argument's rows. -/
abbrev atRows {n : ℕ} (x : (⟨2, ![4096, n]⟩ : Shape).Idx → EReal) (r : Fin 4096) (l : Fin n) : EReal := x (ix2 r l)

/-- Windows that hold the arrays' lanes of pair `p` make blocks that do. -/
theorem holds_of (x1 : Vec Ideal S4096x128 .bf16) (x2 : Vec Ideal S4096x128 .bf16) (x3 : Vec Ideal S4096x128 .bf16) (x4 : Vec Ideal S4096x128 .bf16) (x5 : Vec Ideal S128x4096 .bf16) (x6 : Vec Ideal S128x4096 .bf16) (x7 : Vec Ideal S4096x128 .bf16) (x8 : Vec Ideal S16x4096 .f32) (x9 : Vec Ideal S4096x128 .f32) (p : Fin 8) (w : BitVec 32) (q k v : FVec Ideal S4096x1024 .bf16) (c : FVec Ideal S4096x16 .f32) (G : Fin 4096 → Fin 1024 → EReal)
    (hw : w = BitVec.ofNat 32 (p : ℕ))
    (h1 : ∀ r x, x1 (ix2 r x) = q (ix2 r (Value.laneOf p x))) (h2 : ∀ r x, x2 (ix2 r x) = k (ix2 r (Value.laneOf p x)))
    (h3 : ∀ r x, x3 (ix2 r x) = Entry.aq c (ix2 r (Value.laneOf p x))) (h4 : ∀ r x, x4 (ix2 r x) = Entry.ak c (ix2 r (Value.laneOf p x)))
    (h5 : ∀ r x, x5 (ix2 x r) = k (ix2 r (Value.laneOf p x))) (h7 : ∀ r x, x7 (ix2 r x) = v (ix2 r (Value.laneOf p x)))
    (h8 : ∀ h r, x8 (ix2 h r) = Entry.saved (Entry.scores q k c) (ix2 h r)) (h9 : ∀ r x, x9 (ix2 r x) = G r (Value.laneOf p x))
    (hq : ∀ (r : Fin 4096) (l : Fin 1024), ∃ x : ℝ, q (ix2 r l) = x) (hk : ∀ (r : Fin 4096) (l : Fin 1024), ∃ x : ℝ, k (ix2 r l) = x)
    (hc : ∀ (r : Fin 4096) (h : Fin 16), ∃ x : ℝ, c (ix2 r h) = x) :
    Value.Holds (Body.ofWindows x1 x2 x3 x4 x5 x6 x7 x8 x9 w) p (atRows q) (atRows k) (atRows v) G (atRows c) where
  pid := hw
  q a i x := h1 (Value.row a i) x
  k a i x := h2 (Value.row a i) x
  kt a i x := h5 (Value.row a i) x
  v a i x := h7 (Value.row a i) x
  dO a i x := h9 (Value.row a i) x
  lse a i h := by
    refine (h8 h (Value.row a i)).trans ?_
    rw [Entry.saved_at]
    simp only [Entry.scores_at]
  bias0 a b i j := by
    refine Eq.trans (Finset.sum_congr rfl fun x _ => ?_) (Entry.bias c hc (Value.row a j) (Value.row b i) (Value.head0 p))
    refine (congrArg₂ (· * ·) (h4 (Value.row b i) (Value.high x)) (h3 (Value.row a j) (Value.high x))).trans ?_
    rw [Value.laneOf_high, show Value.head1 p = Entry.other (Value.head0 p) from Fin.ext (by dsimp only [Value.head1, Value.head0, Entry.other]; omega)]
  bias1 a b i j := by
    refine Eq.trans (Finset.sum_congr rfl fun x _ => ?_) (Entry.bias c hc (Value.row a j) (Value.row b i) (Value.head1 p))
    refine (congrArg₂ (· * ·) (h4 (Value.row b i) (Value.low x)) (h3 (Value.row a j) (Value.low x))).trans ?_
    rw [Value.laneOf_low, show Value.head0 p = Entry.other (Value.head1 p) from Fin.ext (by dsimp only [Value.head1, Value.head0, Entry.other]; omega)]
  realQ := hq
  realK := hk
  realC := hc

/-! ## The results -/

theorem row_eq (r : Fin 4096) : Value.row ((r : ℕ) / 256) (Fin.ofNat 256 ((r : ℕ) % 256)) = r := by
  refine Fin.ext ?_
  rw [Value.row_val (by omega)]
  show 256 * ((r : ℕ) / 256) + (r : ℕ) % 256 % 256 = _
  omega

section Outs

variable {I : Spec.In Ideal} {p : Fin 8} {Q K V G : Fin 4096 → Fin 1024 → EReal} {C : Fin 4096 → Fin 16 → EReal} (H : Value.Holds I p Q K V G C)

include H

theorem dq_block (r : Fin 4096) (l : Fin 128) : outDq I (ix2 r l) = Attend.dq Q K V G C r (Value.laneOf p l) := by
  show Spec.dq I ((r : ℕ) / 256) (ix2 (Fin.ofNat 256 ((r : ℕ) % 256)) l) = _
  rw [Value.dq_at H (by omega), row_eq]

theorem dk_block (r : Fin 4096) (l : Fin 128) : outDk I (ix2 r l) = Attend.dk Q K V G C r (Value.laneOf p l) := by
  show Spec.dk I ((r : ℕ) / 256) 16 (ix2 (Fin.ofNat 256 ((r : ℕ) % 256)) l) = _
  rw [Value.dk_at H (by omega), row_eq]

theorem dv_block (r : Fin 4096) (l : Fin 128) : outDv I (ix2 r l) = Attend.dv Q K G C r (Value.laneOf p l) := by
  show Spec.dv I ((r : ℕ) / 256) 16 (ix2 (Fin.ofNat 256 ((r : ℕ) % 256)) l) = _
  rw [Value.dv_at H (by omega), row_eq]

end Outs

theorem emb_dq (t : Fin cfg0.N) (r : Fin 4096) (x : Fin 128) (X : S4096x1024.Idx → EReal) : X ((win0_9.blk t).view.emb (ix2 r x)) = X (ix2 r (Value.laneOf (pair t) x)) := by
  blk_ext [idx t]
  dsimp only [Value.laneOf, pair]
  omega

theorem emb_dk (t : Fin cfg0.N) (r : Fin 4096) (x : Fin 128) (X : S4096x1024.Idx → EReal) : X ((win0_10.blk t).view.emb (ix2 r x)) = X (ix2 r (Value.laneOf (pair t) x)) := by
  blk_ext [idx t]
  dsimp only [Value.laneOf, pair]
  omega

theorem emb_dv (t : Fin cfg0.N) (r : Fin 4096) (x : Fin 128) (X : S4096x1024.Idx → EReal) : X ((win0_11.blk t).view.emb (ix2 r x)) = X (ix2 r (Value.laneOf (pair t) x)) := by
  blk_ext [idx t]
  dsimp only [Value.laneOf, pair]
  omega

section Inputs

variable [Cert.Pre_finite.Facts]
  (h : Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1)

include h

theorem holds (t : Fin cfg0.N) : Value.Holds (blocks m c t) (pair t) (atRows (m ((c : Thread nD τ).loc main_arg0))) (atRows (m ((c : Thread nD τ).loc main_arg1)))
    (atRows (m ((c : Thread nD τ).loc main_arg2))) (Cert.ReferenceIdeal.Term.gLane (m ((c : Thread nD τ).loc main_arg4))) (atRows (m ((c : Thread nD τ).loc main_arg3))) := by
  unfold Body.blocks
  exact holds_of _ _ _ _ _ _ _ _ _ (pair t) _ _ _ _ _ _ (congrArg (BitVec.ofNat 32) (coord t)) (iblk_q m c t) (iblk_k m c t) (iblk_aq m c t) (iblk_ak m c t)
    (iblk_kt m c t) (iblk_v m c t) (iblk_lse m c t) (iblk_dO m c t) (real_q h) (real_k h) (real_c h)

theorem final_dq : (dats m 0 c).arrAt 9 (cfgs 0).N = Cert.ReferenceIdeal.Term.dq (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [Body.after0_9]
  obtain ⟨r, l, rfl⟩ : ∃ (r : Fin 4096) (l : Fin 128), y = ix2 r l := ⟨y 0, y 1, eq_ix2 y⟩
  exact (dq_block (holds m c h t) r l).trans ((Cert.ReferenceIdeal.Term.dq_at _ (real_q h) (real_k h) (real_c h) _ _).symm.trans (emb_dq t r l _).symm)

theorem final_dk : (dats m 0 c).arrAt 10 (cfgs 0).N = Cert.ReferenceIdeal.Term.dk (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [Body.after0_10]
  obtain ⟨r, l, rfl⟩ : ∃ (r : Fin 4096) (l : Fin 128), y = ix2 r l := ⟨y 0, y 1, eq_ix2 y⟩
  exact (dk_block (holds m c h t) r l).trans ((Cert.ReferenceIdeal.Term.dk_at _ (real_q h) (real_k h) (real_c h) _ _).symm.trans (emb_dk t r l _).symm)

theorem final_dv : (dats m 0 c).arrAt 11 (cfgs 0).N = Cert.ReferenceIdeal.Term.dv (m ((c : Thread nD τ).loc main_arg0)) (m ((c : Thread nD τ).loc main_arg1))
    (m ((c : Thread nD τ).loc main_arg3)) (m ((c : Thread nD τ).loc main_arg4)) := by
  refine (dats m 0 c).arrAt_eq_of_covers 11 _ (by decide +kernel) fun t _ y => ?_
  blk_simp
  rw [Body.after0_11]
  obtain ⟨r, l, rfl⟩ : ∃ (r : Fin 4096) (l : Fin 128), y = ix2 r l := ⟨y 0, y 1, eq_ix2 y⟩
  exact (dv_block (holds m c h t) r l).trans ((Cert.ReferenceIdeal.Term.dv_at _ _ _).symm.trans (emb_dv t r l _).symm)

end Inputs

end Cert.KernelIdeal.Final

end
-- ==== Proof.Algebraic.lean ====
/- The kernel's results are the reference's: the program's run against the reference's. -/
module

public import proofs.«01_k».proof.Defs
public import proofs.«01_k».proof.Proof.Gen.ReferenceIdeal
public import proofs.«01_k».proof.Proof.Final
public import Idealize.ShloMosaic.Lib.Claim
public import Idealize.ShloMosaic.Lib.Quiescent
public import Idealize.ShloMosaic.Lib.Pipeline.ValueKit

public section

set_option maxRecDepth 16384
set_option maxHeartbeats 8000000

open Idealize.ShloMosaic Idealize.ShloMosaic.Tactic Idealize.ShloMosaic.TcCoe Idealize.SL.Sem

namespace Cert.Proof

theorem algebraic_of (hP : Cert.Pre_finite.Facts) : Cert.algebraic_KernelIdeal_ReferenceIdeal_pre_finite (hKernelIdeal := Cert.KernelIdeal.Gen.facts) (hReferenceIdeal := Cert.ReferenceIdeal.Gen.facts) (hPre_finite := hP) := by
  pair_intro
  · have h := (θ_run Cert.KernelIdeal.defs _ _).mono (fun _ h => h.1) (Cert.KernelIdeal.Body.run_main m g)
    run_from h
    exact Cert.KernelIdeal.Gen.V_main_arg3 m c
  · hlo_run
    · exact (Cert.KernelIdeal.Final.final_dq m c (hpre c)).symm
    · exact (Cert.KernelIdeal.Final.final_dk m c (hpre c)).symm
    · exact (Cert.KernelIdeal.Final.final_dv m c (hpre c)).symm

end Cert.Proof

end
-- ==== Proof.NormGrad.lean ====
/- The gradient of a row's root-mean-square norm over the extended reals: the kernel's arithmetic is the reference's. -/
module

public import Idealize.ShloMosaic.Lib.Pipeline.ValueKit

@[expose] public section

noncomputable section

namespace Cert.NormGrad

open Idealize.ShloMosaic

variable {n : ℕ}

/-- The number of a row's entries, as the programs' word says it. -/
def count : EReal := Ideal.ofBits .f32 0x44800000#32
/-- What keeps the root away from zero, as the programs' word says it. -/
def tiny : EReal := Ideal.ofBits .f32 0x358637BD#32
/-- The factor of the root's derivative, as the reference's word says it. -/
def minusHalf : EReal := Ideal.ofBits .f32 0xBF000000#32

theorem count_eq : count = ((1024 : ℝ) : EReal) := by
  simp [count, Ideal.ofBits, Ideal.ieee, ← EReal.coe_mul]
  norm_num
theorem minusHalf_eq : minusHalf = ((-(1 / 2) : ℝ) : EReal) := by
  simp [minusHalf, Ideal.ofBits, Ideal.ieee, ← EReal.coe_mul]
  norm_num
theorem tiny_eq : ∃ ε : ℝ, 0 < ε ∧ tiny = (ε : EReal) := by
  refine ⟨8796093 / 2 ^ 43, by norm_num, ?_⟩
  simp [tiny, Ideal.ofBits, Ideal.ieee, ← EReal.coe_mul]
  norm_num

/-- A row's mean square, and the small number with it. -/
def square (x : Fin n → EReal) : EReal := Ideal.div (∑ d, x d * x d) count + tiny
/-- The reciprocal of a row's root mean square. -/
def scale (x : Fin n → EReal) : EReal := Ideal.rsqrt (square x)
/-- The gradient of a row's norm, of the cotangent times the weights. -/
def back (x g : Fin n → EReal) (i : Fin n) : EReal :=
  scale x * (g i - x i * scale x * Ideal.div (∑ d, g d * (x d * scale x)) count)
/-- The cotangent of each of a row's squares. -/
def squareCot (x g : Fin n → EReal) : EReal :=
  Ideal.div ((∑ d, x d * g d) * (minusHalf * Ideal.div (scale x) (square x))) count

theorem div_count (x : EReal) : Ideal.div x count = x * ((1 / 1024 : ℝ) : EReal) := by
  rw [count_eq, Ideal.div_coe (by norm_num)]

theorem sum_squares_nonneg (x : Fin n → EReal) : 0 ≤ ∑ d, x d * x d := by
  refine Finset.sum_nonneg fun d _ => ?_
  rcases le_total 0 (x d) with h | h
  · exact mul_nonneg h h
  · have h' : 0 ≤ -x d := by simpa using EReal.neg_le_neg_iff.mpr h
    simpa using mul_nonneg h' h'

/-- A row's scale is a positive number, or the row isn't finite and it is zero. -/
theorem scale_cases (x : Fin n → EReal) :
    (∃ ρ : ℝ, 0 < ρ ∧ scale x = (ρ : EReal) ∧ Ideal.div (scale x) (square x) = ((ρ ^ 3 : ℝ) : EReal))
      ∨ (scale x = 0 ∧ Ideal.div (scale x) (square x) = 0) := by
  obtain ⟨ε, hε, he⟩ := tiny_eq
  have h0 := sum_squares_nonneg x
  unfold scale square
  rw [div_count, he]
  generalize ∑ d, x d * x d = S at h0 ⊢
  induction S using EReal.rec with
  | bot => exact absurd h0 (by simp)
  | top =>
    right
    rw [EReal.top_mul_coe_of_pos (by norm_num), EReal.top_add_coe]
    simp [Ideal.div]
  | coe s =>
    left
    have hs : 0 ≤ s := by exact_mod_cast h0
    have hδ : 0 < s * (1 / 1024) + ε := by positivity
    rw [← EReal.coe_mul, ← EReal.coe_add]
    generalize s * (1 / 1024) + ε = δ at hδ ⊢
    have hq : 0 < Real.sqrt δ := Real.sqrt_pos.mpr hδ
    refine ⟨(Real.sqrt δ)⁻¹, inv_pos.mpr hq, ?_, ?_⟩
    · rw [Ideal.rsqrt_coe, if_neg (not_lt.mpr hδ.le), if_neg hδ.ne']
    · rw [Ideal.rsqrt_coe, if_neg (not_lt.mpr hδ.le), if_neg hδ.ne', Ideal.div_coe hδ.ne', ← EReal.coe_mul]
      congr 1
      have h2 : δ = Real.sqrt δ ^ 2 := (Real.sq_sqrt hδ.le).symm
      rw [show 1 / δ = 1 / Real.sqrt δ ^ 2 by rw [← h2]]
      field_simp

theorem sum_mul_real (f : Fin n → EReal) {ρ : ℝ} (h : 0 ≤ ρ) : ∑ d, f d * (ρ : EReal) = (∑ d, f d) * (ρ : EReal) := by
  have e : ∀ s : Finset (Fin n), ∑ d ∈ s, f d * (ρ : EReal) = (∑ d ∈ s, f d) * (ρ : EReal) := by
    intro s
    induction s using Finset.induction_on with
    | empty => simp
    | insert a s ha ih =>
      rw [Finset.sum_insert ha, Finset.sum_insert ha, ih,
        EReal.right_distrib_of_nonneg_of_ne_top (by exact_mod_cast h) (EReal.coe_ne_top _)]
  exact e _

theorem twice (P : EReal) {k : ℝ} (h : 0 ≤ k) : -(P * (k : EReal)) + -(P * (k : EReal)) = -(P * ((2 * k : ℝ) : EReal)) := by
  rw [two_mul, EReal.coe_add, EReal.left_distrib_of_nonneg (by exact_mod_cast h) (by exact_mod_cast h)]
  generalize P * (k : EReal) = A
  rw [EReal.neg_add, sub_eq_add_neg]
  · induction A using EReal.rec <;> simp
  · induction A using EReal.rec <;> simp

/-- The kernel's gradient of a row's norm is the reference's, which adds the two cotangents of the square. -/
theorem back_eq (x g : Fin n → EReal) (i : Fin n) :
    back x g i = g i * scale x + x i * squareCot x g + squareCot x g * x i := by
  unfold back squareCot
  rcases scale_cases x with ⟨ρ, hρ, hs, hd⟩ | ⟨hs, hd⟩
  · rw [hd, hs, minusHalf_eq, div_count, div_count]
    have hsum : ∑ d, g d * (x d * (ρ : EReal)) = (∑ d, x d * g d) * (ρ : EReal) := by
      rw [← sum_mul_real _ hρ.le]
      exact Finset.sum_congr rfl fun d _ => by rw [← mul_assoc, mul_comm (g d)]
    rw [hsum]
    generalize ∑ d, x d * g d = M
    have hk : 0 ≤ ρ ^ 3 / 2 / 1024 := by positivity
    have h1 : x i * (M * (((-(1 / 2) : ℝ) : EReal) * ((ρ ^ 3 : ℝ) : EReal)) * ((1 / 1024 : ℝ) : EReal))
        = -(x i * M * ((ρ ^ 3 / 2 / 1024 : ℝ) : EReal)) := by
      rw [← EReal.coe_mul, mul_assoc M, ← EReal.coe_mul, ← mul_assoc,
        show -(1 / 2) * ρ ^ 3 * (1 / 1024) = -(ρ ^ 3 / 2 / 1024) by ring, EReal.coe_neg, mul_neg]
    rw [mul_comm (_ * _) (x i), h1, add_assoc, twice _ hk, sub_eq_add_neg,
      EReal.left_distrib_of_nonneg_of_ne_top (by exact_mod_cast hρ.le) (EReal.coe_ne_top _), mul_comm (ρ : EReal) (g i)]
    congr 1
    rw [mul_neg]
    congr 1
    rw [show 2 * (ρ ^ 3 / 2 / 1024) = ρ * ρ * ρ * (1 / 1024) by ring]
    simp only [EReal.coe_mul]
    ac_rfl
  · rw [hd, hs, div_count, div_count]
    simp

end Cert.NormGrad

end
-- ==== Proof.NormWords.lean ====
/- The second kernel's words read at an index, of the blocks that a point of the grid sees. -/
module

public import proofs.«01_k».proof.Proof.Gen.Kernel2Ideal.Skeleton
public import proofs.«01_k».proof.Proof.NormGrad

@[expose] public section

set_option maxRecDepth 16384

noncomputable section

namespace Cert.Kernel2Ideal.Words

open Idealize.ShloMosaic Idealize.ShloMosaic.TcCoe Cert.Kernel2Ideal Cert.Kernel2Ideal.Gen Cert.NormGrad

/-! ## The words -/

/-- The sum of the four shards' products. -/
theorem pay6_at (a0 a1 a2 a3 : Vec Ideal S1x256x1408 .bf16) (b0 b1 b2 b3 : Vec Ideal S1x1024x1408 .bf16) (i : Fin 256) (d : Fin 1024) :
    k0_pay6 (F := Ideal) a0 b0 a1 b1 a2 b2 a3 b3 (ix2 i d)
      = ∑ c, a0 (ix3 0 i c) * b0 (ix3 0 d c) + ∑ c, a1 (ix3 0 i c) * b1 (ix3 0 d c) + ∑ c, a2 (ix3 0 i c) * b2 (ix3 0 d c) + ∑ c, a3 (ix3 0 i c) * b3 (ix3 0 d c) := by
  pointwise [k0_pay6]

theorem pay14_at (a0 a1 a2 a3 : Vec Ideal S1x256x1408 .bf16) (b0 b1 b2 b3 : Vec Ideal S1x1024x1408 .bf16) (i : Fin 256) (d : Fin 1024) :
    k0_pay14 (F := Ideal) (k0_pay13 a0) b0 a1 b1 a2 b2 a3 b3 (ix2 i d)
      = ∑ c, a0 (ix3 0 i c) * b0 (ix3 0 d c) + ∑ c, a1 (ix3 0 i c) * b1 (ix3 0 d c) + ∑ c, a2 (ix3 0 i c) * b2 (ix3 0 d c) + ∑ c, a3 (ix3 0 i c) * b3 (ix3 0 d c) := by
  pointwise [k0_pay14, k0_pay13]

theorem pay8_at (x : Vec Ideal S256x1024 .f32) (i : Fin 256) : k0_pay8 (F := Ideal) (k0_pay7 x) (ix2 i 0) = scale fun d => x (ix2 i d) := by
  pointwise [k0_pay8, k0_pay7]
  rfl

theorem pay15_at (x : Vec Ideal S256x1024 .f32) (i : Fin 256) : k0_pay15 (F := Ideal) x (ix2 i 0) = scale fun d => x (ix2 i d) := by
  pointwise [k0_pay15]
  rfl

theorem pay9_at (x : Vec Ideal S256x1024 .f32) (i : Fin 256) (d : Fin 1024) :
    k0_pay9 (F := Ideal) x (k0_pay7 x) (ix2 i d) = x (ix2 i d) * scale fun d => x (ix2 i d) := by
  pointwise [k0_pay9]
  rw [pay8_at]

theorem pay16_at (x : Vec Ideal S256x1024 .f32) (i : Fin 256) (d : Fin 1024) :
    k0_pay16 (F := Ideal) x (ix2 i d) = x (ix2 i d) * scale fun d => x (ix2 i d) := by
  pointwise [k0_pay16]
  rw [pay15_at]

theorem pay10_at (x g : Vec Ideal S256x1024 .f32) (w : Vec Ideal S1x1024 .f32) (e : Vec Ideal S256x1024 .f32) (i : Fin 256) (d : Fin 1024) :
    k0_pay10 (F := Ideal) x g (k0_pay7 x) w e (ix2 i d)
      = e (ix2 i d) + back (fun d => x (ix2 i d)) (fun d => g (ix2 i d) * w (ix2 0 d)) d := by
  pointwise [k0_pay10]
  simp only [pay9_at, pay8_at]
  rfl

theorem pay1_at (x g : Vec Ideal S256x1024 .f32) (w : Vec Ideal S1x1024 .f32) (e : Vec Ideal S256x1024 .f32) (i : Fin 256) (d : Fin 1024) :
    k0_pay1 (F := Ideal) g (k0_pay15 x) (k0_pay16 x) w e (ix2 i d)
      = e (ix2 i d) + back (fun d => x (ix2 i d)) (fun d => g (ix2 i d) * w (ix2 0 d)) d := by
  pointwise [k0_pay1]
  simp only [pay16_at, pay15_at]
  rfl

theorem pay11_at (x g : Vec Ideal S256x1024 .f32) (s : FVec Ideal S256 .f32) (w : Vec Ideal S1x1024 .f32) (e : Vec Ideal S256x1024 .f32) (o : Vec Ideal S2048x1024 .bf16) (i : Fin 256) (l : Fin 2048) :
    k0_pay11 (F := Ideal) x g s w e o (ix2 i l) = ∑ d, k0_pay10 (F := Ideal) x g s w e (ix2 i d) * o (ix2 l d) := by
  pointwise [k0_pay11]

theorem pay2_at (g : Vec Ideal S256x1024 .f32) (s : FVec Ideal S256x1 .f32) (y : FVec Ideal S256x1024 .f32) (w : Vec Ideal S1x1024 .f32) (e : Vec Ideal S256x1024 .f32) (o : Vec Ideal S2048x1024 .bf16) (i : Fin 256) (l : Fin 2048) :
    k0_pay2 (F := Ideal) g s y w e o (ix2 i l) = ∑ d, k0_pay1 (F := Ideal) g s y w e (ix2 i d) * o (ix2 l d) := by
  pointwise [k0_pay2]

theorem pay12_at (x g : Vec Ideal S256x1024 .f32) (d : Fin 1024) :
    k0_pay12 (F := Ideal) k0_pay5 x g (k0_pay7 x) (ix2 0 d) = ∑ i : Fin 256, g (ix2 i d) * (x (ix2 i d) * scale fun d => x (ix2 i d)) := by
  pointwise [k0_pay12, k0_pay5]
  simp only [pay9_at]

theorem pay3_at (v : FVec Ideal S1x1024 .f32) (x g : Vec Ideal S256x1024 .f32) (d : Fin 1024) :
    k0_pay3 (F := Ideal) v g (k0_pay16 x) (ix2 0 d) = v (ix2 0 d) + ∑ i : Fin 256, g (ix2 i d) * (x (ix2 i d) * scale fun d => x (ix2 i d)) := by
  pointwise [k0_pay3]
  simp only [pay16_at]

theorem pay4_at (v : FVec Ideal S1x1024 .f32) (y g : Vec Ideal S256x1024 .f32) (a : Vec Ideal S1x1024 .f32) (d : Fin 1024) :
    k0_pay4 (F := Ideal) v g y a (ix2 0 d) = a (ix2 0 d) + k0_pay3 (F := Ideal) v g y (ix2 0 d) := by
  pointwise [k0_pay4]

/-! ## The blocks of a point -/

section Blocks

variable (h : Vec Ideal S2x512x2816 .bf16) (u : Vec Ideal S4x1024x1408 .bf16) (x : Vec Ideal S512x1024 .f32) (w : Vec Ideal S1x1024 .f32)
  (e : Vec Ideal S512x1024 .f32) (o : Vec Ideal S2048x1024 .bf16)

/-- The normed row's cotangent. -/
def normCot (r : Fin 512) (d : Fin 1024) : EReal :=
  ∑ k : Fin 4, ∑ c : Fin 1408, h (ix3 ⟨k / 2, by omega⟩ r ⟨k % 2 * 1408 + c, by omega⟩) * u (ix3 k d c)
/-- The row's cotangent. -/
def rowCot (r : Fin 512) (d : Fin 1024) : EReal :=
  e (ix2 r d) + back (fun d => x (ix2 r d)) (fun d => normCot h u r d * w (ix2 0 d)) d
/-- The cotangent of the product's left side. -/
def mixedCot (r : Fin 512) (l : Fin 2048) : EReal := ∑ d, rowCot h u x w e r d * o (ix2 l d)
/-- What a row adds to the weights' cotangent. -/
def weightTerm (r : Fin 512) (d : Fin 1024) : EReal := normCot h u r d * (x (ix2 r d) * scale fun d => x (ix2 r d))

/-- The first half of a block's rows. -/
def lowCots : FVec Ideal S256x1024 .f32 :=
  k0_pay6 (View.ld h (Rect.unit ![0, 0, 0] ![1, 256, 1408] inb_S2x512x2816_S1x256x1408_0_0_0))
    (View.ld u (Rect.unit ![0, 0, 0] ![1, 1024, 1408] inb_S4x1024x1408_S1x1024x1408_0_0_0))
    (View.ld h (Rect.unit ![0, 0, 1408] ![1, 256, 1408] inb_S2x512x2816_S1x256x1408_0_0_1408))
    (View.ld u (Rect.unit ![1, 0, 0] ![1, 1024, 1408] inb_S4x1024x1408_S1x1024x1408_1_0_0))
    (View.ld h (Rect.unit ![1, 0, 0] ![1, 256, 1408] inb_S2x512x2816_S1x256x1408_1_0_0))
    (View.ld u (Rect.unit ![2, 0, 0] ![1, 1024, 1408] inb_S4x1024x1408_S1x1024x1408_2_0_0))
    (View.ld h (Rect.unit ![1, 0, 1408] ![1, 256, 1408] inb_S2x512x2816_S1x256x1408_1_0_1408))
    (View.ld u (Rect.unit ![3, 0, 0] ![1, 1024, 1408] inb_S4x1024x1408_S1x1024x1408_3_0_0))
/-- The second half of a block's rows. -/
def highCots : FVec Ideal S256x1024 .f32 :=
  k0_pay14 (k0_pay13 (View.ld h (Rect.unit ![0, 256, 0] ![1, 256, 1408] inb_S2x512x2816_S1x256x1408_0_256_0)))
    (View.ld u (Rect.unit ![0, 0, 0] ![1, 1024, 1408] inb_S4x1024x1408_S1x1024x1408_0_0_0))
    (View.ld h (Rect.unit ![0, 256, 1408] ![1, 256, 1408] inb_S2x512x2816_S1x256x1408_0_256_1408))
    (View.ld u (Rect.unit ![1, 0, 0] ![1, 1024, 1408] inb_S4x1024x1408_S1x1024x1408_1_0_0))
    (View.ld h (Rect.unit ![1, 256, 0] ![1, 256, 1408] inb_S2x512x2816_S1x256x1408_1_256_0))
    (View.ld u (Rect.unit ![2, 0, 0] ![1, 1024, 1408] inb_S4x1024x1408_S1x1024x1408_2_0_0))
    (View.ld h (Rect.unit ![1, 256, 1408] ![1, 256, 1408] inb_S2x512x2816_S1x256x1408_1_256_1408))
    (View.ld u (Rect.unit ![3, 0, 0] ![1, 1024, 1408] inb_S4x1024x1408_S1x1024x1408_3_0_0))
def low : FVec Ideal S256x1024 .f32 := View.ld x (Rect.unit ![0, 0] ![256, 1024] inb_S512x1024_S256x1024_0_0)
def high : FVec Ideal S256x1024 .f32 := View.ld x (Rect.unit ![256, 0] ![256, 1024] inb_S512x1024_S256x1024_256_0)

theorem low_at (i : Fin 256) (d : Fin 1024) : low x (ix2 i d) = x (ix2 ⟨i, by omega⟩ d) := by
  exact View.ld_unit_apply_of _ _ _ _ _ _ (by intro a; fin_cases a <;> simp [ix2])
theorem high_at (i : Fin 256) (d : Fin 1024) : high x (ix2 i d) = x (ix2 ⟨256 + i, by omega⟩ d) := by
  exact View.ld_unit_apply_of _ _ _ _ _ _ (by intro a; fin_cases a <;> simp [ix2])
theorem lowCots_at (i : Fin 256) (d : Fin 1024) : lowCots h u (ix2 i d) = normCot h u ⟨i, by omega⟩ d := by
  unfold lowCots normCot
  rw [pay6_at, Fin.sum_univ_four]
  refine congrArg₂ (· + ·) (congrArg₂ (· + ·) (congrArg₂ (· + ·) ?_ ?_) ?_) ?_ <;>
    exact Finset.sum_congr rfl fun c _ => congrArg₂ (· * ·)
      (View.ld_unit_apply_of _ _ _ _ _ _ (by intro a; fin_cases a <;> simp [ix3]))
      (View.ld_unit_apply_of _ _ _ _ _ _ (by intro a; fin_cases a <;> simp [ix3]))
theorem highCots_at (i : Fin 256) (d : Fin 1024) : highCots h u (ix2 i d) = normCot h u ⟨256 + i, by omega⟩ d := by
  unfold highCots normCot
  rw [pay14_at, Fin.sum_univ_four]
  refine congrArg₂ (· + ·) (congrArg₂ (· + ·) (congrArg₂ (· + ·) ?_ ?_) ?_) ?_ <;>
    exact Finset.sum_congr rfl fun c _ => congrArg₂ (· * ·)
      (View.ld_unit_apply_of _ _ _ _ _ _ (by intro a; fin_cases a <;> simp [ix3]))
      (View.ld_unit_apply_of _ _ _ _ _ _ (by intro a; fin_cases a <;> simp [ix3]))

theorem low_row (i : Fin 256) (d : Fin 1024) :
    k0_pay10 (low x) (lowCots h u) (k0_pay7 (low x)) w (low e) (ix2 i d) = rowCot h u x w e ⟨i, by omega⟩ d := by
  rw [pay10_at]
  simp only [low_at, lowCots_at]
  rfl
theorem high_row (i : Fin 256) (d : Fin 1024) :
    k0_pay1 (highCots h u) (k0_pay15 (high x)) (k0_pay16 (high x)) w (high e) (ix2 i d) = rowCot h u x w e ⟨256 + i, by omega⟩ d := by
  rw [pay1_at]
  simp only [high_at, highCots_at]
  rfl
theorem low_mixed (i : Fin 256) (l : Fin 2048) :
    k0_pay11 (low x) (lowCots h u) (k0_pay7 (low x)) w (low e) o (ix2 i l) = mixedCot h u x w e o ⟨i, by omega⟩ l := by
  rw [pay11_at]
  simp only [low_row]
  rfl
theorem high_mixed (i : Fin 256) (l : Fin 2048) :
    k0_pay2 (highCots h u) (k0_pay15 (high x)) (k0_pay16 (high x)) w (high e) o (ix2 i l) = mixedCot h u x w e o ⟨256 + i, by omega⟩ l := by
  rw [pay2_at]
  simp only [high_row]
  rfl

variable {h u x w e o}

/-- The two halves, where an index of the block falls in them. -/
theorem low_row_of {r : Fin 512} {d : Fin 1024} (y : S256x1024.Idx) (hr : (r : ℕ) = y 0) (hd : (d : ℕ) = y 1) :
    k0_pay10 (low x) (lowCots h u) (k0_pay7 (low x)) w (low e) y = rowCot h u x w e r d := by
  obtain ⟨a, b, rfl⟩ : ∃ (a : Fin 256) (b : Fin 1024), y = ix2 a b := ⟨y 0, y 1, eq_ix2 y⟩
  obtain rfl : r = ⟨a, a.isLt.trans (by decide)⟩ := Fin.ext hr
  obtain rfl : d = b := Fin.ext hd
  exact low_row ..
theorem high_row_of {r : Fin 512} {d : Fin 1024} (y : S256x1024.Idx) (hr : (r : ℕ) = 256 + y 0) (hd : (d : ℕ) = y 1) :
    k0_pay1 (highCots h u) (k0_pay15 (high x)) (k0_pay16 (high x)) w (high e) y = rowCot h u x w e r d := by
  obtain ⟨a, b, rfl⟩ : ∃ (a : Fin 256) (b : Fin 1024), y = ix2 a b := ⟨y 0, y 1, eq_ix2 y⟩
  obtain rfl : r = ⟨256 + a, Nat.add_lt_add_left a.isLt 256⟩ := Fin.ext hr
  obtain rfl : d = b := Fin.ext hd
  exact high_row ..
theorem low_mixed_of {r : Fin 512} {l : Fin 2048} (y : S256x2048.Idx) (hr : (r : ℕ) = y 0) (hl : (l : ℕ) = y 1) :
    k0_pay11 (low x) (lowCots h u) (k0_pay7 (low x)) w (low e) o y = mixedCot h u x w e o r l := by
  obtain ⟨a, b, rfl⟩ : ∃ (a : Fin 256) (b : Fin 2048), y = ix2 a b := ⟨y 0, y 1, eq_ix2 y⟩
  obtain rfl : r = ⟨a, a.isLt.trans (by decide)⟩ := Fin.ext hr
  obtain rfl : l = b := Fin.ext hl
  exact low_mixed ..
theorem high_mixed_of {r : Fin 512} {l : Fin 2048} (y : S256x2048.Idx) (hr : (r : ℕ) = 256 + y 0) (hl : (l : ℕ) = y 1) :
    k0_pay2 (highCots h u) (k0_pay15 (high x)) (k0_pay16 (high x)) w (high e) o y = mixedCot h u x w e o r l := by
  obtain ⟨a, b, rfl⟩ : ∃ (a : Fin 256) (b : Fin 2048), y = ix2 a b := ⟨y 0, y 1, eq_ix2 y⟩
  obtain rfl : r = ⟨256 + a, Nat.add_lt_add_left a.isLt 256⟩ := Fin.ext hr
  obtain rfl : l = b := Fin.ext hl
  exact high_mixed ..

/-- The block's part of the weights' cotangent. -/
theorem weight_at (d : Fin 1024) :
    k0_pay3 (k0_pay12 k0_pay5 (low x) (lowCots h u) (k0_pay7 (low x))) (highCots h u) (k0_pay16 (high x)) (ix2 0 d) = ∑ r, weightTerm h u x r d := by
  rw [pay3_at, pay12_at]
  simp only [low_at, lowCots_at, high_at, highCots_at]
  exact (Fin.sum_univ_add (a := 256) (b := 256) fun r => weightTerm h u x r d).symm

end Blocks

end Cert.Kernel2Ideal.Words

end
-- ==== Proof.RefNorm.lean ====
/- The second reference's three results as terms of its arguments, stage by stage, and each stage read at an index. -/
module

public import proofs.«01_k».proof.Proof.Gen.Reference2Ideal
public import proofs.«01_k».proof.Proof.NormGrad

@[expose] public section

set_option maxRecDepth 16384

noncomputable section

namespace Cert.Reference2Ideal.Term

open Idealize.ShloMosaic Cert.Reference2Ideal Cert.NormGrad

/-! ## The stages -/

/-- The cotangent of the normed rows: the product's backward, of the halves and the shards put side by side. -/
def normCots (h : FVec Ideal S2x4096x2816 .bf16) (u : FVec Ideal S4x1024x1408 .bf16) : FVec Ideal S4096x1024 .f32 :=
  Host.dotGeneral dot_S4096x5632_S1024x5632_S4096x1024_1_1_0_0_n_n none
    (shapeCast S4096x5632 (transpose S4096x2x2816 [1, 0, 2] (extf .f32 h Gen.bitsLt_bf16_f32) Gen.transposes_S2x4096x2816_S4096x2x2816_1_0_2) Gen.shapeCasts_S4096x2x2816_S4096x5632)
    (shapeCast S1024x5632 (transpose S1024x4x1408 [1, 0, 2] (extf .f32 u Gen.bitsLt_bf16_f32) Gen.transposes_S4x1024x1408_S1024x4x1408_1_0_2) Gen.shapeCasts_S1024x4x1408_S1024x5632)

/-- The rows' mean squares, with the small number. -/
def squares (x : FVec Ideal S4096x1024 .f32) : FVec Ideal S4096x1 .f32 :=
  addf (Host.divf (broadcastInDim S4096x1 ![0] Gen.bcast_S4096_S4096x1_0
      (Host.reduceAdd (mulf x x) (constant S_ .f32 0x00000000#32) Gen.reducesTo_S4096x1024_S4096_d1 Gen.h_S_))
    (broadcastInDim S4096x1 ![] Gen.bcast_S_S4096x1 (constant S_ .f32 0x44800000#32)))
    (broadcastInDim S4096x1 ![] Gen.bcast_S_S4096x1 (constant S_ .f32 0x358637BD#32))

/-- The rows' scales. -/
def scales (x : FVec Ideal S4096x1024 .f32) : FVec Ideal S4096x1 .f32 := Host.rsqrt (squares x)

/-- A row's number, at every entry of the row. -/
def across (s : FVec Ideal S4096x1 .f32) : FVec Ideal S4096x1024 .f32 :=
  broadcastInDim S4096x1024 ![0, 1] Gen.bcast_S4096x1_S4096x1024_0_1 s

/-- The weights' cotangent. -/
def weightCots (x g : FVec Ideal S4096x1024 .f32) : FVec Ideal S1x1024 .f32 :=
  shapeCast S1x1024 (Host.reduceAdd (mulf (mulf x (across (scales x))) g) (constant S_ .f32 0x00000000#32) Gen.reducesTo_S4096x1024_S1024_d0 Gen.h_S_)
    Gen.shapeCasts_S1024_S1x1024

/-- The cotangent of the normed rows before the weights. -/
def weighted (g : FVec Ideal S4096x1024 .f32) (w : FVec Ideal S1x1024 .f32) : FVec Ideal S4096x1024 .f32 :=
  mulf g (broadcastInDim S4096x1024 ![0, 1] Gen.bcast_S1x1024_S4096x1024_0_1 w)

/-- The cotangent of each row's squares. -/
def squareCots (x g : FVec Ideal S4096x1024 .f32) : FVec Ideal S4096x1024 .f32 :=
  broadcastInDim S4096x1024 ![0] Gen.bcast_S4096_S4096x1024_0
    (Host.reduceAdd (Host.divf (mulf
        (shapeCast S4096x1 (Host.reduceAdd (mulf x g) (constant S_ .f32 0x00000000#32) Gen.reducesTo_S4096x1024_S4096_d1 Gen.h_S_) Gen.shapeCasts_S4096_S4096x1)
        (mulf (broadcastInDim S4096x1 ![] Gen.bcast_S_S4096x1 (constant S_ .f32 0xBF000000#32)) (Host.divf (scales x) (squares x))))
      (broadcastInDim S4096x1 ![] Gen.bcast_S_S4096x1 (constant S_ .f32 0x44800000#32)))
    (constant S_ .f32 0x00000000#32) Gen.reducesTo_S4096x1_S4096_d1 Gen.h_S_)

/-- The rows' cotangent, through the norm and past it. -/
def rowCots (x g e : FVec Ideal S4096x1024 .f32) : FVec Ideal S4096x1024 .f32 :=
  addf e (addf (addf (mulf g (across (scales x))) (mulf x (squareCots x g))) (mulf (squareCots x g) x))

/-- The cotangent of the product's left side. -/
def mixedCots (y : FVec Ideal S4096x1024 .f32) (o : FVec Ideal S2048x1024 .bf16) : FVec Ideal S4096x2048 .f32 :=
  Host.dotGeneral dot_S4096x1024_S2048x1024_S4096x2048_1_1_0_0_n_n none y (extf .f32 o Gen.bitsLt_bf16_f32)

/-! ## The stages read at an index -/

theorem normCots_at (h : FVec Ideal S2x4096x2816 .bf16) (u : FVec Ideal S4x1024x1408 .bf16) (r : Fin 4096) (d : Fin 1024) :
    normCots h u (ix2 r d) = ∑ k : Fin 4, ∑ c : Fin 1408, h (ix3 ⟨k / 2, by omega⟩ r ⟨k % 2 * 1408 + c, by omega⟩) * u (ix3 k d c) := by
  pointwise [normCots]
  refine (Fin.sum_mul_add_congr fun k c hl => ?_).symm
  blk_point []

theorem squares_at (x : FVec Ideal S4096x1024 .f32) (r : Fin 4096) : squares x (ix2 r 0) = square fun d => x (ix2 r d) := by
  pointwise [squares]; rfl

theorem scales_at (x : FVec Ideal S4096x1024 .f32) (r : Fin 4096) : scales x (ix2 r 0) = scale fun d => x (ix2 r d) :=
  congrArg Ideal.rsqrt (squares_at x r)

theorem across_at (s : FVec Ideal S4096x1 .f32) (r : Fin 4096) (d : Fin 1024) : across s (ix2 r d) = s (ix2 r 0) := by
  pointwise [across]

theorem weightCots_at (x g : FVec Ideal S4096x1024 .f32) (d : Fin 1024) :
    weightCots x g (ix2 0 d) = ∑ r : Fin 4096, x (ix2 r d) * (scale fun d => x (ix2 r d)) * g (ix2 r d) := by
  pointwise [weightCots]
  exact Finset.sum_congr rfl fun r _ => by rw [across_at, scales_at]

theorem weighted_at (g : FVec Ideal S4096x1024 .f32) (w : FVec Ideal S1x1024 .f32) (r : Fin 4096) (d : Fin 1024) :
    weighted g w (ix2 r d) = g (ix2 r d) * w (ix2 0 d) := by
  pointwise [weighted]

theorem squareCots_at (x g : FVec Ideal S4096x1024 .f32) (r : Fin 4096) (d : Fin 1024) :
    squareCots x g (ix2 r d) = squareCot (fun d => x (ix2 r d)) fun d => g (ix2 r d) := by
  pointwise [squareCots]
  rw [Fin.sum_univ_one, scales_at, squares_at]
  rfl

theorem rowCots_at (x g e : FVec Ideal S4096x1024 .f32) (r : Fin 4096) (d : Fin 1024) :
    rowCots x g e (ix2 r d) = e (ix2 r d) + back (fun d => x (ix2 r d)) (fun d => g (ix2 r d)) d := by
  rw [back_eq]
  pointwise [rowCots]
  rw [across_at, scales_at, squareCots_at]

theorem mixedCots_at (y : FVec Ideal S4096x1024 .f32) (o : FVec Ideal S2048x1024 .bf16) (r : Fin 4096) (l : Fin 2048) :
    mixedCots y o (ix2 r l) = ∑ d : Fin 1024, y (ix2 r d) * o (ix2 l d) := by
  pointwise [mixedCots]

end Cert.Reference2Ideal.Term

end
-- ==== Proof.Norm.lean ====
/- The norm before the gated MLP and the two products around it, backward: what each result array holds after the run. -/
module

public import proofs.«01_k».proof.Proof.Gen.Kernel2Ideal.Frame
public import proofs.«01_k».proof.Proof.NormWords
public import proofs.«01_k».proof.Proof.RefNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Kernel2Ideal.Words Cert.Reference2Ideal.Term Cert.NormGrad

theorem idx : ∀ t : Fin cfg0.N, win0_0.index t = ![0, t.val, 0] ∧ win0_1.index t = ![0, 0, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0] ∧ win0_8.index t = ![t.val, 0] :=
  (by decide +kernel : ∀ t : Fin grid0.N, _)

theorem lt_eight (t : Fin cfg0.N) : t.val < 8 := lt_of_lt_of_eq t.isLt N_0

variable (m : (ℓ : Loc nD τ sig) → Buf (Elt Ideal) ℓ) (c : Dev nD)

/-- Row `r` of a point's block, among all the rows. -/
def row (t : Fin cfg0.N) (r : Fin 512) : Fin 4096 := ⟨t.val * 512 + r, by have := lt_eight t; omega⟩

/-! ## The blocks a point reads -/

theorem read_h (t : Fin cfg0.N) (a : Fin 2) (r : Fin 512) (l : Fin 2816) : iblk m c 0 t (ix3 a r l) = m ((c : Thread nD τ).loc main_arg0) (ix3 a (row t r) l) := by
  blk_point [iblk, V, idx t]
  rfl

theorem read_u (t : Fin cfg0.N) (k : Fin 4) (d : Fin 1024) (l : Fin 1408) : iblk m c 1 t (ix3 k d l) = m ((c : Thread nD τ).loc main_arg1) (ix3 k d l) := by
  blk_point [iblk, V, idx t]

theorem read_x (t : Fin cfg0.N) (r : Fin 512) (d : Fin 1024) : iblk m c 2 t (ix2 r d) = m ((c : Thread nD τ).loc main_arg2) (ix2 (row t r) d) := by
  blk_point [iblk, V, idx t]
  rfl

theorem read_w (t : Fin cfg0.N) (d : Fin 1024) : iblk m c 3 t (ix2 0 d) = m ((c : Thread nD τ).loc main_arg3) (ix2 0 d) := by
  blk_point [iblk, V, idx t]

theorem read_e (t : Fin cfg0.N) (r : Fin 512) (d : Fin 1024) : iblk m c 4 t (ix2 r d) = m ((c : Thread nD τ).loc main_arg4) (ix2 (row t r) d) := by
  blk_point [iblk, V, idx t]
  rfl

theorem read_o (t : Fin cfg0.N) (l : Fin 2048) (d : Fin 1024) : iblk m c 5 t (ix2 l d) = m ((c : Thread nD τ).loc main_arg5) (ix2 l d) := by
  blk_point [iblk, V, idx t]

/-! ## The reference's results, and a point's part of them -/

/-- The cotangent of the normed rows. -/
abbrev normed : FVec Ideal S4096x1024 .f32 := normCots (m ((c : Thread nD τ).loc main_arg0)) (m ((c : Thread nD τ).loc main_arg1))
/-- The cotangent of the rows. -/
abbrev rows : FVec Ideal S4096x1024 .f32 :=
  rowCots (m ((c : Thread nD τ).loc main_arg2)) (weighted (normed m c) (m ((c : Thread nD τ).loc main_arg3))) (m ((c : Thread nD τ).loc main_arg4))
/-- The weights' cotangent. -/
abbrev weights : FVec Ideal S1x1024 .f32 := weightCots (m ((c : Thread nD τ).loc main_arg2)) (normed m c)
/-- The cotangent of the product's left side. -/
abbrev mixed : FVec Ideal S4096x2048 .f32 := mixedCots (rows m c) (m ((c : Thread nD τ).loc main_arg5))

theorem normCot_eq (t : Fin cfg0.N) (r : Fin 512) (d : Fin 1024) : normCot (iblk m c 0 t) (iblk m c 1 t) r d = normed m c (ix2 (row t r) d) :=
  (Finset.sum_congr rfl fun k _ => Finset.sum_congr rfl fun l _ => congrArg₂ (fun a b : EReal => a * b) (read_h m c t _ _ _) (read_u m c t _ _ _)).trans (normCots_at _ _ _ _).symm

theorem rowCot_eq (t : Fin cfg0.N) (r : Fin 512) (d : Fin 1024) :
    rowCot (iblk m c 0 t) (iblk m c 1 t) (iblk m c 2 t) (iblk m c 3 t) (iblk m c 4 t) r d = rows m c (ix2 (row t r) d) :=
  (congrArg₂ (fun a b : EReal => a + b) (read_e m c t r d) (congrArg₂ (fun a b => back a b d) (funext fun d => read_x m c t r d)
    (funext fun d => (congrArg₂ (fun a b : EReal => a * b) (normCot_eq m c t r d) (read_w m c t d)).trans (weighted_at _ _ _ _).symm))).trans (rowCots_at _ _ _ _ _).symm

theorem mixedCot_eq (t : Fin cfg0.N) (r : Fin 512) (l : Fin 2048) :
    mixedCot (iblk m c 0 t) (iblk m c 1 t) (iblk m c 2 t) (iblk m c 3 t) (iblk m c 4 t) (iblk m c 5 t) r l = mixed m c (ix2 (row t r) l) :=
  (Finset.sum_congr rfl fun d _ => congrArg₂ (fun a b : EReal => a * b) (rowCot_eq m c t r d) (read_o m c t l d)).trans (mixedCots_at _ _ _ _).symm

/-- What a row adds to the weights' cotangent. -/
def weightPart (x g : FVec Ideal S4096x1024 .f32) (r : Fin 4096) (d : Fin 1024) : EReal := x (ix2 r d) * (scale fun d => x (ix2 r d)) * g (ix2 r d)

theorem weightTerm_eq (t : Fin cfg0.N) (r : Fin 512) (d : Fin 1024) :
    weightTerm (iblk m c 0 t) (iblk m c 1 t) (iblk m c 2 t) r d = weightPart (m ((c : Thread nD τ).loc main_arg2)) (normed m c) (row t r) d :=
  (mul_comm _ _).trans (congrArg₂ (fun a b : EReal => a * b) (congrArg₂ (fun a b : EReal => a * b) (read_x m c t r d) (congrArg scale (funext fun d => read_x m c t r d))) (normCot_eq m c t r d))

theorem weights_at (d : Fin 1024) : weights m c (ix2 0 d) = ∑ t : Fin cfg0.N, ∑ r, weightTerm (iblk m c 0 t) (iblk m c 1 t) (iblk m c 2 t) r d := by
  refine (weightCots_at _ _ _).trans ?_
  simp only [weightTerm_eq]
  exact (Fin.sum_mul_add_congr fun k r hl => rfl).symm

/-! ## The arrays after the run -/

theorem emb_rows (t : Fin cfg0.N) (r : Fin 512) (d : Fin 1024) (X : S4096x1024.Idx → EReal) : X ((win0_6.blk t).view.emb (ix2 r d)) = X (ix2 (row t r) d) := by
  blk_ext [idx t]
  rfl

theorem emb_mixed (t : Fin cfg0.N) (r : Fin 512) (l : Fin 2048) (X : S4096x2048.Idx → EReal) : X ((win0_8.blk t).view.emb (ix2 r l)) = X (ix2 (row t r) l) := by
  blk_ext [idx t]
  rfl

theorem final_rows : (dats m 0 c).arrAt 6 (cfgs 0).N = rows m c := by
  refine (dats m 0 c).arrAt_eq_of_covers 6 _ (by decide +kernel) fun t _ y => ?_
  blk_simp
  rw [after0_6]
  obtain ⟨r, d, rfl⟩ : ∃ (r : Fin 512) (d : Fin 1024), y = ix2 r d := ⟨y 0, y 1, eq_ix2 y⟩
  refine Eq.trans ?_ ((rowCot_eq m c t r d).trans (emb_rows t r d _).symm)
  by_cases h : t.val % 8 = 0
  · rw [outsAt0_A m c t h (by have := lt_eight t; omega)]
    frame_out
    canon_tiles x hx
    case piece0 => exact high_row_of (e := iblk m c 4 t) x hx0 hx1
    case piece1 => exact low_row_of (e := iblk m c 4 t) x hx0 hx1
  · rw [outsAt0_B m c t h (by omega)]
    frame_out
    canon_tiles x hx
    case piece0 => exact high_row_of (e := iblk m c 4 t) x hx0 hx1
    case piece1 => exact low_row_of (e := iblk m c 4 t) x hx0 hx1

theorem final_mixed : (dats m 0 c).arrAt 8 (cfgs 0).N = mixed m c := by
  refine (dats m 0 c).arrAt_eq_of_covers 8 _ (by decide +kernel) fun t _ y => ?_
  blk_simp
  rw [after0_8]
  obtain ⟨r, l, rfl⟩ : ∃ (r : Fin 512) (l : Fin 2048), y = ix2 r l := ⟨y 0, y 1, eq_ix2 y⟩
  refine Eq.trans ?_ ((mixedCot_eq m c t r l).trans (emb_mixed t r l _).symm)
  by_cases h : t.val % 8 = 0
  · rw [outsAt0_A m c t h (by have := lt_eight t; omega)]
    frame_out
    canon_tiles x hx
    case piece0 => exact high_mixed_of (e := iblk m c 4 t) x hx0 hx1
    case piece1 => exact low_mixed_of (e := iblk m c 4 t) x hx0 hx1
  · rw [outsAt0_B m c t h (by omega)]
    frame_out
    canon_tiles x hx
    case piece0 => exact high_mixed_of (e := iblk m c 4 t) x hx0 hx1
    case piece1 => exact low_mixed_of (e := iblk m c 4 t) x hx0 hx1

theorem final_weights : (dats m 0 c).arrAt 7 (cfgs 0).N = weights m c := by
  refine (dats m 0 c).arrAt_eq_of_after_last 7 t0_7 (by decide +kernel) _ fun j => ?_
  blk_simp
  rw [after0_7]
  obtain ⟨d, rfl⟩ : ∃ d : Fin 1024, j = ix2 0 d := ⟨j 1, (eq_ix2 j).trans (congrArg (fun a => ix2 a (j 1)) (Subsingleton.elim _ _))⟩
  refine Eq.trans (b := weights m c (ix2 0 d)) ?_ (by blk_ext [idx t0_7])
  rw [weights_at]
  refine (Pipeline.eq_sum_fin_of_reset_step_apply_last (fun n h => (outsAt0 m c n h).2.1) 8 (fun _ => 0)
    (fun t j => ∑ r, weightTerm (iblk m c 0 t) (iblk m c 1 t) (iblk m c 2 t) r (j 1)) ?_ ?_ (le_of_eq N_0) t0_7 rfl (ix2 0 d)).trans ?_
  · intro t h i
    obtain ⟨d, rfl⟩ : ∃ d : Fin 1024, i = ix2 0 d := ⟨i 1, (eq_ix2 i).trans (congrArg (fun a => ix2 a (i 1)) (Subsingleton.elim _ _))⟩
    rw [outsAt0_A m c t h (by have := lt_eight t; omega)]
    frame_out
    exact (weight_at (h := iblk m c 0 t) (u := iblk m c 1 t) (x := iblk m c 2 t) d).trans (zero_add _).symm
  · intro t h i
    obtain ⟨d, rfl⟩ : ∃ d : Fin 1024, i = ix2 0 d := ⟨i 1, (eq_ix2 i).trans (congrArg (fun a => ix2 a (i 1)) (Subsingleton.elim _ _))⟩
    show (outsAt0 m c t.val t.isLt).2.1 (ix2 0 d) = _
    rw [outsAt0_B m c t h (by omega)]
    frame_out
    exact (pay4_at _ _ _ _ d).trans (congrArg ((outsAt0 m c (t.val - 1) _).2.1 (ix2 0 d) + ·) (weight_at (h := iblk m c 0 t) (u := iblk m c 1 t) (x := iblk m c 2 t) d))
  · exact zero_add _

end Cert.Kernel2Ideal.Value

end
-- ==== Proof.KNorm.lean ====
/- The second pair of programs: the frames of the kernel, of its idealization and of the reference, and the kernel's results against the reference's. -/
module

public import proofs.«01_k».proof.Defs
public import proofs.«01_k».proof.Proof.Gen.Kernel2.Frame
public import proofs.«01_k».proof.Proof.Gen.Reference2Ideal
public import proofs.«01_k».proof.Proof.Norm
public import Idealize.ShloMosaic.Lib.Claim
public import Idealize.ShloMosaic.Lib.Quiescent
public import Idealize.ShloMosaic.Lib.Pipeline.ValueKit

public section

set_option maxRecDepth 16384
set_option maxHeartbeats 8000000

open Idealize.ShloMosaic Idealize.ShloMosaic.Tactic Idealize.ShloMosaic.TcCoe Idealize.SL.Sem

namespace Cert.Proof

theorem frame_reference2 : Cert.quiescent_Reference2Ideal (hReference2Ideal := Cert.Reference2Ideal.Gen.facts) := by
  intro m g _
  hlo_run
  · exact fun _ => ⟨trivial, trivial, trivial, trivial, trivial, trivial⟩
  · exact Idealize.ShloMosaic.sem_eq_zero_of_no_sems (by decide) _

theorem algebraic2 : Cert.algebraic_Kernel2Ideal_Reference2Ideal (hKernel2Ideal := Cert.Kernel2Ideal.Gen.facts) (hReference2Ideal := Cert.Reference2Ideal.Gen.facts) := by
  pair_intro
  · run_from (Cert.Kernel2Ideal.Gen.run_main m g)
  · hlo_run
    · exact (Cert.Kernel2Ideal.Value.final_rows m c).symm
    · exact (Cert.Kernel2Ideal.Value.final_weights m c).symm
    · exact (Cert.Kernel2Ideal.Value.final_mixed m c).symm

end Cert.Proof

end
-- ==== Proof.ActCot.lean ====
/- The gradient of the gated MLP's activations, through its second product: the frames of the sixth pair of programs, and the kernel's result against the reference's. -/
module

public import proofs.«01_k».proof.Defs
public import proofs.«01_k».proof.Proof.Gen.Kernel6.Frame
public import proofs.«01_k».proof.Proof.Gen.Kernel6Ideal.Frame
public import proofs.«01_k».proof.Proof.Gen.Reference6Ideal
public import Idealize.ShloMosaic.Lib.Claim
public import Idealize.ShloMosaic.Lib.Quiescent
public import Idealize.ShloMosaic.Lib.Pipeline.ValueKit

@[expose] public section

set_option maxRecDepth 16384
set_option maxHeartbeats 4000000

noncomputable section

open Idealize.ShloMosaic Idealize.ShloMosaic.Tactic Idealize.ShloMosaic.TcCoe Idealize.SL.Sem
open Idealize.ShloMosaic.Pipeline (Dat)

namespace Cert.Kernel6Ideal.Value

open Cert.Kernel6Ideal Cert.Kernel6Ideal.Gen

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem lt_points (t : Fin cfg0.N) : t.val < 8 := lt_of_lt_of_eq t.isLt N_0

/-- A block of the product. -/
theorem pay1_at (a : Vec Ideal S1024x1024 .f32) (b : Vec Ideal S1408x1024 .bf16) (i : Fin 1024) (j : Fin 1408) :
    k0_pay1 (F := Ideal) a b (ix2 i j) = ∑ k : Fin 1024, a (ix2 i k) * b (ix2 j k) := by
  pointwise [k0_pay1]

/-- The reference's result. -/
def grad (g : FVec Ideal S4096x1024 .f32) (w : FVec Ideal S2816x1024 .bf16) : FVec Ideal S4096x2816 .f32 :=
  Host.dotGeneral Reference6Ideal.dot_S4096x1024_S2816x1024_S4096x2816_1_1_0_0_n_n none g (extf .f32 w Reference6Ideal.Gen.bitsLt_bf16_f32)

theorem grad_at (g : FVec Ideal S4096x1024 .f32) (w : FVec Ideal S2816x1024 .bf16) (i : Fin 4096) (j : Fin 2816) :
    grad g w (ix2 i j) = ∑ k : Fin 1024, g (ix2 i k) * w (ix2 j k) := by
  pointwise [grad]

variable (m : (ℓ : Loc nD τ sig) → Buf (Elt Ideal) ℓ) (c : Dev nD)

theorem read_g (t : Fin cfg0.N) (i k : Fin 1024) :
    iblk m c 0 t (ix2 i k) = m ((c : Thread nD τ).loc main_arg0) (ix2 ⟨t.val / 2 * 1024 + i, by have := lt_points t; omega⟩ k) := by
  blk_point [iblk, V, idx t]

theorem read_w (t : Fin cfg0.N) (j : Fin 1408) (k : Fin 1024) :
    iblk m c 1 t (ix2 j k) = m ((c : Thread nD τ).loc main_arg1) (ix2 ⟨t.val % 2 * 1408 + j, by omega⟩ k) := by
  blk_point [iblk, V, idx t]

theorem emb_out (t : Fin cfg0.N) (i : Fin 1024) (j : Fin 1408) (X : S4096x2816.Idx → EReal) :
    X ((win0_2.blk t).view.emb (ix2 i j)) = X (ix2 ⟨t.val / 2 * 1024 + i, by have := lt_points t; omega⟩ ⟨t.val % 2 * 1408 + j, by omega⟩) := by
  blk_ext [idx t]

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1408), y = ix2 i j := ⟨y 0, y 1, eq_ix2 y⟩
  refine Eq.trans ?_ ((emb_out t i j _).trans (grad_at _ _ _ _)).symm
  unfold outsAt0
  frame_out
  exact (pay1_at _ _ i j).trans (Fin.sum_fin_congr fun k => congrArg₂ (fun a b : EReal => a * b) (read_g m c t i k) (read_w m c t j k))

theorem frame_reference : Cert.quiescent_Reference6Ideal (hReference6Ideal := Cert.Reference6Ideal.Gen.facts) := by
  intro m g _
  hlo_run
  · exact fun _ => ⟨trivial, trivial⟩
  · exact Idealize.ShloMosaic.sem_eq_zero_of_no_sems (by decide) _

theorem algebraic : Cert.algebraic_Kernel6Ideal_Reference6Ideal (hKernel6Ideal := Cert.Kernel6Ideal.Gen.facts) (hReference6Ideal := Cert.Reference6Ideal.Gen.facts) := by
  pair_intro
  · run_from (Cert.Kernel6Ideal.Gen.run_main m g)
  · hlo_run
    exact (final m c).symm

end Cert.Kernel6Ideal.Value

end
-- ==== Proof.Products.lean ====
/- A product whose contraction is walked in four steps, in an accumulator that the last step adds to and writes out: the sum of the four steps. -/
module

public import Idealize.ShloMosaic.Lib.Pipeline.ValueKit

@[expose] public section

namespace Cert.Products

/-- The last of four steps writes the sum of the four parts, where the first step sets the accumulator and the two between add to it. -/
theorem four_steps {N : ℕ} (acc : (n : ℕ) → n < N → EReal) (out part : Fin N → EReal)
    (first : ∀ t : Fin N, t.val % 4 = 0 → acc t.val t.isLt = part t)
    (between : ∀ t : Fin N, 1 ≤ t.val % 4 ∧ t.val % 4 ≤ 2 → acc t.val t.isLt = acc (t.val - 1) (Nat.lt_of_le_of_lt (Nat.sub_le _ _) t.isLt) + part t)
    (last : ∀ t : Fin N, t.val % 4 = 3 → out t = acc (t.val - 1) (Nat.lt_of_le_of_lt (Nat.sub_le _ _) t.isLt) + part t)
    (t : Fin N) (h : t.val % 4 = 3) : out t = ∑ s : Fin 4, part ⟨t.val - (3 - s), Nat.lt_of_le_of_lt (Nat.sub_le _ _) t.isLt⟩ := by
  have lt : ∀ s, t.val - s < N := fun s => Nat.lt_of_le_of_lt (Nat.sub_le _ _) t.isLt
  rw [Fin.sum_univ_four, last t h]
  refine congrArg (· + part t) ?_
  refine (between ⟨t.val - 1, lt 1⟩ (by dsimp only; omega)).trans (congrArg (· + part ⟨t.val - 1, lt 1⟩) ?_)
  refine (between ⟨t.val - 1 - 1, lt 2⟩ (by dsimp only; omega)).trans (congrArg (· + part ⟨t.val - 2, lt 2⟩) ?_)
  exact first ⟨t.val - 1 - 1 - 1, lt 3⟩ (by dsimp only; omega)

end Cert.Products

end
-- ==== Proof.DownWeight.lean ====
/- The gradient of the gated MLP's second weight: the frames of the fifth pair of programs, and the kernel's result against the reference's. -/
module

public import proofs.«01_k».proof.Defs
public import proofs.«01_k».proof.Proof.Gen.Kernel5.Frame
public import proofs.«01_k».proof.Proof.Gen.Kernel5Ideal.Frame
public import proofs.«01_k».proof.Proof.Gen.Reference5Ideal
public import proofs.«01_k».proof.Proof.Products
public import Idealize.ShloMosaic.Lib.Claim
public import Idealize.ShloMosaic.Lib.Quiescent
public import Idealize.ShloMosaic.Lib.Pipeline.ValueKit

@[expose] public section

set_option maxRecDepth 16384
set_option maxHeartbeats 4000000

noncomputable section

open Idealize.ShloMosaic Idealize.ShloMosaic.Tactic Idealize.ShloMosaic.TcCoe Idealize.SL.Sem
open Idealize.ShloMosaic.Pipeline (Dat)

namespace Cert.Kernel5Ideal.Value

open Cert.Kernel5Ideal Cert.Kernel5Ideal.Gen

theorem idx : ∀ t : Fin cfg0.N, win0_0.index t = ![t.val / 4, t.val % 4] ∧ win0_1.index t = ![t.val % 4, 0] ∧ win0_2.index t = ![t.val / 4, 0] :=
  (by decide +kernel : ∀ t : Fin grid0.N, _)

theorem lt_points (t : Fin cfg0.N) : t.val < 8 := lt_of_lt_of_eq t.isLt N_0

/-- A step's part of the product. -/
theorem pay1_at (a : Vec Ideal S1408x1024 .bf16) (b : Vec Ideal S1024x1024 .f32) (i : Fin 1408) (j : Fin 1024) :
    k0_pay1 (F := Ideal) a b (ix2 i j) = ∑ k : Fin 1024, a (ix2 i k) * b (ix2 k j) := by
  pointwise [k0_pay1]

theorem pay2_at (a : Vec Ideal S1408x1024 .bf16) (b : Vec Ideal S1024x1024 .f32) (i : Fin 1408) (j : Fin 1024) :
    k0_pay2 (F := Ideal) a b (ix2 i j) = k0_pay1 (F := Ideal) a b (ix2 i j) := by
  pointwise [k0_pay2]

theorem pay3_at (a : Vec Ideal S1408x1024 .bf16) (b : Vec Ideal S1024x1024 .f32) (v : Vec Ideal S1408x1024 .f32) (i : Fin 1408) (j : Fin 1024) :
    k0_pay3 (F := Ideal) a b v (ix2 i j) = v (ix2 i j) + k0_pay1 (F := Ideal) a b (ix2 i j) := by
  pointwise [k0_pay3]

theorem pay4_at (a : Vec Ideal S1408x1024 .bf16) (b : Vec Ideal S1024x1024 .f32) (v : Vec Ideal S1408x1024 .f32) (i : Fin 1408) (j : Fin 1024) :
    k0_pay4 (F := Ideal) a b v (ix2 i j) = v (ix2 i j) + k0_pay1 (F := Ideal) a b (ix2 i j) := by
  pointwise [k0_pay4]

/-- The reference's result. -/
def grad (h : FVec Ideal S2816x4096 .bf16) (g : FVec Ideal S4096x1024 .f32) : FVec Ideal S2816x1024 .bf16 :=
  truncf .bf16 (transpose S2816x1024 [1, 0]
    (Host.dotGeneral Reference5Ideal.dot_S4096x1024_S4096x2816_S1024x2816_0_0_1_1_n_n none g
      (transpose Reference5Ideal.S4096x2816 [1, 0] (extf .f32 h Reference5Ideal.Gen.bitsLt_bf16_f32) Reference5Ideal.Gen.transposes_S2816x4096_S4096x2816_1_0))
    Reference5Ideal.Gen.transposes_S1024x2816_S2816x1024_1_0) Reference5Ideal.Gen.bitsLt_bf16_f32

theorem grad_at (h : FVec Ideal S2816x4096 .bf16) (g : FVec Ideal S4096x1024 .f32) (i : Fin 2816) (j : Fin 1024) :
    grad h g (ix2 i j) = ∑ r : Fin 4096, h (ix2 i r) * g (ix2 r j) := by
  pointwise [grad]
  exact Fin.sum_fin_congr fun r => mul_comm _ _

variable (m : (ℓ : Loc nD τ sig) → Buf (Elt Ideal) ℓ) (c : Dev nD)

/-- The part that a point of the grid adds, at an entry of its block. -/
def part (i : Fin 1408) (j : Fin 1024) (t : Fin cfg0.N) : EReal := k0_pay1 (F := Ideal) (iblk m c 0 t) (iblk m c 1 t) (ix2 i j)

theorem read_h (t : Fin cfg0.N) (i : Fin 1408) (k : Fin 1024) :
    iblk m c 0 t (ix2 i k) = m ((c : Thread nD τ).loc main_arg0) (ix2 ⟨t.val / 4 * 1408 + i, by have := lt_points t; omega⟩ ⟨t.val % 4 * 1024 + k, by omega⟩) := by
  blk_point [iblk, V, idx t]

theorem read_g (t : Fin cfg0.N) (k : Fin 1024) (j : Fin 1024) :
    iblk m c 1 t (ix2 k j) = m ((c : Thread nD τ).loc main_arg1) (ix2 ⟨t.val % 4 * 1024 + k, by omega⟩ j) := by
  blk_point [iblk, V, idx t]

theorem emb_out (t : Fin cfg0.N) (i : Fin 1408) (j : Fin 1024) (X : S2816x1024.Idx → EReal) :
    X ((win0_2.blk t).view.emb (ix2 i j)) = X (ix2 ⟨t.val / 4 * 1408 + i, by have := lt_points t; omega⟩ j) := by
  blk_ext [idx t]

theorem acc_first (i : Fin 1408) (j : Fin 1024) (t : Fin cfg0.N) (h : t.val % 4 = 0) : (outsAt0 m c t.val t.isLt).2 (ix2 i j) = part m c i j t := by
  rw [outsAt0_A m c t h (by omega) (by omega)]
  frame_out
  exact pay2_at ..

theorem acc_between (i : Fin 1408) (j : Fin 1024) (t : Fin cfg0.N) (h : 1 ≤ t.val % 4 ∧ t.val % 4 ≤ 2) :
    (outsAt0 m c t.val t.isLt).2 (ix2 i j) = (outsAt0 m c (t.val - 1) (Nat.lt_of_le_of_lt (Nat.sub_le _ _) t.isLt)).2 (ix2 i j) + part m c i j t := by
  rw [outsAt0_B m c t (by omega) h (by omega)]
  frame_out
  exact (congrArg (fun v => k0_pay3 (F := Ideal) (iblk m c 0 t) (iblk m c 1 t) v (ix2 i j)) (Memref.IsWhole.read_unread _ _)).trans (pay3_at ..)

theorem out_last (i : Fin 1408) (j : Fin 1024) (t : Fin cfg0.N) (h : t.val % 4 = 3) :
    (outsAt0 m c t.val t.isLt).1 (ix2 i j) = (outsAt0 m c (t.val - 1) (Nat.lt_of_le_of_lt (Nat.sub_le _ _) t.isLt)).2 (ix2 i j) + part m c i j t := by
  rw [outsAt0_C m c t (by omega) (by omega) h]
  frame_out
  exact (congrArg (fun v => k0_pay4 (F := Ideal) (iblk m c 0 t) (iblk m c 1 t) v (ix2 i j)) (Memref.IsWhole.read_unread _ _)).trans (pay4_at ..)

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1408) (j : Fin 1024), y = ix2 i j := ⟨y 0, y 1, eq_ix2 y⟩
  have ht : t.val % 4 = 3 := (flush0_2 t).mp hf
  refine (Products.four_steps (fun n hn => (outsAt0 m c n hn).2 (ix2 i j)) (fun t => (outsAt0 m c t.val t.isLt).1 (ix2 i j)) (part m c i j)
    (acc_first m c i j) (acc_between m c i j) (out_last m c i j) t ht).trans ?_
  refine Eq.trans ?_ ((emb_out t i j _).trans (grad_at _ _ _ _)).symm
  have := lt_points t
  refine Eq.trans (Fin.sum_fin_congr fun s => pay1_at _ _ i j) (Fin.sum_mul_add_congr fun s k hl => ?_)
  refine congrArg₂ (fun a b : EReal => a * b) ((read_h m c _ i k).trans ?_) ((read_g m c _ k j).trans ?_)
  · congr 3 <;> (dsimp only; omega)
  · congr 3 <;> (dsimp only; omega)

theorem frame_reference : Cert.quiescent_Reference5Ideal (hReference5Ideal := Cert.Reference5Ideal.Gen.facts) := by
  intro m g _
  hlo_run
  · exact fun _ => ⟨trivial, trivial⟩
  · exact Idealize.ShloMosaic.sem_eq_zero_of_no_sems (by decide) _

theorem algebraic : Cert.algebraic_Kernel5Ideal_Reference5Ideal (hKernel5Ideal := Cert.Kernel5Ideal.Gen.facts) (hReference5Ideal := Cert.Reference5Ideal.Gen.facts) := by
  pair_intro
  · run_from (Cert.Kernel5Ideal.Gen.run_main m g)
  · hlo_run
    exact (final m c).symm

end Cert.Kernel5Ideal.Value

end
-- ==== Proof.InWeight.lean ====
/- The gradient of the first projection's weight: the frames of the fourth pair of programs, and the kernel's result against the reference's. -/
module

public import proofs.«01_k».proof.Defs
public import proofs.«01_k».proof.Proof.Gen.Kernel4.Frame
public import proofs.«01_k».proof.Proof.Gen.Kernel4Ideal.Frame
public import proofs.«01_k».proof.Proof.Gen.Reference4Ideal
public import proofs.«01_k».proof.Proof.Products
public import Idealize.ShloMosaic.Lib.Claim
public import Idealize.ShloMosaic.Lib.Quiescent
public import Idealize.ShloMosaic.Lib.Pipeline.ValueKit

@[expose] public section

set_option maxRecDepth 16384
set_option maxHeartbeats 4000000

noncomputable section

open Idealize.ShloMosaic Idealize.ShloMosaic.Tactic Idealize.ShloMosaic.TcCoe Idealize.SL.Sem
open Idealize.ShloMosaic.Pipeline (Dat)

namespace Cert.Kernel4Ideal.Value

open Cert.Kernel4Ideal Cert.Kernel4Ideal.Gen

theorem idx : ∀ t : Fin cfg0.N, win0_0.index t = ![0, t.val % 4] ∧ win0_1.index t = ![t.val % 4, t.val / 4] ∧ win0_2.index t = ![0, t.val / 4] :=
  (by decide +kernel : ∀ t : Fin grid0.N, _)

theorem lt_points (t : Fin cfg0.N) : t.val < 20 := lt_of_lt_of_eq t.isLt N_0

/-- A step's part of the product. -/
theorem pay1_at (a : Vec Ideal S1024x1024 .bf16) (b : Vec Ideal S1024x1152 .bf16) (i : Fin 1024) (j : Fin 1152) :
    k0_pay1 (F := Ideal) a b (ix2 i j) = ∑ k : Fin 1024, a (ix2 i k) * b (ix2 k j) := by
  pointwise [k0_pay1]

theorem pay2_at (a : Vec Ideal S1024x1024 .bf16) (b : Vec Ideal S1024x1152 .bf16) (i : Fin 1024) (j : Fin 1152) :
    k0_pay2 (F := Ideal) a b (ix2 i j) = k0_pay1 (F := Ideal) a b (ix2 i j) := by
  pointwise [k0_pay2]

theorem pay3_at (a : Vec Ideal S1024x1024 .bf16) (b : Vec Ideal S1024x1152 .bf16) (v : Vec Ideal S1024x1152 .f32) (i : Fin 1024) (j : Fin 1152) :
    k0_pay3 (F := Ideal) a b v (ix2 i j) = v (ix2 i j) + k0_pay1 (F := Ideal) a b (ix2 i j) := by
  pointwise [k0_pay3]

theorem pay4_at (a : Vec Ideal S1024x1024 .bf16) (b : Vec Ideal S1024x1152 .bf16) (v : Vec Ideal S1024x1152 .f32) (i : Fin 1024) (j : Fin 1152) :
    k0_pay4 (F := Ideal) a b v (ix2 i j) = v (ix2 i j) + k0_pay1 (F := Ideal) a b (ix2 i j) := by
  pointwise [k0_pay4]

/-- The reference's result. -/
def grad (h : FVec Ideal S1024x4096 .bf16) (g : FVec Ideal S4096x5760 .bf16) : FVec Ideal S1024x5760 .bf16 :=
  truncf .bf16 (transpose S1024x5760 [1, 0]
    (Host.dotGeneral Reference4Ideal.dot_S4096x5760_S4096x1024_S5760x1024_0_0_1_1_n_n none (extf .f32 g Reference4Ideal.Gen.bitsLt_bf16_f32)
      (transpose Reference4Ideal.S4096x1024 [1, 0] (extf .f32 h Reference4Ideal.Gen.bitsLt_bf16_f32) Reference4Ideal.Gen.transposes_S1024x4096_S4096x1024_1_0))
    Reference4Ideal.Gen.transposes_S5760x1024_S1024x5760_1_0) Reference4Ideal.Gen.bitsLt_bf16_f32

theorem grad_at (h : FVec Ideal S1024x4096 .bf16) (g : FVec Ideal S4096x5760 .bf16) (i : Fin 1024) (j : Fin 5760) :
    grad h g (ix2 i j) = ∑ r : Fin 4096, h (ix2 i r) * g (ix2 r j) := by
  pointwise [grad]
  exact Fin.sum_fin_congr fun r => mul_comm _ _

variable (m : (ℓ : Loc nD τ sig) → Buf (Elt Ideal) ℓ) (c : Dev nD)

/-- The part that a point of the grid adds, at an entry of its block. -/
def part (i : Fin 1024) (j : Fin 1152) (t : Fin cfg0.N) : EReal := k0_pay1 (F := Ideal) (iblk m c 0 t) (iblk m c 1 t) (ix2 i j)

theorem read_h (t : Fin cfg0.N) (i : Fin 1024) (k : Fin 1024) :
    iblk m c 0 t (ix2 i k) = m ((c : Thread nD τ).loc main_arg0) (ix2 i ⟨t.val % 4 * 1024 + k, by omega⟩) := by
  blk_point [iblk, V, idx t]

theorem read_g (t : Fin cfg0.N) (k : Fin 1024) (j : Fin 1152) :
    iblk m c 1 t (ix2 k j) = m ((c : Thread nD τ).loc main_arg1) (ix2 ⟨t.val % 4 * 1024 + k, by omega⟩ ⟨t.val / 4 * 1152 + j, by have := lt_points t; omega⟩) := by
  blk_point [iblk, V, idx t]

theorem emb_out (t : Fin cfg0.N) (i : Fin 1024) (j : Fin 1152) (X : S1024x5760.Idx → EReal) :
    X ((win0_2.blk t).view.emb (ix2 i j)) = X (ix2 i ⟨t.val / 4 * 1152 + j, by have := lt_points t; omega⟩) := by
  blk_ext [idx t]

theorem acc_first (i : Fin 1024) (j : Fin 1152) (t : Fin cfg0.N) (h : t.val % 4 = 0) : (outsAt0 m c t.val t.isLt).2 (ix2 i j) = part m c i j t := by
  rw [outsAt0_A m c t h (by omega) (by omega)]
  frame_out
  exact pay2_at ..

theorem acc_between (i : Fin 1024) (j : Fin 1152) (t : Fin cfg0.N) (h : 1 ≤ t.val % 4 ∧ t.val % 4 ≤ 2) :
    (outsAt0 m c t.val t.isLt).2 (ix2 i j) = (outsAt0 m c (t.val - 1) (Nat.lt_of_le_of_lt (Nat.sub_le _ _) t.isLt)).2 (ix2 i j) + part m c i j t := by
  rw [outsAt0_B m c t (by omega) h (by omega)]
  frame_out
  exact (congrArg (fun v => k0_pay3 (F := Ideal) (iblk m c 0 t) (iblk m c 1 t) v (ix2 i j)) (Memref.IsWhole.read_unread _ _)).trans (pay3_at ..)

theorem out_last (i : Fin 1024) (j : Fin 1152) (t : Fin cfg0.N) (h : t.val % 4 = 3) :
    (outsAt0 m c t.val t.isLt).1 (ix2 i j) = (outsAt0 m c (t.val - 1) (Nat.lt_of_le_of_lt (Nat.sub_le _ _) t.isLt)).2 (ix2 i j) + part m c i j t := by
  rw [outsAt0_C m c t (by omega) (by omega) h]
  frame_out
  exact (congrArg (fun v => k0_pay4 (F := Ideal) (iblk m c 0 t) (iblk m c 1 t) v (ix2 i j)) (Memref.IsWhole.read_unread _ _)).trans (pay4_at ..)

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1152), y = ix2 i j := ⟨y 0, y 1, eq_ix2 y⟩
  have ht : t.val % 4 = 3 := (flush0_2 t).mp hf
  refine (Products.four_steps (fun n hn => (outsAt0 m c n hn).2 (ix2 i j)) (fun t => (outsAt0 m c t.val t.isLt).1 (ix2 i j)) (part m c i j)
    (acc_first m c i j) (acc_between m c i j) (out_last m c i j) t ht).trans ?_
  refine Eq.trans ?_ ((emb_out t i j _).trans (grad_at _ _ _ _)).symm
  have := lt_points t
  refine Eq.trans (Fin.sum_fin_congr fun s => pay1_at _ _ i j) (Fin.sum_mul_add_congr fun s k hl => ?_)
  refine congrArg₂ (fun a b : EReal => a * b) ((read_h m c _ i k).trans ?_) ((read_g m c _ k j).trans ?_)
  · congr 3 <;> (dsimp only; omega)
  · congr 3 <;> (dsimp only; omega)

theorem frame_reference : Cert.quiescent_Reference4Ideal (hReference4Ideal := Cert.Reference4Ideal.Gen.facts) := by
  intro m g _
  hlo_run
  · exact fun _ => ⟨trivial, trivial⟩
  · exact Idealize.ShloMosaic.sem_eq_zero_of_no_sems (by decide) _

theorem algebraic : Cert.algebraic_Kernel4Ideal_Reference4Ideal (hKernel4Ideal := Cert.Kernel4Ideal.Gen.facts) (hReference4Ideal := Cert.Reference4Ideal.Gen.facts) := by
  pair_intro
  · run_from (Cert.Kernel4Ideal.Gen.run_main m g)
  · hlo_run
    exact (final m c).symm

end Cert.Kernel4Ideal.Value

end
-- ==== Proof.UpWeight.lean ====
/- The gradient of the gated MLP's first weight: the frames of the third pair of programs, and the kernel's result against the reference's. -/
module

public import proofs.«01_k».proof.Defs
public import proofs.«01_k».proof.Proof.Gen.Kernel3.Frame
public import proofs.«01_k».proof.Proof.Gen.Kernel3Ideal.Frame
public import proofs.«01_k».proof.Proof.Gen.Reference3Ideal
public import proofs.«01_k».proof.Proof.Products
public import Idealize.ShloMosaic.Lib.Claim
public import Idealize.ShloMosaic.Lib.Quiescent
public import Idealize.ShloMosaic.Lib.Pipeline.ValueKit

@[expose] public section

set_option maxRecDepth 16384
set_option maxHeartbeats 4000000

noncomputable section

open Idealize.ShloMosaic Idealize.ShloMosaic.Tactic Idealize.ShloMosaic.TcCoe Idealize.SL.Sem
open Idealize.ShloMosaic.Pipeline (Dat)

namespace Cert.Kernel3Ideal.Value

open Cert.Kernel3Ideal Cert.Kernel3Ideal.Gen

theorem idx : ∀ t : Fin cfg0.N, win0_0.index t = ![0, t.val % 4] ∧ win0_1.index t = ![t.val / 4 / 2, t.val % 4, t.val / 4 % 2] ∧ win0_2.index t = ![t.val / 4, 0, 0] :=
  (by decide +kernel : ∀ t : Fin grid0.N, _)

theorem lt_points (t : Fin cfg0.N) : t.val < 16 := lt_of_lt_of_eq t.isLt N_0

/-- A step's part of the product. -/
theorem pay1_at (a : Vec Ideal S1024x1024 .bf16) (b : Vec Ideal S1x1024x1408 .bf16) (i : Fin 1024) (j : Fin 1408) :
    k0_pay1 (F := Ideal) a b (ix2 i j) = ∑ k : Fin 1024, a (ix2 i k) * b (ix3 0 k j) := by
  pointwise [k0_pay1]

theorem pay2_at (a : Vec Ideal S1024x1024 .bf16) (b : Vec Ideal S1x1024x1408 .bf16) (i : Fin 1024) (j : Fin 1408) :
    k0_pay2 (F := Ideal) a b (ix2 i j) = k0_pay1 (F := Ideal) a b (ix2 i j) := by
  pointwise [k0_pay2]

theorem pay3_at (a : Vec Ideal S1024x1024 .bf16) (b : Vec Ideal S1x1024x1408 .bf16) (v : Vec Ideal S1024x1408 .f32) (i : Fin 1024) (j : Fin 1408) :
    k0_pay3 (F := Ideal) a b v (ix2 i j) = v (ix2 i j) + k0_pay1 (F := Ideal) a b (ix2 i j) := by
  pointwise [k0_pay3]

theorem pay4_at (a : Vec Ideal S1024x1024 .bf16) (b : Vec Ideal S1x1024x1408 .bf16) (v : Vec Ideal S1024x1408 .f32) (i : Fin 1024) (j : Fin 1408) :
    k0_pay4 (F := Ideal) a b v (ix3 0 i j) = v (ix2 i j) + k0_pay1 (F := Ideal) a b (ix2 i j) := by
  pointwise [k0_pay4]

/-- The reference's result. -/
def grad (h : FVec Ideal S1024x4096 .bf16) (g : FVec Ideal S2x4096x2816 .bf16) : FVec Ideal S4x1024x1408 .bf16 :=
  truncf .bf16 (transpose S4x1024x1408 [1, 0, 2]
    (shapeCast Reference3Ideal.S1024x4x1408
      (transpose Reference3Ideal.S1024x5632 [1, 0]
        (Host.dotGeneral Reference3Ideal.dot_S4096x5632_S4096x1024_S5632x1024_0_0_1_1_n_n none
          (shapeCast Reference3Ideal.S4096x5632 (transpose Reference3Ideal.S4096x2x2816 [1, 0, 2] (extf .f32 g Reference3Ideal.Gen.bitsLt_bf16_f32)
            Reference3Ideal.Gen.transposes_S2x4096x2816_S4096x2x2816_1_0_2) Reference3Ideal.Gen.shapeCasts_S4096x2x2816_S4096x5632)
          (transpose Reference3Ideal.S4096x1024 [1, 0] (extf .f32 h Reference3Ideal.Gen.bitsLt_bf16_f32) Reference3Ideal.Gen.transposes_S1024x4096_S4096x1024_1_0))
        Reference3Ideal.Gen.transposes_S5632x1024_S1024x5632_1_0) Reference3Ideal.Gen.shapeCasts_S1024x5632_S1024x4x1408)
    Reference3Ideal.Gen.transposes_S1024x4x1408_S4x1024x1408_1_0_2) Reference3Ideal.Gen.bitsLt_bf16_f32

theorem grad_at (h : FVec Ideal S1024x4096 .bf16) (g : FVec Ideal S2x4096x2816 .bf16) (s : Fin 4) (i : Fin 1024) (j : Fin 1408) :
    grad h g (ix3 s i j) = ∑ r : Fin 4096, h (ix2 i r) * g (ix3 ⟨s / 2, by omega⟩ r ⟨s % 2 * 1408 + j, by omega⟩) := by
  pointwise [grad]
  refine Fin.sum_fin_congr fun r => (mul_comm _ _).trans (congrArg (h (ix2 i r) * ·) ?_)
  blk_ext

variable (m : (ℓ : Loc nD τ sig) → Buf (Elt Ideal) ℓ) (c : Dev nD)

/-- The part that a point of the grid adds, at an entry of its block. -/
def part (i : Fin 1024) (j : Fin 1408) (t : Fin cfg0.N) : EReal := k0_pay1 (F := Ideal) (iblk m c 0 t) (iblk m c 1 t) (ix2 i j)

theorem read_h (t : Fin cfg0.N) (i k : Fin 1024) :
    iblk m c 0 t (ix2 i k) = m ((c : Thread nD τ).loc main_arg0) (ix2 i ⟨t.val % 4 * 1024 + k, by omega⟩) := by
  blk_point [iblk, V, idx t]

theorem read_g (t : Fin cfg0.N) (k : Fin 1024) (j : Fin 1408) :
    iblk m c 1 t (ix3 0 k j) = m ((c : Thread nD τ).loc main_arg1)
      (ix3 ⟨t.val / 4 / 2, by have := lt_points t; omega⟩ ⟨t.val % 4 * 1024 + k, by omega⟩ ⟨t.val / 4 % 2 * 1408 + j, by omega⟩) := by
  blk_point [iblk, V, idx t]

theorem emb_out (t : Fin cfg0.N) (i : Fin 1024) (j : Fin 1408) (X : S4x1024x1408.Idx → EReal) :
    X ((win0_2.blk t).view.emb (ix3 0 i j)) = X (ix3 ⟨t.val / 4, by have := lt_points t; omega⟩ i j) := by
  blk_ext [idx t]

theorem acc_first (i : Fin 1024) (j : Fin 1408) (t : Fin cfg0.N) (h : t.val % 4 = 0) : (outsAt0 m c t.val t.isLt).2 (ix2 i j) = part m c i j t := by
  rw [outsAt0_A m c t h (by omega) (by omega)]
  frame_out
  exact pay2_at ..

theorem acc_between (i : Fin 1024) (j : Fin 1408) (t : Fin cfg0.N) (h : 1 ≤ t.val % 4 ∧ t.val % 4 ≤ 2) :
    (outsAt0 m c t.val t.isLt).2 (ix2 i j) = (outsAt0 m c (t.val - 1) (Nat.lt_of_le_of_lt (Nat.sub_le _ _) t.isLt)).2 (ix2 i j) + part m c i j t := by
  rw [outsAt0_B m c t (by omega) h (by omega)]
  frame_out
  exact (congrArg (fun v => k0_pay3 (F := Ideal) (iblk m c 0 t) (iblk m c 1 t) v (ix2 i j)) (Memref.IsWhole.read_unread _ _)).trans (pay3_at ..)

theorem out_last (i : Fin 1024) (j : Fin 1408) (t : Fin cfg0.N) (h : t.val % 4 = 3) :
    (outsAt0 m c t.val t.isLt).1 (ix3 0 i j) = (outsAt0 m c (t.val - 1) (Nat.lt_of_le_of_lt (Nat.sub_le _ _) t.isLt)).2 (ix2 i j) + part m c i j t := by
  rw [outsAt0_C m c t (by omega) (by omega) h]
  frame_out
  exact (congrArg (fun v => k0_pay4 (F := Ideal) (iblk m c 0 t) (iblk m c 1 t) v (ix3 0 i j)) (Memref.IsWhole.read_unread _ _)).trans (pay4_at ..)

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1408), y = ix3 0 i j := ⟨y 1, y 2, (eq_ix3 y).trans (congrArg (fun a => ix3 a (y 1) (y 2)) (Subsingleton.elim _ _))⟩
  have ht : t.val % 4 = 3 := (flush0_2 t).mp hf
  refine (Products.four_steps (fun n hn => (outsAt0 m c n hn).2 (ix2 i j)) (fun t => (outsAt0 m c t.val t.isLt).1 (ix3 0 i j)) (part m c i j)
    (acc_first m c i j) (acc_between m c i j) (out_last m c i j) t ht).trans ?_
  refine Eq.trans ?_ ((emb_out t i j _).trans (grad_at _ _ _ _ _)).symm
  have := lt_points t
  refine Eq.trans (Fin.sum_fin_congr fun s => pay1_at _ _ i j) (Fin.sum_mul_add_congr fun s k hl => ?_)
  refine congrArg₂ (fun a b : EReal => a * b) ((read_h m c _ i k).trans ?_) ((read_g m c _ k j).trans ?_)
  · congr 3
    dsimp only
    omega
  · congr 3 <;> (dsimp only; omega)

theorem frame_reference : Cert.quiescent_Reference3Ideal (hReference3Ideal := Cert.Reference3Ideal.Gen.facts) := by
  intro m g _
  hlo_run
  · exact fun _ => ⟨trivial, trivial⟩
  · exact Idealize.ShloMosaic.sem_eq_zero_of_no_sems (by decide) _

theorem algebraic : Cert.algebraic_Kernel3Ideal_Reference3Ideal (hKernel3Ideal := Cert.Kernel3Ideal.Gen.facts) (hReference3Ideal := Cert.Reference3Ideal.Gen.facts) := by
  pair_intro
  · run_from (Cert.Kernel3Ideal.Gen.run_main m g)
  · hlo_run
    exact (final m c).symm

end Cert.Kernel3Ideal.Value

end
-- ==== Proof.OutWeight.lean ====
/- The gradient of one mixer's half of the output projection's weight: the frames of the seventh pair of programs, and the kernel's result against the reference's. -/
module

public import proofs.«01_k».proof.Defs
public import proofs.«01_k».proof.Proof.Gen.Kernel7.Frame
public import proofs.«01_k».proof.Proof.Gen.Kernel7Ideal.Frame
public import proofs.«01_k».proof.Proof.Gen.Reference7Ideal
public import proofs.«01_k».proof.Proof.Products
public import Idealize.ShloMosaic.Lib.Claim
public import Idealize.ShloMosaic.Lib.Quiescent
public import Idealize.ShloMosaic.Lib.Pipeline.ValueKit

@[expose] public section

set_option maxRecDepth 16384
set_option maxHeartbeats 4000000

noncomputable section

open Idealize.ShloMosaic Idealize.ShloMosaic.Tactic Idealize.ShloMosaic.TcCoe Idealize.SL.Sem
open Idealize.ShloMosaic.Pipeline (Dat)

namespace Cert.Kernel7Ideal.Value

open Cert.Kernel7Ideal Cert.Kernel7Ideal.Gen

theorem idx : ∀ t : Fin cfg0.N, win0_0.index t = ![0, t.val % 4] ∧ win0_1.index t = ![t.val % 4, 0] ∧ win0_2.index t = ![0, 0] :=
  (by decide +kernel : ∀ t : Fin grid0.N, _)

theorem lt_points (t : Fin cfg0.N) : t.val < 4 := lt_of_lt_of_eq t.isLt N_0

/-- A step's part of the product. -/
theorem pay1_at (a : Vec Ideal S1024x1024 .bf16) (b : Vec Ideal S1024x1024 .f32) (i : Fin 1024) (j : Fin 1024) :
    k0_pay1 (F := Ideal) a b (ix2 i j) = ∑ k : Fin 1024, a (ix2 i k) * b (ix2 k j) := by
  pointwise [k0_pay1]

theorem pay2_at (a : Vec Ideal S1024x1024 .bf16) (b : Vec Ideal S1024x1024 .f32) (i : Fin 1024) (j : Fin 1024) :
    k0_pay2 (F := Ideal) a b (ix2 i j) = k0_pay1 (F := Ideal) a b (ix2 i j) := by
  pointwise [k0_pay2]

theorem pay3_at (a : Vec Ideal S1024x1024 .bf16) (b : Vec Ideal S1024x1024 .f32) (v : Vec Ideal S1024x1024 .f32) (i : Fin 1024) (j : Fin 1024) :
    k0_pay3 (F := Ideal) a b v (ix2 i j) = v (ix2 i j) + k0_pay1 (F := Ideal) a b (ix2 i j) := by
  pointwise [k0_pay3]

theorem pay4_at (a : Vec Ideal S1024x1024 .bf16) (b : Vec Ideal S1024x1024 .f32) (v : Vec Ideal S1024x1024 .f32) (i : Fin 1024) (j : Fin 1024) :
    k0_pay4 (F := Ideal) a b v (ix2 i j) = v (ix2 i j) + k0_pay1 (F := Ideal) a b (ix2 i j) := by
  pointwise [k0_pay4]

/-- The reference's result. -/
def grad (h : FVec Ideal S1024x4096 .bf16) (g : FVec Ideal S4096x1024 .f32) : FVec Ideal S1024x1024 .bf16 :=
  truncf .bf16 (transpose S1024x1024 [1, 0]
    (Host.dotGeneral Reference7Ideal.dot_S4096x1024_S4096x1024_S1024x1024_0_0_1_1_n_n none g
      (transpose Reference7Ideal.S4096x1024 [1, 0] (extf .f32 h Reference7Ideal.Gen.bitsLt_bf16_f32) Reference7Ideal.Gen.transposes_S1024x4096_S4096x1024_1_0))
    Reference7Ideal.Gen.transposes_S1024x1024_S1024x1024_1_0) Reference7Ideal.Gen.bitsLt_bf16_f32

theorem grad_at (h : FVec Ideal S1024x4096 .bf16) (g : FVec Ideal S4096x1024 .f32) (i : Fin 1024) (j : Fin 1024) :
    grad h g (ix2 i j) = ∑ r : Fin 4096, h (ix2 i r) * g (ix2 r j) := by
  pointwise [grad]
  exact Fin.sum_fin_congr fun r => mul_comm _ _

variable (m : (ℓ : Loc nD τ sig) → Buf (Elt Ideal) ℓ) (c : Dev nD)

/-- The part that a point of the grid adds, at an entry of its block. -/
def part (i : Fin 1024) (j : Fin 1024) (t : Fin cfg0.N) : EReal := k0_pay1 (F := Ideal) (iblk m c 0 t) (iblk m c 1 t) (ix2 i j)

theorem read_h (t : Fin cfg0.N) (i : Fin 1024) (k : Fin 1024) :
    iblk m c 0 t (ix2 i k) = m ((c : Thread nD τ).loc main_arg0) (ix2 i ⟨t.val % 4 * 1024 + k, by omega⟩) := by
  blk_point [iblk, V, idx t]

theorem read_g (t : Fin cfg0.N) (k : Fin 1024) (j : Fin 1024) :
    iblk m c 1 t (ix2 k j) = m ((c : Thread nD τ).loc main_arg1) (ix2 ⟨t.val % 4 * 1024 + k, by omega⟩ j) := by
  blk_point [iblk, V, idx t]

theorem emb_out (t : Fin cfg0.N) (i : Fin 1024) (j : Fin 1024) (X : S1024x1024.Idx → EReal) :
    X ((win0_2.blk t).view.emb (ix2 i j)) = X (ix2 i j) := by
  blk_ext [idx t]

theorem acc_first (i : Fin 1024) (j : Fin 1024) (t : Fin cfg0.N) (h : t.val % 4 = 0) : (outsAt0 m c t.val t.isLt).2 (ix2 i j) = part m c i j t := by
  rw [outsAt0_A m c t h (by omega) (by omega)]
  frame_out
  exact pay2_at ..

theorem acc_between (i : Fin 1024) (j : Fin 1024) (t : Fin cfg0.N) (h : 1 ≤ t.val % 4 ∧ t.val % 4 ≤ 2) :
    (outsAt0 m c t.val t.isLt).2 (ix2 i j) = (outsAt0 m c (t.val - 1) (Nat.lt_of_le_of_lt (Nat.sub_le _ _) t.isLt)).2 (ix2 i j) + part m c i j t := by
  rw [outsAt0_B m c t (by omega) h (by omega)]
  frame_out
  exact (congrArg (fun v => k0_pay3 (F := Ideal) (iblk m c 0 t) (iblk m c 1 t) v (ix2 i j)) (Memref.IsWhole.read_unread _ _)).trans (pay3_at ..)

theorem out_last (i : Fin 1024) (j : Fin 1024) (t : Fin cfg0.N) (h : t.val % 4 = 3) :
    (outsAt0 m c t.val t.isLt).1 (ix2 i j) = (outsAt0 m c (t.val - 1) (Nat.lt_of_le_of_lt (Nat.sub_le _ _) t.isLt)).2 (ix2 i j) + part m c i j t := by
  rw [outsAt0_C m c t (by omega) (by omega) h]
  frame_out
  exact (congrArg (fun v => k0_pay4 (F := Ideal) (iblk m c 0 t) (iblk m c 1 t) v (ix2 i j)) (Memref.IsWhole.read_unread _ _)).trans (pay4_at ..)

theorem final : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  have ht : t.val % 4 = 3 := (flush0_2 t).mp hf
  refine (Products.four_steps (fun n hn => (outsAt0 m c n hn).2 (ix2 i j)) (fun t => (outsAt0 m c t.val t.isLt).1 (ix2 i j)) (part m c i j)
    (acc_first m c i j) (acc_between m c i j) (out_last m c i j) t ht).trans ?_
  refine Eq.trans ?_ ((emb_out t i j _).trans (grad_at _ _ _ _)).symm
  have := lt_points t
  refine Eq.trans (Fin.sum_fin_congr fun s => pay1_at _ _ i j) (Fin.sum_mul_add_congr fun s k hl => ?_)
  refine congrArg₂ (fun a b : EReal => a * b) ((read_h m c _ i k).trans ?_) ((read_g m c _ k j).trans ?_)
  · congr 3 <;> (dsimp only; omega)
  · congr 3 <;> (dsimp only; omega)

theorem frame_reference : Cert.quiescent_Reference7Ideal (hReference7Ideal := Cert.Reference7Ideal.Gen.facts) := by
  intro m g _
  hlo_run
  · exact fun _ => ⟨trivial, trivial⟩
  · exact Idealize.ShloMosaic.sem_eq_zero_of_no_sems (by decide) _

theorem algebraic : Cert.algebraic_Kernel7Ideal_Reference7Ideal (hKernel7Ideal := Cert.Kernel7Ideal.Gen.facts) (hReference7Ideal := Cert.Reference7Ideal.Gen.facts) := by
  pair_intro
  · run_from (Cert.Kernel7Ideal.Gen.run_main m g)
  · hlo_run
    exact (final m c).symm

end Cert.Kernel7Ideal.Value

end
-- ==== Proof.NormIn.lean ====
/- The first norm and the first projection, backward: the frames of the eighth pair of programs, and the kernel's two results against the reference's. -/
module

public import proofs.«01_k».proof.Defs
public import proofs.«01_k».proof.Proof.Gen.Kernel8.Frame
public import proofs.«01_k».proof.Proof.Gen.Kernel8Ideal.Frame
public import proofs.«01_k».proof.Proof.Gen.Reference8Ideal
public import proofs.«01_k».proof.Proof.RefNorm
public import Idealize.ShloMosaic.Lib.Claim
public import Idealize.ShloMosaic.Lib.Quiescent
public import Idealize.ShloMosaic.Lib.Pipeline.ValueKit

@[expose] public section

set_option maxRecDepth 16384
set_option maxHeartbeats 8000000

noncomputable section

open Idealize.ShloMosaic Idealize.ShloMosaic.Tactic Idealize.ShloMosaic.TcCoe Idealize.SL.Sem
open Idealize.ShloMosaic.Pipeline (Dat)

namespace Cert.Kernel8Ideal.Value

open Cert.Kernel8Ideal Cert.Kernel8Ideal.Gen Cert.Reference2Ideal.Term Cert.NormGrad

/-! ## The words -/

theorem pay2_at (a : Vec Ideal S256x5760 .bf16) (b : Vec Ideal S1024x5760 .bf16) (i : Fin 256) (d : Fin 1024) :
    k0_pay2 (F := Ideal) a b (ix2 i d) = ∑ l : Fin 5760, a (ix2 i l) * b (ix2 d l) := by
  pointwise [k0_pay2]

theorem pay3_at (x : Vec Ideal S256x1024 .f32) (i : Fin 256) : k0_pay3 (F := Ideal) x (ix2 i 0) = scale fun d => x (ix2 i d) := by
  pointwise [k0_pay3]
  rfl

theorem pay4_at (x : Vec Ideal S256x1024 .f32) (i : Fin 256) (d : Fin 1024) :
    k0_pay4 (F := Ideal) x (ix2 i d) = x (ix2 i d) * scale fun d => x (ix2 i d) := by
  pointwise [k0_pay4]
  rw [pay3_at]

theorem pay5_at (a : Vec Ideal S256x5760 .bf16) (b : Vec Ideal S1024x5760 .bf16) (x : Vec Ideal S256x1024 .f32) (w : Vec Ideal S1x1024 .f32) (e : Vec Ideal S256x1024 .f32) (i : Fin 256) (d : Fin 1024) :
    k0_pay5 (F := Ideal) a b x w e (ix2 i d)
      = e (ix2 i d) + back (fun d => x (ix2 i d)) (fun d => k0_pay2 (F := Ideal) a b (ix2 i d) * w (ix2 0 d)) d := by
  pointwise [k0_pay5]
  simp only [pay4_at, pay3_at]
  rfl

theorem pay6_at (a : Vec Ideal S256x5760 .bf16) (b : Vec Ideal S1024x5760 .bf16) (x : Vec Ideal S256x1024 .f32) (d : Fin 1024) :
    k0_pay6 (F := Ideal) a b x (ix2 0 d) = ∑ i : Fin 256, k0_pay2 (F := Ideal) a b (ix2 i d) * (x (ix2 i d) * scale fun d => x (ix2 i d)) := by
  pointwise [k0_pay6]
  simp only [pay4_at]

theorem pay11_at (v : FVec Ideal S1x1024 .f32) (a : Vec Ideal S256x5760 .bf16) (b : Vec Ideal S1024x5760 .bf16) (x : Vec Ideal S256x1024 .f32) (d : Fin 1024) :
    k0_pay11 (F := Ideal) v a b x (ix2 0 d) = v (ix2 0 d) + ∑ i : Fin 256, k0_pay2 (F := Ideal) a b (ix2 i d) * (x (ix2 i d) * scale fun d => x (ix2 i d)) := by
  refine (show k0_pay11 (F := Ideal) v a b x (ix2 0 d) = v (ix2 0 d) + ∑ i : Fin 256, k0_pay7 (F := Ideal) a b (ix2 i d) * k0_pay9 (F := Ideal) x (ix2 i d) by pointwise [k0_pay11]).trans ?_
  exact congrArg (v (ix2 0 d) + ·) (Fin.sum_fin_congr fun i => congrArg (k0_pay2 (F := Ideal) a b (ix2 i d) * ·) (pay4_at x i d))

theorem pay1_at (v a : Vec Ideal S1x1024 .f32) (d : Fin 1024) : k0_pay1 (F := Ideal) v a (ix2 0 d) = a (ix2 0 d) + v (ix2 0 d) := by
  pointwise [k0_pay1]

/-! ## The blocks of a point -/

section Blocks

variable (h : Vec Ideal S512x5760 .bf16) (u : Vec Ideal S1024x5760 .bf16) (x : Vec Ideal S512x1024 .f32) (w : Vec Ideal S1x1024 .f32) (e : Vec Ideal S512x1024 .f32)

/-- The normed row's cotangent. -/
def normCot (r : Fin 512) (d : Fin 1024) : EReal := ∑ l : Fin 5760, h (ix2 r l) * u (ix2 d l)
/-- The row's cotangent. -/
def rowCot (r : Fin 512) (d : Fin 1024) : EReal :=
  e (ix2 r d) + back (fun d => x (ix2 r d)) (fun d => normCot h u r d * w (ix2 0 d)) d
/-- What a row adds to the weights' cotangent. -/
def weightTerm (r : Fin 512) (d : Fin 1024) : EReal := normCot h u r d * (x (ix2 r d) * scale fun d => x (ix2 r d))

/-- The two halves of a block's rows. -/
def low : FVec Ideal S256x1024 .f32 := View.ld x (Rect.unit ![0, 0] ![256, 1024] inb_S512x1024_S256x1024_0_0)
def high : FVec Ideal S256x1024 .f32 := View.ld x (Rect.unit ![256, 0] ![256, 1024] inb_S512x1024_S256x1024_256_0)
def lowIn : FVec Ideal S256x5760 .bf16 := View.ld h (Rect.unit ![0, 0] ![256, 5760] inb_S512x5760_S256x5760_0_0)
def highIn : FVec Ideal S256x5760 .bf16 := View.ld h (Rect.unit ![256, 0] ![256, 5760] inb_S512x5760_S256x5760_256_0)

theorem low_at (i : Fin 256) (d : Fin 1024) : low x (ix2 i d) = x (ix2 ⟨i, by omega⟩ d) := by
  exact View.ld_unit_apply_of _ _ _ _ _ _ (by intro a; fin_cases a <;> simp [ix2])
theorem high_at (i : Fin 256) (d : Fin 1024) : high x (ix2 i d) = x (ix2 ⟨256 + i, by omega⟩ d) := by
  exact View.ld_unit_apply_of _ _ _ _ _ _ (by intro a; fin_cases a <;> simp [ix2])
theorem lowIn_at (i : Fin 256) (l : Fin 5760) : lowIn h (ix2 i l) = h (ix2 ⟨i, by omega⟩ l) := by
  exact View.ld_unit_apply_of _ _ _ _ _ _ (by intro a; fin_cases a <;> simp [ix2])
theorem highIn_at (i : Fin 256) (l : Fin 5760) : highIn h (ix2 i l) = h (ix2 ⟨256 + i, by omega⟩ l) := by
  exact View.ld_unit_apply_of _ _ _ _ _ _ (by intro a; fin_cases a <;> simp [ix2])

theorem lowCot_at (i : Fin 256) (d : Fin 1024) : k0_pay2 (F := Ideal) (lowIn h) u (ix2 i d) = normCot h u ⟨i, by omega⟩ d :=
  (pay2_at _ _ i d).trans (Fin.sum_fin_congr fun l => congrArg (fun a : EReal => a * u (ix2 d l)) (lowIn_at h i l))
theorem highCot_at (i : Fin 256) (d : Fin 1024) : k0_pay2 (F := Ideal) (highIn h) u (ix2 i d) = normCot h u ⟨256 + i, by omega⟩ d :=
  (pay2_at _ _ i d).trans (Fin.sum_fin_congr fun l => congrArg (fun a : EReal => a * u (ix2 d l)) (highIn_at h i l))

variable {h u x w e}

/-- The two halves, where an index of the block falls in them. -/
theorem low_row_of {r : Fin 512} {d : Fin 1024} (y : S256x1024.Idx) (hr : (r : ℕ) = y 0) (hd : (d : ℕ) = y 1) :
    k0_pay5 (lowIn h) u (low x) w (low e) y = rowCot h u x w e r d := by
  obtain ⟨a, b, rfl⟩ : ∃ (a : Fin 256) (b : Fin 1024), y = ix2 a b := ⟨y 0, y 1, eq_ix2 y⟩
  obtain rfl : r = ⟨a, a.isLt.trans (by decide)⟩ := Fin.ext hr
  obtain rfl : d = b := Fin.ext hd
  rw [pay5_at]
  simp only [low_at, lowCot_at]
  rfl
theorem high_row_of {r : Fin 512} {d : Fin 1024} (y : S256x1024.Idx) (hr : (r : ℕ) = 256 + y 0) (hd : (d : ℕ) = y 1) :
    k0_pay10 (highIn h) u (high x) w (high e) y = rowCot h u x w e r d := by
  obtain ⟨a, b, rfl⟩ : ∃ (a : Fin 256) (b : Fin 1024), y = ix2 a b := ⟨y 0, y 1, eq_ix2 y⟩
  obtain rfl : r = ⟨256 + a, Nat.add_lt_add_left a.isLt 256⟩ := Fin.ext hr
  obtain rfl : d = b := Fin.ext hd
  refine (pay5_at (highIn h) u (high x) w (high e) a d).trans ?_
  simp only [high_at, highCot_at]
  rfl

/-- The block's part of the weights' cotangent. -/
theorem weight_at (d : Fin 1024) :
    k0_pay11 (k0_pay6 (lowIn h) u (low x)) (highIn h) u (high x) (ix2 0 d) = ∑ r, weightTerm h u x r d := by
  rw [pay11_at, pay6_at]
  simp only [low_at, lowCot_at, high_at, highCot_at]
  exact (Fin.sum_univ_add (a := 256) (b := 256) fun r => weightTerm h u x r d).symm

end Blocks

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem lt_eight (t : Fin cfg0.N) : t.val < 8 := lt_of_lt_of_eq t.isLt N_0

variable (m : (ℓ : Loc nD τ sig) → Buf (Elt Ideal) ℓ) (c : Dev nD)

/-- Row `r` of a point's block, among all the rows. -/
def row (t : Fin cfg0.N) (r : Fin 512) : Fin 4096 := ⟨t.val * 512 + r, by have := lt_eight t; omega⟩

/-! ## The blocks a point reads -/

theorem read_h (t : Fin cfg0.N) (r : Fin 512) (l : Fin 5760) : iblk m c 0 t (ix2 r l) = m ((c : Thread nD τ).loc main_arg0) (ix2 (row t r) l) := by
  blk_point [iblk, V, idx t]
  rfl

theorem read_u (t : Fin cfg0.N) (d : Fin 1024) (l : Fin 5760) : iblk m c 1 t (ix2 d l) = m ((c : Thread nD τ).loc main_arg1) (ix2 d l) := by
  blk_point [iblk, V, idx t]

theorem read_x (t : Fin cfg0.N) (r : Fin 512) (d : Fin 1024) : iblk m c 2 t (ix2 r d) = m ((c : Thread nD τ).loc main_arg2) (ix2 (row t r) d) := by
  blk_point [iblk, V, idx t]
  rfl

theorem read_w (t : Fin cfg0.N) (d : Fin 1024) : iblk m c 3 t (ix2 0 d) = m ((c : Thread nD τ).loc main_arg3) (ix2 0 d) := by
  blk_point [iblk, V, idx t]

theorem read_e (t : Fin cfg0.N) (r : Fin 512) (d : Fin 1024) : iblk m c 4 t (ix2 r d) = m ((c : Thread nD τ).loc main_arg4) (ix2 (row t r) d) := by
  blk_point [iblk, V, idx t]
  rfl

/-! ## The reference's results, and a point's part of them -/

/-- The product, backward. -/
def productCots (h : FVec Ideal S4096x5760 .bf16) (u : FVec Ideal S1024x5760 .bf16) : FVec Ideal S4096x1024 .f32 :=
  Host.dotGeneral Reference8Ideal.dot_S4096x5760_S1024x5760_S4096x1024_1_1_0_0_n_n none (extf .f32 h Reference8Ideal.Gen.bitsLt_bf16_f32) (extf .f32 u Reference8Ideal.Gen.bitsLt_bf16_f32)

theorem productCots_at (h : FVec Ideal S4096x5760 .bf16) (u : FVec Ideal S1024x5760 .bf16) (r : Fin 4096) (d : Fin 1024) :
    productCots h u (ix2 r d) = ∑ l : Fin 5760, h (ix2 r l) * u (ix2 d l) := by
  pointwise [productCots]

/-- The cotangent of the normed rows. -/
abbrev normed : FVec Ideal S4096x1024 .f32 := productCots (m ((c : Thread nD τ).loc main_arg0)) (m ((c : Thread nD τ).loc main_arg1))
/-- The cotangent of the rows. -/
abbrev rows : FVec Ideal S4096x1024 .f32 :=
  rowCots (m ((c : Thread nD τ).loc main_arg2)) (weighted (normed m c) (m ((c : Thread nD τ).loc main_arg3))) (m ((c : Thread nD τ).loc main_arg4))
/-- The weights' cotangent. -/
abbrev weights : FVec Ideal S1x1024 .f32 := weightCots (m ((c : Thread nD τ).loc main_arg2)) (normed m c)

theorem normCot_eq (t : Fin cfg0.N) (r : Fin 512) (d : Fin 1024) : normCot (iblk m c 0 t) (iblk m c 1 t) r d = normed m c (ix2 (row t r) d) :=
  (Finset.sum_congr rfl fun l _ => congrArg₂ (fun a b : EReal => a * b) (read_h m c t _ _) (read_u m c t _ _)).trans (productCots_at _ _ _ _).symm

theorem rowCot_eq (t : Fin cfg0.N) (r : Fin 512) (d : Fin 1024) :
    rowCot (iblk m c 0 t) (iblk m c 1 t) (iblk m c 2 t) (iblk m c 3 t) (iblk m c 4 t) r d = rows m c (ix2 (row t r) d) :=
  (congrArg₂ (fun a b : EReal => a + b) (read_e m c t r d) (congrArg₂ (fun a b => back a b d) (funext fun d => read_x m c t r d)
    (funext fun d => (congrArg₂ (fun a b : EReal => a * b) (normCot_eq m c t r d) (read_w m c t d)).trans (weighted_at _ _ _ _).symm))).trans (rowCots_at _ _ _ _ _).symm

/-- What a row adds to the weights' cotangent, read of all the rows. -/
def weightPart (x g : FVec Ideal S4096x1024 .f32) (r : Fin 4096) (d : Fin 1024) : EReal := x (ix2 r d) * (scale fun d => x (ix2 r d)) * g (ix2 r d)

theorem weightTerm_eq (t : Fin cfg0.N) (r : Fin 512) (d : Fin 1024) :
    weightTerm (iblk m c 0 t) (iblk m c 1 t) (iblk m c 2 t) r d = weightPart (m ((c : Thread nD τ).loc main_arg2)) (normed m c) (row t r) d :=
  (mul_comm _ _).trans (congrArg₂ (fun a b : EReal => a * b) (congrArg₂ (fun a b : EReal => a * b) (read_x m c t r d) (congrArg scale (funext fun d => read_x m c t r d))) (normCot_eq m c t r d))

theorem weights_at (d : Fin 1024) : weights m c (ix2 0 d) = ∑ t : Fin cfg0.N, ∑ r, weightTerm (iblk m c 0 t) (iblk m c 1 t) (iblk m c 2 t) r d := by
  refine (weightCots_at _ _ _).trans ?_
  simp only [weightTerm_eq]
  exact (Fin.sum_mul_add_congr fun k r hl => rfl).symm

/-! ## The arrays after the run -/

theorem emb_rows (t : Fin cfg0.N) (r : Fin 512) (d : Fin 1024) (X : S4096x1024.Idx → EReal) : X ((win0_5.blk t).view.emb (ix2 r d)) = X (ix2 (row t r) d) := by
  blk_ext [idx t]
  rfl

theorem final_rows : (dats m 0 c).arrAt 5 (cfgs 0).N = rows m c := by
  refine (dats m 0 c).arrAt_eq_of_covers 5 _ (by decide +kernel) fun t _ y => ?_
  blk_simp
  rw [after0_5]
  obtain ⟨r, d, rfl⟩ : ∃ (r : Fin 512) (d : Fin 1024), y = ix2 r d := ⟨y 0, y 1, eq_ix2 y⟩
  refine Eq.trans ?_ ((rowCot_eq m c t r d).trans (emb_rows t r d _).symm)
  by_cases h : t.val % 8 = 0
  · rw [outsAt0_A m c t h (by have := lt_eight t; omega)]
    frame_out
    canon_tiles x hx
    case piece0 => exact high_row_of (e := iblk m c 4 t) x hx0 hx1
    case piece1 => exact low_row_of (e := iblk m c 4 t) x hx0 hx1
  · rw [outsAt0_B m c t h (by omega)]
    frame_out
    canon_tiles x hx
    case piece0 => exact high_row_of (e := iblk m c 4 t) x hx0 hx1
    case piece1 => exact low_row_of (e := iblk m c 4 t) x hx0 hx1

theorem final_weights : (dats m 0 c).arrAt 6 (cfgs 0).N = weights m c := by
  refine (dats m 0 c).arrAt_eq_of_after_last 6 t0_7 (by decide +kernel) _ fun j => ?_
  blk_simp
  rw [after0_6]
  obtain ⟨d, rfl⟩ : ∃ d : Fin 1024, j = ix2 0 d := ⟨j 1, (eq_ix2 j).trans (congrArg (fun a => ix2 a (j 1)) (Subsingleton.elim _ _))⟩
  refine Eq.trans (b := weights m c (ix2 0 d)) ?_ (by blk_ext [idx t0_7])
  rw [weights_at]
  refine (Pipeline.eq_sum_fin_of_reset_step_apply_last (fun n h => (outsAt0 m c n h).2) 8 (fun _ => 0)
    (fun t j => ∑ r, weightTerm (iblk m c 0 t) (iblk m c 1 t) (iblk m c 2 t) r (j 1)) ?_ ?_ (le_of_eq N_0) t0_7 rfl (ix2 0 d)).trans ?_
  · intro t h i
    obtain ⟨d, rfl⟩ : ∃ d : Fin 1024, i = ix2 0 d := ⟨i 1, (eq_ix2 i).trans (congrArg (fun a => ix2 a (i 1)) (Subsingleton.elim _ _))⟩
    rw [outsAt0_A m c t h (by have := lt_eight t; omega)]
    frame_out
    exact (weight_at (h := iblk m c 0 t) (u := iblk m c 1 t) (x := iblk m c 2 t) d).trans (zero_add _).symm
  · intro t h i
    obtain ⟨d, rfl⟩ : ∃ d : Fin 1024, i = ix2 0 d := ⟨i 1, (eq_ix2 i).trans (congrArg (fun a => ix2 a (i 1)) (Subsingleton.elim _ _))⟩
    show (outsAt0 m c t.val t.isLt).2 (ix2 0 d) = _
    rw [outsAt0_B m c t h (by omega)]
    frame_out
    exact (pay1_at _ _ d).trans (congrArg ((outsAt0 m c (t.val - 1) _).2 (ix2 0 d) + ·) (weight_at (h := iblk m c 0 t) (u := iblk m c 1 t) (x := iblk m c 2 t) d))
  · exact zero_add _

theorem frame_reference : Cert.quiescent_Reference8Ideal (hReference8Ideal := Cert.Reference8Ideal.Gen.facts) := by
  intro m g _
  hlo_run
  · exact fun _ => ⟨trivial, trivial, trivial, trivial, trivial⟩
  · exact Idealize.ShloMosaic.sem_eq_zero_of_no_sems (by decide) _

theorem algebraic : Cert.algebraic_Kernel8Ideal_Reference8Ideal (hKernel8Ideal := Cert.Kernel8Ideal.Gen.facts) (hReference8Ideal := Cert.Reference8Ideal.Gen.facts) := by
  pair_intro
  · run_from (Cert.Kernel8Ideal.Gen.run_main m g)
  · hlo_run
    · exact (final_rows m c).symm
    · exact (final_weights m c).symm

end Cert.Kernel8Ideal.Value

end
-- ==== Proof.NormRows.lean ====
/- The root-mean-square norm of the rows, forward, as the references write it, and read at an index. -/
module

public import proofs.«01_k».proof.Proof.RefNorm

@[expose] public section

set_option maxRecDepth 16384

noncomputable section

namespace Cert.Reference2Ideal.Term

open Idealize.ShloMosaic Cert.Reference2Ideal Cert.NormGrad

/-- The normed rows, times the weights. -/
def normRows (x : FVec Ideal S4096x1024 .f32) (w : FVec Ideal S1x1024 .f32) : FVec Ideal S4096x1024 .f32 :=
  weighted (mulf x (across (scales x))) w

theorem normRows_at (x : FVec Ideal S4096x1024 .f32) (w : FVec Ideal S1x1024 .f32) (r : Fin 4096) (d : Fin 1024) :
    normRows x w (ix2 r d) = (x (ix2 r d) * scale fun d => x (ix2 r d)) * w (ix2 0 d) := by
  refine (weighted_at _ _ _ _).trans (congrArg (fun a : EReal => a * w (ix2 0 d)) ?_)
  exact congrArg (fun a : EReal => x (ix2 r d) * a) ((across_at _ _ _).trans (scales_at _ _))

end Cert.Reference2Ideal.Term

end
-- ==== Proof.InProj.lean ====
/- The first norm and the first projection: the frames of the ninth pair of programs, and the kernel's two results against the reference's. -/
module

public import proofs.«01_k».proof.Defs
public import proofs.«01_k».proof.Proof.Gen.Kernel9.Frame
public import proofs.«01_k».proof.Proof.Gen.Kernel9Ideal.Frame
public import proofs.«01_k».proof.Proof.Gen.Reference9Ideal
public import proofs.«01_k».proof.Proof.NormRows
public import Idealize.ShloMosaic.Lib.Claim
public import Idealize.ShloMosaic.Lib.Quiescent
public import Idealize.ShloMosaic.Lib.Pipeline.ValueKit

@[expose] public section

set_option maxRecDepth 16384
set_option maxHeartbeats 8000000

noncomputable section

open Idealize.ShloMosaic Idealize.ShloMosaic.Tactic Idealize.ShloMosaic.TcCoe Idealize.SL.Sem
open Idealize.ShloMosaic.Pipeline (Dat)

namespace Cert.Kernel9Ideal.Value

open Cert.Kernel9Ideal Cert.Kernel9Ideal.Gen Cert.Reference2Ideal.Term Cert.NormGrad

/-! ## The words -/

theorem pay3_at (x : Vec Ideal S256x1024 .f32) (w : Vec Ideal S1x1024 .f32) (i : Fin 256) (d : Fin 1024) :
    k0_pay3 (F := Ideal) x w (ix2 i d) = (x (ix2 i d) * scale fun d => x (ix2 i d)) * w (ix2 0 d) := by
  pointwise [k0_pay3]
  rfl

theorem pay4_at (x : Vec Ideal S256x1024 .f32) (w : Vec Ideal S1x1024 .f32) (i : Fin 256) (d : Fin 1024) :
    k0_pay4 (F := Ideal) x w (ix2 d i) = k0_pay3 (F := Ideal) x w (ix2 i d) := by
  pointwise [k0_pay4]

theorem pay5_at (x : Vec Ideal S256x1024 .f32) (w : Vec Ideal S1x1024 .f32) (u : Vec Ideal S1024x5760 .bf16) (i : Fin 256) (l : Fin 5760) :
    k0_pay5 (F := Ideal) x w u (ix2 i l) = ∑ d : Fin 1024, k0_pay3 (F := Ideal) x w (ix2 i d) * u (ix2 d l) := by
  pointwise [k0_pay5]

/-! ## The blocks of a point -/

section Blocks

variable (x : Vec Ideal S512x1024 .f32) (w : Vec Ideal S1x1024 .f32) (u : Vec Ideal S1024x5760 .bf16)

/-- The normed row. -/
def normed (r : Fin 512) (d : Fin 1024) : EReal := (x (ix2 r d) * scale fun d => x (ix2 r d)) * w (ix2 0 d)
/-- The row's projection. -/
def proj (r : Fin 512) (l : Fin 5760) : EReal := ∑ d : Fin 1024, normed x w r d * u (ix2 d l)

/-- The two halves of a block's rows. -/
def low : FVec Ideal S256x1024 .f32 := View.ld x (Rect.unit ![0, 0] ![256, 1024] inb_S512x1024_S256x1024_0_0)
def high : FVec Ideal S256x1024 .f32 := View.ld x (Rect.unit ![256, 0] ![256, 1024] inb_S512x1024_S256x1024_256_0)

theorem low_at (i : Fin 256) (d : Fin 1024) : low x (ix2 i d) = x (ix2 ⟨i, by omega⟩ d) := by
  exact View.ld_unit_apply_of _ _ _ _ _ _ (by intro a; fin_cases a <;> simp [ix2])
theorem high_at (i : Fin 256) (d : Fin 1024) : high x (ix2 i d) = x (ix2 ⟨256 + i, by omega⟩ d) := by
  exact View.ld_unit_apply_of _ _ _ _ _ _ (by intro a; fin_cases a <;> simp [ix2])
theorem low_norm (i : Fin 256) (d : Fin 1024) : k0_pay3 (F := Ideal) (low x) w (ix2 i d) = normed x w ⟨i, by omega⟩ d := by
  rw [pay3_at]
  simp only [low_at]
  rfl
theorem high_norm (i : Fin 256) (d : Fin 1024) : k0_pay3 (F := Ideal) (high x) w (ix2 i d) = normed x w ⟨256 + i, by omega⟩ d := by
  rw [pay3_at]
  simp only [high_at]
  rfl

variable {x w u}

/-- The two halves, where an index of the block falls in them. -/
theorem low_proj_of {r : Fin 512} {l : Fin 5760} (y : S256x5760.Idx) (hr : (r : ℕ) = y 0) (hl : (l : ℕ) = y 1) :
    k0_pay5 (low x) w u y = proj x w u r l := by
  obtain ⟨a, b, rfl⟩ : ∃ (a : Fin 256) (b : Fin 5760), y = ix2 a b := ⟨y 0, y 1, eq_ix2 y⟩
  obtain rfl : r = ⟨a, a.isLt.trans (by decide)⟩ := Fin.ext hr
  obtain rfl : l = b := Fin.ext hl
  exact (pay5_at _ _ _ _ _).trans (Fin.sum_fin_congr fun d => congrArg (fun e : EReal => e * u (ix2 d l)) (low_norm x w a d))
theorem high_proj_of {r : Fin 512} {l : Fin 5760} (y : S256x5760.Idx) (hr : (r : ℕ) = 256 + y 0) (hl : (l : ℕ) = y 1) :
    k0_pay2 (k0_pay6 (high x) w) u y = proj x w u r l := by
  obtain ⟨a, b, rfl⟩ : ∃ (a : Fin 256) (b : Fin 5760), y = ix2 a b := ⟨y 0, y 1, eq_ix2 y⟩
  obtain rfl : r = ⟨256 + a, Nat.add_lt_add_left a.isLt 256⟩ := Fin.ext hr
  obtain rfl : l = b := Fin.ext hl
  exact (pay5_at (high x) w u a l).trans (Fin.sum_fin_congr fun d => congrArg (fun e : EReal => e * u (ix2 d l)) (high_norm x w a d))
theorem low_normed_of {d : Fin 1024} {r : Fin 512} (y : S1024x256.Idx) (hd : (d : ℕ) = y 0) (hr : (r : ℕ) = y 1) :
    k0_pay4 (low x) w y = normed x w r d := by
  obtain ⟨b, a, rfl⟩ : ∃ (b : Fin 1024) (a : Fin 256), y = ix2 b a := ⟨y 0, y 1, eq_ix2 y⟩
  obtain rfl : r = ⟨a, a.isLt.trans (by decide)⟩ := Fin.ext hr
  obtain rfl : d = b := Fin.ext hd
  exact (pay4_at _ _ _ _).trans (low_norm x w a d)
theorem high_normed_of {d : Fin 1024} {r : Fin 512} (y : S1024x256.Idx) (hd : (d : ℕ) = y 0) (hr : (r : ℕ) = 256 + y 1) :
    k0_pay1 (k0_pay7 (high x) w) y = normed x w r d := by
  obtain ⟨b, a, rfl⟩ : ∃ (b : Fin 1024) (a : Fin 256), y = ix2 b a := ⟨y 0, y 1, eq_ix2 y⟩
  obtain rfl : r = ⟨256 + a, Nat.add_lt_add_left a.isLt 256⟩ := Fin.ext hr
  obtain rfl : d = b := Fin.ext hd
  exact (pay4_at (high x) w a d).trans (high_norm x w a d)

end Blocks

theorem idx : ∀ t : Fin cfg0.N, win0_0.index t = ![t.val, 0] ∧ win0_1.index t = ![0, 0] ∧ win0_2.index t = ![0, 0] ∧ win0_3.index t = ![t.val, 0]
    ∧ win0_4.index t = ![0, t.val] :=
  (by decide +kernel : ∀ t : Fin grid0.N, _)

theorem lt_eight (t : Fin cfg0.N) : t.val < 8 := lt_of_lt_of_eq t.isLt N_0

variable (m : (ℓ : Loc nD τ sig) → Buf (Elt Ideal) ℓ) (c : Dev nD)

/-- Row `r` of a point's block, among all the rows. -/
def row (t : Fin cfg0.N) (r : Fin 512) : Fin 4096 := ⟨t.val * 512 + r, by have := lt_eight t; omega⟩

/-! ## The blocks a point reads -/

theorem read_x (t : Fin cfg0.N) (r : Fin 512) (d : Fin 1024) : iblk m c 0 t (ix2 r d) = m ((c : Thread nD τ).loc main_arg0) (ix2 (row t r) d) := by
  blk_point [iblk, V, idx t]
  rfl

theorem read_w (t : Fin cfg0.N) (d : Fin 1024) : iblk m c 1 t (ix2 0 d) = m ((c : Thread nD τ).loc main_arg1) (ix2 0 d) := by
  blk_point [iblk, V, idx t]

theorem read_u (t : Fin cfg0.N) (d : Fin 1024) (l : Fin 5760) : iblk m c 2 t (ix2 d l) = m ((c : Thread nD τ).loc main_arg2) (ix2 d l) := by
  blk_point [iblk, V, idx t]

/-! ## The reference's results -/

/-- The projection of the normed rows. -/
def projRows (h : FVec Ideal S4096x1024 .f32) (u : FVec Ideal S1024x5760 .bf16) : FVec Ideal S4096x5760 .f32 :=
  Host.dotGeneral Reference9Ideal.dot_S4096x1024_S1024x5760_S4096x5760_1_0_0_1_n_n none h (extf .f32 u Reference9Ideal.Gen.bitsLt_bf16_f32)

theorem projRows_at (h : FVec Ideal S4096x1024 .f32) (u : FVec Ideal S1024x5760 .bf16) (r : Fin 4096) (l : Fin 5760) :
    projRows h u (ix2 r l) = ∑ d : Fin 1024, h (ix2 r d) * u (ix2 d l) := by
  pointwise [projRows]

/-- Rows as columns, rounded. -/
def columns (h : FVec Ideal S4096x1024 .f32) : FVec Ideal S1024x4096 .bf16 :=
  truncf .bf16 (transpose S1024x4096 [1, 0] h Reference9Ideal.Gen.transposes_S4096x1024_S1024x4096_1_0) Reference9Ideal.Gen.bitsLt_bf16_f32

theorem columns_at (h : FVec Ideal S4096x1024 .f32) (r : Fin 4096) (d : Fin 1024) : columns h (ix2 d r) = h (ix2 r d) := by
  pointwise [columns]

/-- The reference's normed rows. -/
abbrev rows : FVec Ideal S4096x1024 .f32 := normRows (m ((c : Thread nD τ).loc main_arg0)) (m ((c : Thread nD τ).loc main_arg1))

theorem normed_eq (t : Fin cfg0.N) (r : Fin 512) (d : Fin 1024) : normed (iblk m c 0 t) (iblk m c 1 t) r d = rows m c (ix2 (row t r) d) :=
  (congrArg₂ (fun a b : EReal => a * b) (congrArg₂ (fun a b : EReal => a * b) (read_x m c t r d) (congrArg scale (funext fun d => read_x m c t r d))) (read_w m c t d)).trans
    (normRows_at _ _ _ _).symm

theorem proj_eq (t : Fin cfg0.N) (r : Fin 512) (l : Fin 5760) :
    proj (iblk m c 0 t) (iblk m c 1 t) (iblk m c 2 t) r l = projRows (rows m c) (m ((c : Thread nD τ).loc main_arg2)) (ix2 (row t r) l) :=
  (Fin.sum_fin_congr fun d => congrArg₂ (fun a b : EReal => a * b) (normed_eq m c t r d) (read_u m c t d l)).trans (projRows_at _ _ _ _).symm

/-! ## The arrays after the run -/

theorem emb_proj (t : Fin cfg0.N) (r : Fin 512) (l : Fin 5760) (X : S4096x5760.Idx → EReal) : X ((win0_3.blk t).view.emb (ix2 r l)) = X (ix2 (row t r) l) := by
  blk_ext [idx t]
  rfl

theorem emb_columns (t : Fin cfg0.N) (r : Fin 512) (d : Fin 1024) (X : S1024x4096.Idx → EReal) : X ((win0_4.blk t).view.emb (ix2 d r)) = X (ix2 d (row t r)) := by
  blk_ext [idx t]
  rfl

theorem final_proj : (dats m 0 c).arrAt 3 (cfgs 0).N = projRows (rows m c) (m ((c : Thread nD τ).loc main_arg2)) := by
  refine (dats m 0 c).arrAt_eq_of_covers 3 _ (by decide +kernel) fun t _ y => ?_
  blk_simp
  rw [after0_3]
  obtain ⟨r, l, rfl⟩ : ∃ (r : Fin 512) (l : Fin 5760), y = ix2 r l := ⟨y 0, y 1, eq_ix2 y⟩
  refine Eq.trans ?_ ((proj_eq m c t r l).trans (emb_proj t r l _).symm)
  frame_out
  canon_tiles x hx
  case piece0 => exact high_proj_of x hx0 hx1
  case piece1 => exact low_proj_of x hx0 hx1

theorem final_columns : (dats m 0 c).arrAt 4 (cfgs 0).N = columns (rows m c) := by
  refine (dats m 0 c).arrAt_eq_of_covers 4 _ (by decide +kernel) fun t _ y => ?_
  blk_simp
  rw [after0_4]
  obtain ⟨d, r, rfl⟩ : ∃ (d : Fin 1024) (r : Fin 512), y = ix2 d r := ⟨y 0, y 1, eq_ix2 y⟩
  refine Eq.trans ?_ ((normed_eq m c t r d).trans ((columns_at _ _ _).symm.trans (emb_columns t r d _).symm))
  frame_out
  canon_tiles x hx
  case piece0 => exact high_normed_of x hx0 hx1
  case piece1 => exact low_normed_of x hx0 hx1

theorem frame_reference : Cert.quiescent_Reference9Ideal (hReference9Ideal := Cert.Reference9Ideal.Gen.facts) := by
  intro m g _
  hlo_run
  · exact fun _ => ⟨trivial, trivial, trivial⟩
  · exact Idealize.ShloMosaic.sem_eq_zero_of_no_sems (by decide) _

theorem algebraic : Cert.algebraic_Kernel9Ideal_Reference9Ideal (hKernel9Ideal := Cert.Kernel9Ideal.Gen.facts) (hReference9Ideal := Cert.Reference9Ideal.Gen.facts) := by
  pair_intro
  · run_from (Cert.Kernel9Ideal.Gen.run_main m g)
  · hlo_run
    · exact (final_proj m c).symm
    · exact (final_columns m c).symm

end Cert.Kernel9Ideal.Value

end
-- ==== Proof.OutProj.lean ====
/- The output projection, the residual and the second norm: the frames of the tenth pair of programs, and the kernel's three results against the reference's. -/
module

public import proofs.«01_k».proof.Defs
public import proofs.«01_k».proof.Proof.Gen.Kernel10.Frame
public import proofs.«01_k».proof.Proof.Gen.Kernel10Ideal.Frame
public import proofs.«01_k».proof.Proof.Gen.Reference10Ideal
public import proofs.«01_k».proof.Proof.NormRows
public import Idealize.ShloMosaic.Lib.Claim
public import Idealize.ShloMosaic.Lib.Quiescent
public import Idealize.ShloMosaic.Lib.Pipeline.ValueKit

@[expose] public section

set_option maxRecDepth 16384
set_option maxHeartbeats 8000000

noncomputable section

open Idealize.ShloMosaic Idealize.ShloMosaic.Tactic Idealize.ShloMosaic.TcCoe Idealize.SL.Sem
open Idealize.ShloMosaic.Pipeline (Dat)

namespace Cert.Kernel10Ideal.Value

open Cert.Kernel10Ideal Cert.Kernel10Ideal.Gen Cert.Reference2Ideal.Term Cert.NormGrad

/-! ## The words -/

theorem pay5_at (x : Vec Ideal S256x1024 .f32) (a : Vec Ideal S256x1024 .bf16) (u : Vec Ideal S1024x1024 .bf16) (b : Vec Ideal S256x1024 .bf16) (v : Vec Ideal S1024x1024 .bf16) (i : Fin 256) (d : Fin 1024) :
    k0_pay5 (F := Ideal) x a u b v (ix2 i d) = x (ix2 i d) + ∑ l : Fin 1024, a (ix2 i l) * u (ix2 l d) + ∑ l : Fin 1024, b (ix2 i l) * v (ix2 l d) := by
  pointwise [k0_pay5]

theorem pay6_at (x : Vec Ideal S256x1024 .f32) (a : Vec Ideal S256x1024 .bf16) (u : Vec Ideal S1024x1024 .bf16) (b : Vec Ideal S256x1024 .bf16) (v : Vec Ideal S1024x1024 .bf16) (w : Vec Ideal S1x1024 .f32) (i : Fin 256) (d : Fin 1024) :
    k0_pay6 (F := Ideal) x a u b v w (ix2 i d)
      = (k0_pay5 (F := Ideal) x a u b v (ix2 i d) * scale fun d => k0_pay5 (F := Ideal) x a u b v (ix2 i d)) * w (ix2 0 d) := by
  pointwise [k0_pay6]
  rfl

theorem pay7_at (x : Vec Ideal S256x1024 .f32) (a : Vec Ideal S256x1024 .bf16) (u : Vec Ideal S1024x1024 .bf16) (b : Vec Ideal S256x1024 .bf16) (v : Vec Ideal S1024x1024 .bf16) (w : Vec Ideal S1x1024 .f32) (i : Fin 256) (d : Fin 1024) :
    k0_pay7 (F := Ideal) x a u b v w (ix2 i d) = k0_pay6 (F := Ideal) x a u b v w (ix2 i d) := by
  pointwise [k0_pay7]

theorem pay8_at (x : Vec Ideal S256x1024 .f32) (a : Vec Ideal S256x1024 .bf16) (u : Vec Ideal S1024x1024 .bf16) (b : Vec Ideal S256x1024 .bf16) (v : Vec Ideal S1024x1024 .bf16) (w : Vec Ideal S1x1024 .f32) (i : Fin 256) (d : Fin 1024) :
    k0_pay8 (F := Ideal) x a u b v w (ix2 d i) = k0_pay6 (F := Ideal) x a u b v w (ix2 i d) := by
  pointwise [k0_pay8]

/-! ## The blocks of a point -/

section Blocks

variable (a b : Vec Ideal S512x1024 .bf16) (o : Vec Ideal S2048x1024 .bf16) (x : Vec Ideal S512x1024 .f32) (w : Vec Ideal S1x1024 .f32)

/-- The row after the residual. -/
def sum (r : Fin 512) (d : Fin 1024) : EReal :=
  x (ix2 r d) + ∑ l : Fin 1024, a (ix2 r l) * o (ix2 ⟨l, by omega⟩ d) + ∑ l : Fin 1024, b (ix2 r l) * o (ix2 ⟨1024 + l, by omega⟩ d)
/-- The row after the norm. -/
def normed (r : Fin 512) (d : Fin 1024) : EReal := (sum a b o x r d * scale fun d => sum a b o x r d) * w (ix2 0 d)

/-- The two halves of a block's rows. -/
def low : FVec Ideal S256x1024 .f32 := View.ld x (Rect.unit ![0, 0] ![256, 1024] inb_S512x1024_S256x1024_0_0)
def high : FVec Ideal S256x1024 .f32 := View.ld x (Rect.unit ![256, 0] ![256, 1024] inb_S512x1024_S256x1024_256_0)

theorem low_at (i : Fin 256) (d : Fin 1024) : low x (ix2 i d) = x (ix2 ⟨i, by omega⟩ d) := by
  exact View.ld_unit_apply_of _ _ _ _ _ _ (by intro a; fin_cases a <;> simp [ix2])
theorem high_at (i : Fin 256) (d : Fin 1024) : high x (ix2 i d) = x (ix2 ⟨256 + i, by omega⟩ d) := by
  exact View.ld_unit_apply_of _ _ _ _ _ _ (by intro a; fin_cases a <;> simp [ix2])
def lowIn : FVec Ideal S256x1024 .bf16 := View.ld a (Rect.unit ![0, 0] ![256, 1024] inb_S512x1024_S256x1024_0_0)
def highIn : FVec Ideal S256x1024 .bf16 := View.ld a (Rect.unit ![256, 0] ![256, 1024] inb_S512x1024_S256x1024_256_0)
/-- The two halves of the weight. -/
def top : FVec Ideal S1024x1024 .bf16 := View.ld o (Rect.unit ![0, 0] ![1024, 1024] inb_S2048x1024_S1024x1024_0_0)
def bottom : FVec Ideal S1024x1024 .bf16 := View.ld o (Rect.unit ![1024, 0] ![1024, 1024] inb_S2048x1024_S1024x1024_1024_0)

theorem lowIn_at (i : Fin 256) (l : Fin 1024) : lowIn a (ix2 i l) = a (ix2 ⟨i, by omega⟩ l) := by
  exact View.ld_unit_apply_of _ _ _ _ _ _ (by intro a; fin_cases a <;> simp [ix2])
theorem highIn_at (i : Fin 256) (l : Fin 1024) : highIn a (ix2 i l) = a (ix2 ⟨256 + i, by omega⟩ l) := by
  exact View.ld_unit_apply_of _ _ _ _ _ _ (by intro a; fin_cases a <;> simp [ix2])
theorem top_at (l d : Fin 1024) : top o (ix2 l d) = o (ix2 ⟨l, by omega⟩ d) := by
  exact View.ld_unit_apply_of _ _ _ _ _ _ (by intro a; fin_cases a <;> simp [ix2])
theorem bottom_at (l d : Fin 1024) : bottom o (ix2 l d) = o (ix2 ⟨1024 + l, by omega⟩ d) := by
  exact View.ld_unit_apply_of _ _ _ _ _ _ (by intro a; fin_cases a <;> simp [ix2])

theorem low_sum (i : Fin 256) (d : Fin 1024) :
    k0_pay5 (F := Ideal) (low x) (lowIn a) (top o) (lowIn b) (bottom o) (ix2 i d) = sum a b o x ⟨i, by omega⟩ d := by
  rw [pay5_at]
  simp only [low_at, lowIn_at, top_at, bottom_at]
  rfl
theorem high_sum (i : Fin 256) (d : Fin 1024) :
    k0_pay5 (F := Ideal) (high x) (highIn a) (top o) (highIn b) (bottom o) (ix2 i d) = sum a b o x ⟨256 + i, by omega⟩ d := by
  rw [pay5_at]
  simp only [high_at, highIn_at, top_at, bottom_at]
  rfl
theorem low_norm (i : Fin 256) (d : Fin 1024) :
    k0_pay6 (F := Ideal) (low x) (lowIn a) (top o) (lowIn b) (bottom o) w (ix2 i d) = normed a b o x w ⟨i, by omega⟩ d := by
  rw [pay6_at]
  simp only [low_sum]
  rfl
theorem high_norm (i : Fin 256) (d : Fin 1024) :
    k0_pay6 (F := Ideal) (high x) (highIn a) (top o) (highIn b) (bottom o) w (ix2 i d) = normed a b o x w ⟨256 + i, by omega⟩ d := by
  rw [pay6_at]
  simp only [high_sum]
  rfl

variable {a b o x w}

/-- The two halves, where an index of the block falls in them. -/
theorem low_sum_of {r : Fin 512} {d : Fin 1024} (y : S256x1024.Idx) (hr : (r : ℕ) = y 0) (hd : (d : ℕ) = y 1) :
    k0_pay5 (F := Ideal) (low x) (lowIn a) (top o) (lowIn b) (bottom o) y = sum a b o x r d := by
  obtain ⟨i, e, rfl⟩ : ∃ (i : Fin 256) (e : Fin 1024), y = ix2 i e := ⟨y 0, y 1, eq_ix2 y⟩
  obtain rfl : r = ⟨i, i.isLt.trans (by decide)⟩ := Fin.ext hr
  obtain rfl : d = e := Fin.ext hd
  exact low_sum ..
theorem high_sum_of {r : Fin 512} {d : Fin 1024} (y : S256x1024.Idx) (hr : (r : ℕ) = 256 + y 0) (hd : (d : ℕ) = y 1) :
    k0_pay1 (F := Ideal) (high x) (highIn a) (top o) (highIn b) (bottom o) y = sum a b o x r d := by
  obtain ⟨i, e, rfl⟩ : ∃ (i : Fin 256) (e : Fin 1024), y = ix2 i e := ⟨y 0, y 1, eq_ix2 y⟩
  obtain rfl : r = ⟨256 + i, Nat.add_lt_add_left i.isLt 256⟩ := Fin.ext hr
  obtain rfl : d = e := Fin.ext hd
  exact high_sum a b o x i d
theorem low_norm_of {r : Fin 512} {d : Fin 1024} (y : S256x1024.Idx) (hr : (r : ℕ) = y 0) (hd : (d : ℕ) = y 1) :
    k0_pay7 (low x) (lowIn a) (top o) (lowIn b) (bottom o) w y = normed a b o x w r d := by
  obtain ⟨i, e, rfl⟩ : ∃ (i : Fin 256) (e : Fin 1024), y = ix2 i e := ⟨y 0, y 1, eq_ix2 y⟩
  obtain rfl : r = ⟨i, i.isLt.trans (by decide)⟩ := Fin.ext hr
  obtain rfl : d = e := Fin.ext hd
  exact (pay7_at ..).trans (low_norm ..)
theorem high_norm_of {r : Fin 512} {d : Fin 1024} (y : S256x1024.Idx) (hr : (r : ℕ) = 256 + y 0) (hd : (d : ℕ) = y 1) :
    k0_pay3 (high x) (highIn a) (top o) (highIn b) (bottom o) w y = normed a b o x w r d := by
  obtain ⟨i, e, rfl⟩ : ∃ (i : Fin 256) (e : Fin 1024), y = ix2 i e := ⟨y 0, y 1, eq_ix2 y⟩
  obtain rfl : r = ⟨256 + i, Nat.add_lt_add_left i.isLt 256⟩ := Fin.ext hr
  obtain rfl : d = e := Fin.ext hd
  exact (pay7_at (high x) (highIn a) (top o) (highIn b) (bottom o) w i d).trans (high_norm ..)
theorem low_column_of {d : Fin 1024} {r : Fin 512} (y : S1024x256.Idx) (hd : (d : ℕ) = y 0) (hr : (r : ℕ) = y 1) :
    k0_pay8 (low x) (lowIn a) (top o) (lowIn b) (bottom o) w y = normed a b o x w r d := by
  obtain ⟨e, i, rfl⟩ : ∃ (e : Fin 1024) (i : Fin 256), y = ix2 e i := ⟨y 0, y 1, eq_ix2 y⟩
  obtain rfl : r = ⟨i, i.isLt.trans (by decide)⟩ := Fin.ext hr
  obtain rfl : d = e := Fin.ext hd
  exact (pay8_at ..).trans (low_norm ..)
theorem high_column_of {d : Fin 1024} {r : Fin 512} (y : S1024x256.Idx) (hd : (d : ℕ) = y 0) (hr : (r : ℕ) = 256 + y 1) :
    k0_pay4 (high x) (highIn a) (top o) (highIn b) (bottom o) w y = normed a b o x w r d := by
  obtain ⟨e, i, rfl⟩ : ∃ (e : Fin 1024) (i : Fin 256), y = ix2 e i := ⟨y 0, y 1, eq_ix2 y⟩
  obtain rfl : r = ⟨256 + i, Nat.add_lt_add_left i.isLt 256⟩ := Fin.ext hr
  obtain rfl : d = e := Fin.ext hd
  exact (pay8_at (high x) (highIn a) (top o) (highIn b) (bottom o) w i d).trans (high_norm ..)

end Blocks

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, t.val] :=
  (by decide +kernel : ∀ t : Fin grid0.N, _)

theorem lt_eight (t : Fin cfg0.N) : t.val < 8 := lt_of_lt_of_eq t.isLt N_0

variable (m : (ℓ : Loc nD τ sig) → Buf (Elt Ideal) ℓ) (c : Dev nD)

/-- Row `r` of a point's block, among all the rows. -/
def row (t : Fin cfg0.N) (r : Fin 512) : Fin 4096 := ⟨t.val * 512 + r, by have := lt_eight t; omega⟩

/-! ## The blocks a point reads -/

theorem read_a (t : Fin cfg0.N) (r : Fin 512) (l : Fin 1024) : iblk m c 0 t (ix2 r l) = m ((c : Thread nD τ).loc main_arg0) (ix2 (row t r) l) := by
  blk_point [iblk, V, idx t]
  rfl

theorem read_b (t : Fin cfg0.N) (r : Fin 512) (l : Fin 1024) : iblk m c 1 t (ix2 r l) = m ((c : Thread nD τ).loc main_arg1) (ix2 (row t r) l) := by
  blk_point [iblk, V, idx t]
  rfl

theorem read_o (t : Fin cfg0.N) (l : Fin 2048) (d : Fin 1024) : iblk m c 2 t (ix2 l d) = m ((c : Thread nD τ).loc main_arg2) (ix2 l d) := by
  blk_point [iblk, V, idx t]

theorem read_x (t : Fin cfg0.N) (r : Fin 512) (d : Fin 1024) : iblk m c 3 t (ix2 r d) = m ((c : Thread nD τ).loc main_arg3) (ix2 (row t r) d) := by
  blk_point [iblk, V, idx t]
  rfl

theorem read_w (t : Fin cfg0.N) (d : Fin 1024) : iblk m c 4 t (ix2 0 d) = m ((c : Thread nD τ).loc main_arg4) (ix2 0 d) := by
  blk_point [iblk, V, idx t]

/-! ## The reference's results -/

/-- The two mixers' rows side by side. -/
def mixed (a b : FVec Ideal S4096x1024 .bf16) : FVec Ideal Reference10Ideal.S4096x2048 .f32 :=
  concatenate Reference10Ideal.S4096x2048 1 [⟨S4096x1024, extf .f32 a Reference10Ideal.Gen.bitsLt_bf16_f32⟩, ⟨S4096x1024, extf .f32 b Reference10Ideal.Gen.bitsLt_bf16_f32⟩]
    Reference10Ideal.Gen.concatenates_S4096x1024_S4096x1024_S4096x2048_d1

/-- The rows after the residual. -/
def sums (a b : FVec Ideal S4096x1024 .bf16) (o : FVec Ideal S2048x1024 .bf16) (x : FVec Ideal S4096x1024 .f32) : FVec Ideal S4096x1024 .f32 :=
  addf x (Host.dotGeneral Reference10Ideal.dot_S4096x2048_S2048x1024_S4096x1024_1_0_0_1_n_n none (mixed a b) (extf .f32 o Reference10Ideal.Gen.bitsLt_bf16_f32))

theorem mixed_left (a b : FVec Ideal S4096x1024 .bf16) (r : Fin 4096) (l : Fin 1024) : mixed a b (ix2 r ⟨l, by omega⟩) = a (ix2 r l) := by
  pointwise [mixed]
theorem mixed_right (a b : FVec Ideal S4096x1024 .bf16) (r : Fin 4096) (l : Fin 1024) : mixed a b (ix2 r ⟨1024 + l, by omega⟩) = b (ix2 r l) := by
  pointwise [mixed]

theorem sums_eq (a b : FVec Ideal S4096x1024 .bf16) (o : FVec Ideal S2048x1024 .bf16) (x : FVec Ideal S4096x1024 .f32) (r : Fin 4096) (d : Fin 1024) :
    sums a b o x (ix2 r d) = x (ix2 r d) + ∑ l : Fin 2048, mixed a b (ix2 r l) * o (ix2 l d) := by
  pointwise [sums]

theorem sums_at (a b : FVec Ideal S4096x1024 .bf16) (o : FVec Ideal S2048x1024 .bf16) (x : FVec Ideal S4096x1024 .f32) (r : Fin 4096) (d : Fin 1024) :
    sums a b o x (ix2 r d)
      = x (ix2 r d) + ∑ l : Fin 1024, a (ix2 r l) * o (ix2 ⟨l, by omega⟩ d) + ∑ l : Fin 1024, b (ix2 r l) * o (ix2 ⟨1024 + l, by omega⟩ d) := by
  refine (sums_eq a b o x r d).trans (((congrArg (fun e : EReal => x (ix2 r d) + e) ?_)).trans (add_assoc _ _ _).symm)
  refine (Fin.sum_univ_add (a := 1024) (b := 1024) fun l => mixed a b (ix2 r l) * o (ix2 l d)).trans (congrArg₂ (fun a b : EReal => a + b) ?_ ?_)
  · exact Fin.sum_fin_congr fun l => congrArg (fun e : EReal => e * o (ix2 ⟨l, by omega⟩ d)) (mixed_left a b r l)
  · exact Fin.sum_fin_congr fun l => congrArg (fun e : EReal => e * o (ix2 ⟨1024 + l, by omega⟩ d)) (mixed_right a b r l)

/-- The normed rows, rounded. -/
def rounded (h : FVec Ideal S4096x1024 .f32) : FVec Ideal S4096x1024 .bf16 := truncf .bf16 h Reference10Ideal.Gen.bitsLt_bf16_f32
/-- The rounded rows as columns. -/
def columns (h : FVec Ideal S4096x1024 .bf16) : FVec Ideal S1024x4096 .bf16 :=
  transpose S1024x4096 [1, 0] h Reference10Ideal.Gen.transposes_S4096x1024_S1024x4096_1_0

theorem rounded_at (h : FVec Ideal S4096x1024 .f32) (r : Fin 4096) (d : Fin 1024) : rounded h (ix2 r d) = h (ix2 r d) := by
  pointwise [rounded]
theorem columns_at (h : FVec Ideal S4096x1024 .bf16) (r : Fin 4096) (d : Fin 1024) : columns h (ix2 d r) = h (ix2 r d) := by
  pointwise [columns]

/-- The reference's rows after the residual. -/
abbrev rows : FVec Ideal S4096x1024 .f32 :=
  sums (m ((c : Thread nD τ).loc main_arg0)) (m ((c : Thread nD τ).loc main_arg1)) (m ((c : Thread nD τ).loc main_arg2)) (m ((c : Thread nD τ).loc main_arg3))
/-- The reference's normed rows. -/
abbrev norms : FVec Ideal S4096x1024 .f32 := normRows (rows m c) (m ((c : Thread nD τ).loc main_arg4))

theorem sum_eq (t : Fin cfg0.N) (r : Fin 512) (d : Fin 1024) :
    sum (iblk m c 0 t) (iblk m c 1 t) (iblk m c 2 t) (iblk m c 3 t) r d = rows m c (ix2 (row t r) d) :=
  (congrArg₂ (fun a b : EReal => a + b) (congrArg₂ (fun a b : EReal => a + b) (read_x m c t r d)
    (Fin.sum_fin_congr fun l => congrArg₂ (fun a b : EReal => a * b) (read_a m c t r l) (read_o m c t _ d)))
    (Fin.sum_fin_congr fun l => congrArg₂ (fun a b : EReal => a * b) (read_b m c t r l) (read_o m c t _ d))).trans (sums_at _ _ _ _ _ _).symm

theorem normed_eq (t : Fin cfg0.N) (r : Fin 512) (d : Fin 1024) :
    normed (iblk m c 0 t) (iblk m c 1 t) (iblk m c 2 t) (iblk m c 3 t) (iblk m c 4 t) r d = norms m c (ix2 (row t r) d) :=
  (congrArg₂ (fun a b : EReal => a * b) (congrArg₂ (fun a b : EReal => a * b) (sum_eq m c t r d) (congrArg scale (funext fun d => sum_eq m c t r d))) (read_w m c t d)).trans
    (normRows_at _ _ _ _).symm

/-! ## The arrays after the run -/

theorem emb_rows (t : Fin cfg0.N) (r : Fin 512) (d : Fin 1024) (X : S4096x1024.Idx → EReal) : X ((win0_5.blk t).view.emb (ix2 r d)) = X (ix2 (row t r) d) := by
  blk_ext [idx t]
  rfl
theorem emb_norms (t : Fin cfg0.N) (r : Fin 512) (d : Fin 1024) (X : S4096x1024.Idx → EReal) : X ((win0_6.blk t).view.emb (ix2 r d)) = X (ix2 (row t r) d) := by
  blk_ext [idx t]
  rfl
theorem emb_columns (t : Fin cfg0.N) (r : Fin 512) (d : Fin 1024) (X : S1024x4096.Idx → EReal) : X ((win0_7.blk t).view.emb (ix2 d r)) = X (ix2 d (row t r)) := by
  blk_ext [idx t]
  rfl

theorem final_rows : (dats m 0 c).arrAt 5 (cfgs 0).N = rows m c := by
  refine (dats m 0 c).arrAt_eq_of_covers 5 _ (by decide +kernel) fun t _ y => ?_
  blk_simp
  rw [after0_5]
  obtain ⟨r, d, rfl⟩ : ∃ (r : Fin 512) (d : Fin 1024), y = ix2 r d := ⟨y 0, y 1, eq_ix2 y⟩
  refine Eq.trans ?_ ((sum_eq m c t r d).trans (emb_rows t r d _).symm)
  frame_out
  canon_tiles x hx
  case piece0 => exact high_sum_of (x := iblk m c 3 t) x hx0 hx1
  case piece1 => exact low_sum_of (x := iblk m c 3 t) x hx0 hx1

theorem final_norms : (dats m 0 c).arrAt 6 (cfgs 0).N = rounded (norms m c) := by
  refine (dats m 0 c).arrAt_eq_of_covers 6 _ (by decide +kernel) fun t _ y => ?_
  blk_simp
  rw [after0_6]
  obtain ⟨r, d, rfl⟩ : ∃ (r : Fin 512) (d : Fin 1024), y = ix2 r d := ⟨y 0, y 1, eq_ix2 y⟩
  refine Eq.trans ?_ ((normed_eq m c t r d).trans ((rounded_at _ _ _).symm.trans (emb_norms t r d _).symm))
  frame_out
  canon_tiles x hx
  case piece0 => exact high_norm_of (x := iblk m c 3 t) x hx0 hx1
  case piece1 => exact low_norm_of (x := iblk m c 3 t) x hx0 hx1

theorem final_columns : (dats m 0 c).arrAt 7 (cfgs 0).N = columns (rounded (norms m c)) := by
  refine (dats m 0 c).arrAt_eq_of_covers 7 _ (by decide +kernel) fun t _ y => ?_
  blk_simp
  rw [after0_7]
  obtain ⟨d, r, rfl⟩ : ∃ (d : Fin 1024) (r : Fin 512), y = ix2 d r := ⟨y 0, y 1, eq_ix2 y⟩
  refine Eq.trans ?_ ((normed_eq m c t r d).trans ((rounded_at _ _ _).symm.trans ((columns_at _ _ _).symm.trans (emb_columns t r d _).symm)))
  frame_out
  canon_tiles x hx
  case piece0 => exact high_column_of (x := iblk m c 3 t) x hx0 hx1
  case piece1 => exact low_column_of (x := iblk m c 3 t) x hx0 hx1

theorem frame_reference : Cert.quiescent_Reference10Ideal (hReference10Ideal := Cert.Reference10Ideal.Gen.facts) := by
  intro m g _
  hlo_run
  · exact fun _ => ⟨trivial, trivial, trivial, trivial, trivial⟩
  · exact Idealize.ShloMosaic.sem_eq_zero_of_no_sems (by decide) _

theorem algebraic : Cert.algebraic_Kernel10Ideal_Reference10Ideal (hKernel10Ideal := Cert.Kernel10Ideal.Gen.facts) (hReference10Ideal := Cert.Reference10Ideal.Gen.facts) := by
  pair_intro
  · run_from (Cert.Kernel10Ideal.Gen.run_main m g)
  · hlo_run
    · exact (final_rows m c).symm
    · exact (final_norms m c).symm
    · exact (final_columns m c).symm

end Cert.Kernel10Ideal.Value

end
-- ==== Proof.DownProj.lean ====
/- The gated MLP's second product, the residual and the loss: the frames of the eleventh pair of programs, and the kernel's two results against the reference's. -/
module

public import proofs.«01_k».proof.Defs
public import proofs.«01_k».proof.Proof.Gen.Kernel11.Frame
public import proofs.«01_k».proof.Proof.Gen.Kernel11Ideal.Frame
public import proofs.«01_k».proof.Proof.Gen.Reference11Ideal
public import proofs.«01_k».proof.Proof.RefNorm
public import Idealize.ShloMosaic.Lib.Claim
public import Idealize.ShloMosaic.Lib.Quiescent
public import Idealize.ShloMosaic.Lib.Pipeline.ValueKit

@[expose] public section

set_option maxRecDepth 16384
set_option maxHeartbeats 8000000

noncomputable section

open Idealize.ShloMosaic Idealize.ShloMosaic.Tactic Idealize.ShloMosaic.TcCoe Idealize.SL.Sem
open Idealize.ShloMosaic.Pipeline (Dat)

namespace Cert.Kernel11Ideal.Value

open Cert.Kernel11Ideal Cert.Kernel11Ideal.Gen Cert.Reference2Ideal.Term Cert.NormGrad

/-! ## The words -/

theorem pay2_at (x : Vec Ideal S256x1024 .f32) (a : Vec Ideal S256x2816 .bf16) (u : Vec Ideal S2816x1024 .bf16) (y : Vec Ideal S256x1024 .f32) (i : Fin 256) (d : Fin 1024) :
    k0_pay2 (F := Ideal) x a u y (ix2 i d) = x (ix2 i d) + ∑ l : Fin 2816, a (ix2 i l) * u (ix2 l d) - y (ix2 i d) := by
  pointwise [k0_pay2]

theorem pay3_at (x : Vec Ideal S256x1024 .f32) (a : Vec Ideal S256x2816 .bf16) (u : Vec Ideal S2816x1024 .bf16) (y : Vec Ideal S256x1024 .f32) (i : Fin 256) (d : Fin 1024) :
    k0_pay3 (F := Ideal) x a u y (ix2 i d) = Ideal.div (k0_pay2 (F := Ideal) x a u y (ix2 i d)) count := by
  pointwise [k0_pay3]
  rfl

theorem pay6_at (x : Vec Ideal S256x1024 .f32) (a : Vec Ideal S256x2816 .bf16) (u : Vec Ideal S2816x1024 .bf16) (y : Vec Ideal S256x1024 .f32)
    (x' : Vec Ideal S256x1024 .f32) (a' : Vec Ideal S256x2816 .bf16) (u' : Vec Ideal S2816x1024 .bf16) (y' : Vec Ideal S256x1024 .f32) (d : Fin 1024) :
    k0_pay6 (F := Ideal) x a u y x' a' u' y' (ix2 0 d)
      = ∑ i : Fin 256, k0_pay2 (F := Ideal) x a u y (ix2 i d) * k0_pay2 (F := Ideal) x a u y (ix2 i d)
        + ∑ i : Fin 256, k0_pay4 (F := Ideal) x' a' u' y' (ix2 i d) * k0_pay4 (F := Ideal) x' a' u' y' (ix2 i d) := by
  pointwise [k0_pay6]

theorem pay1_at (v a : Vec Ideal S1x1024 .f32) (d : Fin 1024) : k0_pay1 (F := Ideal) v a (ix2 0 d) = a (ix2 0 d) + v (ix2 0 d) := by
  pointwise [k0_pay1]

/-! ## The blocks of a point -/

section Blocks

variable (a : Vec Ideal S512x2816 .bf16) (u : Vec Ideal S2816x1024 .bf16) (x y : Vec Ideal S512x1024 .f32)

/-- The row's error. -/
def error (r : Fin 512) (d : Fin 1024) : EReal := x (ix2 r d) + ∑ l : Fin 2816, a (ix2 r l) * u (ix2 l d) - y (ix2 r d)

/-- The two halves of a block's rows. -/
def low : FVec Ideal S256x1024 .f32 := View.ld x (Rect.unit ![0, 0] ![256, 1024] inb_S512x1024_S256x1024_0_0)
def high : FVec Ideal S256x1024 .f32 := View.ld x (Rect.unit ![256, 0] ![256, 1024] inb_S512x1024_S256x1024_256_0)

theorem low_at (i : Fin 256) (d : Fin 1024) : low x (ix2 i d) = x (ix2 ⟨i, by omega⟩ d) := by
  exact View.ld_unit_apply_of _ _ _ _ _ _ (by intro a; fin_cases a <;> simp [ix2])
theorem high_at (i : Fin 256) (d : Fin 1024) : high x (ix2 i d) = x (ix2 ⟨256 + i, by omega⟩ d) := by
  exact View.ld_unit_apply_of _ _ _ _ _ _ (by intro a; fin_cases a <;> simp [ix2])
def lowIn : FVec Ideal S256x2816 .bf16 := View.ld a (Rect.unit ![0, 0] ![256, 2816] inb_S512x2816_S256x2816_0_0)
def highIn : FVec Ideal S256x2816 .bf16 := View.ld a (Rect.unit ![256, 0] ![256, 2816] inb_S512x2816_S256x2816_256_0)
theorem lowIn_at (i : Fin 256) (l : Fin 2816) : lowIn a (ix2 i l) = a (ix2 ⟨i, by omega⟩ l) := by
  exact View.ld_unit_apply_of _ _ _ _ _ _ (by intro a; fin_cases a <;> simp [ix2])
theorem highIn_at (i : Fin 256) (l : Fin 2816) : highIn a (ix2 i l) = a (ix2 ⟨256 + i, by omega⟩ l) := by
  exact View.ld_unit_apply_of _ _ _ _ _ _ (by intro a; fin_cases a <;> simp [ix2])

theorem low_error (i : Fin 256) (d : Fin 1024) : k0_pay2 (F := Ideal) (low x) (lowIn a) u (low y) (ix2 i d) = error a u x y ⟨i, by omega⟩ d := by
  rw [pay2_at]
  simp only [low_at, lowIn_at]
  rfl
theorem high_error (i : Fin 256) (d : Fin 1024) : k0_pay4 (F := Ideal) (high x) (highIn a) u (high y) (ix2 i d) = error a u x y ⟨256 + i, by omega⟩ d := by
  refine (pay2_at (high x) (highIn a) u (high y) i d).trans ?_
  simp only [high_at, highIn_at]
  rfl

variable {a u x y}

/-- The two halves, where an index of the block falls in them. -/
theorem low_cot_of {r : Fin 512} {d : Fin 1024} (z : S256x1024.Idx) (hr : (r : ℕ) = z 0) (hd : (d : ℕ) = z 1) :
    k0_pay3 (low x) (lowIn a) u (low y) z = Ideal.div (error a u x y r d) count := by
  obtain ⟨i, e, rfl⟩ : ∃ (i : Fin 256) (e : Fin 1024), z = ix2 i e := ⟨z 0, z 1, eq_ix2 z⟩
  obtain rfl : r = ⟨i, i.isLt.trans (by decide)⟩ := Fin.ext hr
  obtain rfl : d = e := Fin.ext hd
  exact (pay3_at ..).trans (congrArg (Ideal.div · count) (low_error a u x y i d))
theorem high_cot_of {r : Fin 512} {d : Fin 1024} (z : S256x1024.Idx) (hr : (r : ℕ) = 256 + z 0) (hd : (d : ℕ) = z 1) :
    k0_pay5 (high x) (highIn a) u (high y) z = Ideal.div (error a u x y r d) count := by
  obtain ⟨i, e, rfl⟩ : ∃ (i : Fin 256) (e : Fin 1024), z = ix2 i e := ⟨z 0, z 1, eq_ix2 z⟩
  obtain rfl : r = ⟨256 + i, Nat.add_lt_add_left i.isLt 256⟩ := Fin.ext hr
  obtain rfl : d = e := Fin.ext hd
  exact (pay3_at (high x) (highIn a) u (high y) i d).trans (congrArg (Ideal.div · count) (high_error a u x y i d))

/-- The block's part of the squared errors. -/
theorem squares_of (d : Fin 1024) :
    k0_pay6 (low x) (lowIn a) u (low y) (high x) (highIn a) u (high y) (ix2 0 d) = ∑ r, error a u x y r d * error a u x y r d := by
  rw [pay6_at]
  simp only [low_error, high_error]
  exact (Fin.sum_univ_add (a := 256) (b := 256) fun r => error a u x y r d * error a u x y r d).symm

end Blocks

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

theorem lt_eight (t : Fin cfg0.N) : t.val < 8 := lt_of_lt_of_eq t.isLt N_0

variable (m : (ℓ : Loc nD τ sig) → Buf (Elt Ideal) ℓ) (c : Dev nD)

/-- Row `r` of a point's block, among all the rows. -/
def row (t : Fin cfg0.N) (r : Fin 512) : Fin 4096 := ⟨t.val * 512 + r, by have := lt_eight t; omega⟩

/-! ## The blocks a point reads -/

theorem read_a (t : Fin cfg0.N) (r : Fin 512) (l : Fin 2816) : iblk m c 0 t (ix2 r l) = m ((c : Thread nD τ).loc main_arg0) (ix2 (row t r) l) := by
  blk_point [iblk, V, idx t]
  rfl

theorem read_u (t : Fin cfg0.N) (l : Fin 2816) (d : Fin 1024) : iblk m c 1 t (ix2 l d) = m ((c : Thread nD τ).loc main_arg1) (ix2 l d) := by
  blk_point [iblk, V, idx t]

theorem read_x (t : Fin cfg0.N) (r : Fin 512) (d : Fin 1024) : iblk m c 2 t (ix2 r d) = m ((c : Thread nD τ).loc main_arg2) (ix2 (row t r) d) := by
  blk_point [iblk, V, idx t]
  rfl

theorem read_y (t : Fin cfg0.N) (r : Fin 512) (d : Fin 1024) : iblk m c 3 t (ix2 r d) = m ((c : Thread nD τ).loc main_arg3) (ix2 (row t r) d) := by
  blk_point [iblk, V, idx t]
  rfl

/-! ## The reference's results -/

/-- The rows' errors. -/
def errors (a : FVec Ideal S4096x2816 .bf16) (u : FVec Ideal S2816x1024 .bf16) (x y : FVec Ideal S4096x1024 .f32) : FVec Ideal S4096x1024 .f32 :=
  subf (addf x (Host.dotGeneral Reference11Ideal.dot_S4096x2816_S2816x1024_S4096x1024_1_0_0_1_n_n none (extf .f32 a Reference11Ideal.Gen.bitsLt_bf16_f32) (extf .f32 u Reference11Ideal.Gen.bitsLt_bf16_f32))) y

theorem errors_at (a : FVec Ideal S4096x2816 .bf16) (u : FVec Ideal S2816x1024 .bf16) (x y : FVec Ideal S4096x1024 .f32) (r : Fin 4096) (d : Fin 1024) :
    errors a u x y (ix2 r d) = x (ix2 r d) + ∑ l : Fin 2816, a (ix2 r l) * u (ix2 l d) - y (ix2 r d) := by
  pointwise [errors]

/-- The loss's gradient in the rows, of their errors. -/
def cots (e : FVec Ideal S4096x1024 .f32) : FVec Ideal S4096x1024 .f32 :=
  mulf (broadcastInDim S4096x1024 ![0] Reference11Ideal.Gen.bcast_S4096_S4096x1024_0
      (Host.divf (broadcastInDim Reference11Ideal.S4096 ![] Reference11Ideal.Gen.bcast_S_S4096
          (mulf (constant Reference11Ideal.S_ .f32 0x3F000000#32) (constant Reference11Ideal.S_ .f32 0x3F800000#32)))
        (broadcastInDim Reference11Ideal.S4096 ![] Reference11Ideal.Gen.bcast_S_S4096 (constant Reference11Ideal.S_ .f32 0x44800000#32))))
    (mulf (broadcastInDim S4096x1024 ![] Reference11Ideal.Gen.bcast_S_S4096x1024 (constant Reference11Ideal.S_ .f32 0x40000000#32)) e)

/-- One half and two, as the programs' words say them. -/
def half : EReal := Ideal.ofBits .f32 0x3F000000#32
def two : EReal := Ideal.ofBits .f32 0x40000000#32

theorem half_eq : half = ((1 / 2 : ℝ) : EReal) := by
  simp [half, Ideal.ofBits, Ideal.ieee, ← EReal.coe_mul]
  norm_num
theorem two_eq : two = ((2 : ℝ) : EReal) := by
  simp [two, Ideal.ofBits, Ideal.ieee, ← EReal.coe_mul]
  norm_num

theorem cots_at (e : FVec Ideal S4096x1024 .f32) (r : Fin 4096) (d : Fin 1024) : cots e (ix2 r d) = Ideal.div (e (ix2 r d)) count := by
  refine (show cots e (ix2 r d) = Ideal.div half count * (two * e (ix2 r d)) by pointwise [cots]; rfl).trans ?_
  rw [half_eq, two_eq, div_count, div_count, ← EReal.coe_mul, ← mul_assoc, ← EReal.coe_mul, mul_comm]
  congr 2
  norm_num

/-- The squared errors summed over the rows. -/
def totals (e : FVec Ideal S4096x1024 .f32) : FVec Ideal S1x1024 .f32 :=
  broadcastInDim S1x1024 ![1] Reference11Ideal.Gen.bcast_S1024_S1x1024_1
    (Host.reduceAdd (mulf e e) (constant Reference11Ideal.S_ .f32 0x00000000#32) Reference11Ideal.Gen.reducesTo_S4096x1024_S1024_d0 Reference11Ideal.Gen.h_S_)

theorem totals_at (e : FVec Ideal S4096x1024 .f32) (d : Fin 1024) : totals e (ix2 0 d) = ∑ r : Fin 4096, e (ix2 r d) * e (ix2 r d) := by
  pointwise [totals]

/-- The reference's errors. -/
abbrev rows : FVec Ideal S4096x1024 .f32 :=
  errors (m ((c : Thread nD τ).loc main_arg0)) (m ((c : Thread nD τ).loc main_arg1)) (m ((c : Thread nD τ).loc main_arg2)) (m ((c : Thread nD τ).loc main_arg3))

theorem error_eq (t : Fin cfg0.N) (r : Fin 512) (d : Fin 1024) :
    error (iblk m c 0 t) (iblk m c 1 t) (iblk m c 2 t) (iblk m c 3 t) r d = rows m c (ix2 (row t r) d) :=
  (congrArg₂ (fun a b : EReal => a - b) (congrArg₂ (fun a b : EReal => a + b) (read_x m c t r d)
    (Fin.sum_fin_congr fun l => congrArg₂ (fun a b : EReal => a * b) (read_a m c t r l) (read_u m c t l d))) (read_y m c t r d)).trans (errors_at _ _ _ _ _ _).symm

/-- What a row adds to the sum of the squares. -/
def part (t : Fin cfg0.N) (r : Fin 512) (d : Fin 1024) : EReal :=
  error (iblk m c 0 t) (iblk m c 1 t) (iblk m c 2 t) (iblk m c 3 t) r d * error (iblk m c 0 t) (iblk m c 1 t) (iblk m c 2 t) (iblk m c 3 t) r d

theorem total_eq (d : Fin 1024) : totals (rows m c) (ix2 0 d) = ∑ t : Fin cfg0.N, ∑ r, part m c t r d := by
  refine (totals_at _ _).trans ?_
  refine Eq.trans ?_ (Fin.sum_fin_congr fun t => Fin.sum_fin_congr fun r => (congrArg (fun e : EReal => e * e) (error_eq m c t r d)).symm)
  exact (Fin.sum_mul_add_congr fun k r hl => rfl).symm

/-! ## The arrays after the run -/

theorem emb_rows (t : Fin cfg0.N) (r : Fin 512) (d : Fin 1024) (X : S4096x1024.Idx → EReal) : X ((win0_4.blk t).view.emb (ix2 r d)) = X (ix2 (row t r) d) := by
  blk_ext [idx t]
  rfl

theorem final_cots : (dats m 0 c).arrAt 4 (cfgs 0).N = cots (rows m c) := by
  refine (dats m 0 c).arrAt_eq_of_covers 4 _ (by decide +kernel) fun t _ y => ?_
  blk_simp
  rw [after0_4]
  obtain ⟨r, d, rfl⟩ : ∃ (r : Fin 512) (d : Fin 1024), y = ix2 r d := ⟨y 0, y 1, eq_ix2 y⟩
  refine Eq.trans ?_ ((congrArg (Ideal.div · count) (error_eq m c t r d)).trans ((cots_at _ _ _).symm.trans (emb_rows t r d _).symm))
  by_cases h : t.val % 8 = 0
  · rw [outsAt0_A m c t h (by have := lt_eight t; omega)]
    frame_out
    canon_tiles x hx
    case piece0 => exact high_cot_of (x := iblk m c 2 t) (y := iblk m c 3 t) x hx0 hx1
    case piece1 => exact low_cot_of (x := iblk m c 2 t) (y := iblk m c 3 t) x hx0 hx1
  · rw [outsAt0_B m c t h (by omega)]
    frame_out
    canon_tiles x hx
    case piece0 => exact high_cot_of (x := iblk m c 2 t) (y := iblk m c 3 t) x hx0 hx1
    case piece1 => exact low_cot_of (x := iblk m c 2 t) (y := iblk m c 3 t) x hx0 hx1

theorem final_totals : (dats m 0 c).arrAt 5 (cfgs 0).N = totals (rows m c) := by
  refine (dats m 0 c).arrAt_eq_of_after_last 5 t0_7 (by decide +kernel) _ fun j => ?_
  blk_simp
  rw [after0_5]
  obtain ⟨d, rfl⟩ : ∃ d : Fin 1024, j = ix2 0 d := ⟨j 1, (eq_ix2 j).trans (congrArg (fun a => ix2 a (j 1)) (Subsingleton.elim _ _))⟩
  refine Eq.trans (b := totals (rows m c) (ix2 0 d)) ?_ (by blk_ext [idx t0_7])
  rw [total_eq]
  refine (Pipeline.eq_sum_fin_of_reset_step_apply_last (fun n h => (outsAt0 m c n h).2) 8 (fun _ => 0)
    (fun t j => ∑ r, part m c t r (j 1)) ?_ ?_ (le_of_eq N_0) t0_7 rfl (ix2 0 d)).trans ?_
  · intro t h i
    obtain ⟨d, rfl⟩ : ∃ d : Fin 1024, i = ix2 0 d := ⟨i 1, (eq_ix2 i).trans (congrArg (fun a => ix2 a (i 1)) (Subsingleton.elim _ _))⟩
    rw [outsAt0_A m c t h (by have := lt_eight t; omega)]
    frame_out
    exact (squares_of (a := iblk m c 0 t) (u := iblk m c 1 t) (x := iblk m c 2 t) (y := iblk m c 3 t) d).trans (zero_add _).symm
  · intro t h i
    obtain ⟨d, rfl⟩ : ∃ d : Fin 1024, i = ix2 0 d := ⟨i 1, (eq_ix2 i).trans (congrArg (fun a => ix2 a (i 1)) (Subsingleton.elim _ _))⟩
    show (outsAt0 m c t.val t.isLt).2 (ix2 0 d) = _
    rw [outsAt0_B m c t h (by omega)]
    frame_out
    exact (pay1_at _ _ d).trans (congrArg ((outsAt0 m c (t.val - 1) _).2 (ix2 0 d) + ·) (squares_of (a := iblk m c 0 t) (u := iblk m c 1 t) (x := iblk m c 2 t) (y := iblk m c 3 t) d))
  · exact zero_add _

theorem frame_reference : Cert.quiescent_Reference11Ideal (hReference11Ideal := Cert.Reference11Ideal.Gen.facts) := by
  intro m g _
  hlo_run
  · exact fun _ => ⟨trivial, trivial, trivial, trivial⟩
  · exact Idealize.ShloMosaic.sem_eq_zero_of_no_sems (by decide) _

theorem algebraic : Cert.algebraic_Kernel11Ideal_Reference11Ideal (hKernel11Ideal := Cert.Kernel11Ideal.Gen.facts) (hReference11Ideal := Cert.Reference11Ideal.Gen.facts) := by
  pair_intro
  · run_from (Cert.Kernel11Ideal.Gen.run_main m g)
  · hlo_run
    · exact (final_cots m c).symm
    · exact (final_totals m c).symm

end Cert.Kernel11Ideal.Value

end
-- ==== Proof.UpProj.lean ====
/- The first product of the feed-forward part, its convolution and its gate, one pipelined call: the body's triple, with the rows the call carries from one band to the next named, the pipeline's proof data, and the run. -/
module

public import proofs.«01_k».proof.Defs
public import proofs.«01_k».proof.Proof.Gen.Kernel12Ideal.Frame
public import proofs.«01_k».proof.Proof.Gen.Kernel12Ideal.Skeleton
public import Idealize.ShloMosaic.Lib.WritesUnit

@[expose] public section

set_option maxRecDepth 16384
set_option maxHeartbeats 2000000

noncomputable section

namespace Cert.Kernel12Ideal.Body

open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Cert.Kernel12Ideal.Gen

variable {F : FTy → Type} [FloatOps F]

local notation "𝕄" => MT nD τ sig Unit (Elt F) ℕ (UR sig nD τ) ℕ

/-! ## The parts of the windows the body works on -/

/-- The lower half of a band's rows, -/
abbrev lower : Rect S512x1024 := Rect.unit (s := S512x1024) ![0, 0] S256x1024.size inb_S512x1024_S256x1024_0_0
/-- and the upper half. -/
abbrev upper : Rect S512x1024 := Rect.unit (s := S512x1024) ![256, 0] S256x1024.size inb_S512x1024_S256x1024_256_0
abbrev wholeA : Rect S1x1024x1408 := Rect.unit (s := S1x1024x1408) ![0, 0, 0] S1x1024x1408.size inb_S1x1024x1408_S1x1024x1408_0_0_0
abbrev wholeW : Rect S8x1408 := Rect.unit (s := S8x1408) ![0, 0] S8x1408.size inb_S8x1408_S8x1408_0_0
abbrev wholeB : Rect S1x1408 := Rect.unit (s := S1x1408) ![0, 0] S1x1408.size inb_S1x1408_S1x1408_0_0
/-- The rows carried of the gate's columns, -/
abbrev gateRows (i : grid0.Coords) : Rect S2x2x8x1408 := Rect.unit (s := S2x2x8x1408) (k0_off1 i) S1x1x8x1408.size (k0_off1_inb i)
/-- and of the value's. -/
abbrev valRows (i : grid0.Coords) : Rect S2x2x8x1408 := Rect.unit (s := S2x2x8x1408) (k0_off2 i) S1x1x8x1408.size (k0_off2_inb i)

/-- The last rows of the gate's product with a band, as the band leaves them for the next, -/
def gateTail (x0 : Vec F S512x1024 .bf16) (x1 : Vec F S1x1024x1408 .bf16) : Vec F S1x1x8x1408 .f32 :=
  k0_pay23 (k0_pay14 (View.ld x0 upper) (View.ld x1 wholeA))
/-- and of the value's. -/
def valTail (x0 : Vec F S512x1024 .bf16) (x2 : Vec F S1x1024x1408 .bf16) : Vec F S1x1x8x1408 .f32 :=
  k0_pay1 (k0_pay22 (k0_pay15 (View.ld x0 upper) (View.ld x2 wholeA)))

/-! ## What the body leaves in the outputs -/

/-- The product's window: gate and value, both halves of the band. -/
def outHu (x0 : Vec F S512x1024 .bf16) (x1 : Vec F S1x1024x1408 .bf16) (x2 : Vec F S1x1024x1408 .bf16) : Vec F S2x512x1408 .f32 :=
  View.canon [⟨Rect.unit (s := S2x512x1408) ![1, 256, 0] S1x256x1408.size inb_S2x512x1408_S1x256x1408_1_256_0, k0_pay17 (View.ld x0 upper) (View.ld x2 wholeA)⟩,
    ⟨Rect.unit (s := S2x512x1408) ![0, 256, 0] S1x256x1408.size inb_S2x512x1408_S1x256x1408_0_256_0, k0_pay16 (View.ld x0 upper) (View.ld x1 wholeA)⟩,
    ⟨Rect.unit (s := S2x512x1408) ![1, 0, 0] S1x256x1408.size inb_S2x512x1408_S1x256x1408_1_0_0, k0_pay6 (View.ld x0 lower) (View.ld x2 wholeA)⟩,
    ⟨Rect.unit (s := S2x512x1408) ![0, 0, 0] S1x256x1408.size inb_S2x512x1408_S1x256x1408_0_0_0, k0_pay5 (View.ld x0 lower) (View.ld x1 wholeA)⟩]

theorem coverHu (p0 p1 p2 p3 : Vec F S1x256x1408 .f32) (y : S2x512x1408.Idx) :
    ∃ pc ∈ ([⟨Rect.unit (s := S2x512x1408) ![1, 256, 0] S1x256x1408.size inb_S2x512x1408_S1x256x1408_1_256_0, p3⟩,
      ⟨Rect.unit (s := S2x512x1408) ![0, 256, 0] S1x256x1408.size inb_S2x512x1408_S1x256x1408_0_256_0, p2⟩,
      ⟨Rect.unit (s := S2x512x1408) ![1, 0, 0] S1x256x1408.size inb_S2x512x1408_S1x256x1408_1_0_0, p1⟩,
      ⟨Rect.unit (s := S2x512x1408) ![0, 0, 0] S1x256x1408.size inb_S2x512x1408_S1x256x1408_0_0_0, p0⟩] : List (View.Piece (Elt F) S2x512x1408 .f32)), y ∈ pc.1.set :=
  View.cover_of_tiled [⟨Rect.unit (s := S2x512x1408) ![1, 256, 0] S1x256x1408.size inb_S2x512x1408_S1x256x1408_1_256_0, p3⟩,
      ⟨Rect.unit (s := S2x512x1408) ![0, 256, 0] S1x256x1408.size inb_S2x512x1408_S1x256x1408_0_256_0, p2⟩,
      ⟨Rect.unit (s := S2x512x1408) ![1, 0, 0] S1x256x1408.size inb_S2x512x1408_S1x256x1408_1_0_0, p1⟩,
      ⟨Rect.unit (s := S2x512x1408) ![0, 0, 0] S1x256x1408.size inb_S2x512x1408_S1x256x1408_0_0_0, p0⟩] S1x256x1408.size (by rfl) y

/-- The gated product over the lower half of the band, given the carried rows, -/
def gatedLow (i : grid0.Coords) (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) (p : Vec F S1x1x8x1408 .f32) (q : Vec F S1x1x8x1408 .f32) : FVec F S256x1408 .f32 :=
  k0_pay10 (k0_pay2 i q) (k0_pay4 (View.ld x0 lower) (View.ld x2 wholeA)) (k0_pay7 i p (View.ld x0 lower) (View.ld x1 wholeA)) (k0_pay8 i p (View.ld x0 lower) (View.ld x1 wholeA)) (k0_pay9 i p (View.ld x0 lower) (View.ld x1 wholeA)) (View.ld x3 wholeW) (View.ld x5 wholeB) (View.ld x4 wholeW) (View.ld x6 wholeB)

/-- and over the upper half. -/
def gatedHigh (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) : FVec F S256x1408 .f32 :=
  k0_pay19 (k0_pay13 (k0_pay4 (View.ld x0 lower) (View.ld x2 wholeA))) (k0_pay15 (View.ld x0 upper) (View.ld x2 wholeA)) (k0_pay18 (k0_pay3 (View.ld x0 lower) (View.ld x1 wholeA)) (View.ld x0 upper) (View.ld x1 wholeA) (View.ld x3 wholeW)) (View.ld x5 wholeB) (View.ld x4 wholeW) (View.ld x6 wholeB)

/-- The gated product's window, -/
def outAct (i : grid0.Coords) (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) (p : Vec F S1x1x8x1408 .f32) (q : Vec F S1x1x8x1408 .f32) : Vec F S512x1408 .bf16 :=
  View.canon [⟨Rect.unit (s := S512x1408) ![256, 0] S256x1408.size inb_S512x1408_S256x1408_256_0, truncf .bf16 (gatedHigh x0 x1 x2 x3 x4 x5 x6) bitsLt_bf16_f32⟩,
    ⟨Rect.unit (s := S512x1408) ![0, 0] S256x1408.size inb_S512x1408_S256x1408_0_0, truncf .bf16 (gatedLow i x0 x1 x2 x3 x4 x5 x6 p q) bitsLt_bf16_f32⟩]

theorem coverAct (p0 p1 : Vec F S256x1408 .bf16) (y : S512x1408.Idx) :
    ∃ pc ∈ ([⟨Rect.unit (s := S512x1408) ![256, 0] S256x1408.size inb_S512x1408_S256x1408_256_0, p1⟩,
      ⟨Rect.unit (s := S512x1408) ![0, 0] S256x1408.size inb_S512x1408_S256x1408_0_0, p0⟩] : List (View.Piece (Elt F) S512x1408 .bf16)), y ∈ pc.1.set :=
  View.cover_of_tiled [⟨Rect.unit (s := S512x1408) ![256, 0] S256x1408.size inb_S512x1408_S256x1408_256_0, p1⟩,
      ⟨Rect.unit (s := S512x1408) ![0, 0] S256x1408.size inb_S512x1408_S256x1408_0_0, p0⟩] S256x1408.size (by rfl) y

/-- and its transpose's. -/
def outActT (i : grid0.Coords) (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) (p : Vec F S1x1x8x1408 .f32) (q : Vec F S1x1x8x1408 .f32) : Vec F S1408x512 .bf16 :=
  View.canon [⟨Rect.unit (s := S1408x512) ![0, 256] S1408x256.size inb_S1408x512_S1408x256_0_256, k0_pay12 (gatedHigh x0 x1 x2 x3 x4 x5 x6)⟩,
    ⟨Rect.unit (s := S1408x512) ![0, 0] S1408x256.size inb_S1408x512_S1408x256_0_0, k0_pay12 (gatedLow i x0 x1 x2 x3 x4 x5 x6 p q)⟩]

theorem coverActT (p0 p1 : Vec F S1408x256 .bf16) (y : S1408x512.Idx) :
    ∃ pc ∈ ([⟨Rect.unit (s := S1408x512) ![0, 256] S1408x256.size inb_S1408x512_S1408x256_0_256, p1⟩,
      ⟨Rect.unit (s := S1408x512) ![0, 0] S1408x256.size inb_S1408x512_S1408x256_0_0, p0⟩] : List (View.Piece (Elt F) S1408x512 .bf16)), y ∈ pc.1.set :=
  View.cover_of_tiled [⟨Rect.unit (s := S1408x512) ![0, 256] S1408x256.size inb_S1408x512_S1408x256_0_256, p1⟩,
      ⟨Rect.unit (s := S1408x512) ![0, 0] S1408x256.size inb_S1408x512_S1408x256_0_0, p0⟩] S1408x256.size (by rfl) y

/-! ## The carried rows -/

/-- What the body does to the carried rows `s`, leaving `s'`: its own column half at `a` and `b`, the other half as it was. -/
def Carries (i : grid0.Coords) (s s' : Vec F S2x2x8x1408 .f32) (a b : Vec F S1x1x8x1408 .f32) : Prop :=
  View.ld s' (gateRows i) = a ∧ View.ld s' (valRows i) = b
    ∧ ∀ i' : grid0.Coords, (i' 1).val ≠ (i 1).val → View.ld s' (gateRows i') = View.ld s (gateRows i') ∧ View.ld s' (valRows i') = View.ld s (valRows i')

/-- Two stores, of `a` in the gate's rows and then of `b` in the value's, do it. -/
theorem carries_writes (i : grid0.Coords) (arg12 : Memref sig .tc .vmem S2x2x8x1408 .f32) (f : arg12.view.ty.Contents (Elt F)) (a b : Vec F S1x1x8x1408 .f32) :
    Carries i (arg12.view.read (Elt F) f) (arg12.view.read (Elt F) (arg12.view.writes (Elt F) f [⟨valRows i, b⟩, ⟨gateRows i, a⟩])) a b := by
  have e1 : ∀ (i' : grid0.Coords) (x : S1x1x8x1408.Idx) (k : Fin 4), ((gateRows i').emb x k).val = (![0, (i' 1).val, 0, 0] : Fin 4 → ℕ) k + 1 * (x k).val := fun i' x k => by
    rw [← k0_off1_eq]; rfl
  have e2 : ∀ (i' : grid0.Coords) (x : S1x1x8x1408.Idx) (k : Fin 4), ((valRows i').emb x k).val = (![1, (i' 1).val, 0, 0] : Fin 4 → ℕ) k + 1 * (x k).val := fun i' x k => by
    rw [← k0_off2_eq]; rfl
  have x0 : ∀ x : S1x1x8x1408.Idx, (x 0).val = 0 := fun x => by
    have h : (x 0).val < 1 := (x 0).isLt
    omega
  have x1 : ∀ x : S1x1x8x1408.Idx, (x 1).val = 0 := fun x => by
    have h : (x 1).val < 1 := (x 1).isLt
    omega
  refine ⟨funext fun x => ?_, funext fun x => ?_, fun i' hi => ⟨funext fun x => ?_, funext fun x => ?_⟩⟩
  · show arg12.view.read (Elt F) _ ((gateRows i).emb x) = _
    rw [View.read_writes_cons_unit_of_not_mem arg12.view f (k0_off2_inb i) b _ _ (k0_off2_eq i) 0
      (Or.inl (by rw [e1 i x 0, x0 x]; exact Nat.zero_lt_one))]
    exact View.read_writes_cons_emb arg12.view f (gateRows i) a [] x
  · show arg12.view.read (Elt F) _ ((valRows i).emb x) = _
    exact View.read_writes_cons_emb arg12.view f (valRows i) b _ x
  · have h := e1 i' x 1
    rw [x1 x] at h
    show arg12.view.read (Elt F) _ ((gateRows i').emb x) = arg12.view.read (Elt F) f ((gateRows i').emb x)
    rw [View.read_writes_cons_unit_of_not_mem arg12.view f (k0_off2_inb i) b _ _ (k0_off2_eq i) 1
      (by rw [h]; show (i' 1).val + 1 * 0 < (i 1).val ∨ (i 1).val + 1 ≤ (i' 1).val + 1 * 0; omega),
      View.read_writes_cons_unit_of_not_mem arg12.view f (k0_off1_inb i) a _ _ (k0_off1_eq i) 1
      (by rw [h]; show (i' 1).val + 1 * 0 < (i 1).val ∨ (i 1).val + 1 ≤ (i' 1).val + 1 * 0; omega)]
    rfl
  · have h := e2 i' x 1
    rw [x1 x] at h
    show arg12.view.read (Elt F) _ ((valRows i').emb x) = arg12.view.read (Elt F) f ((valRows i').emb x)
    rw [View.read_writes_cons_unit_of_not_mem arg12.view f (k0_off2_inb i) b _ _ (k0_off2_eq i) 1
      (by rw [h]; show (i' 1).val + 1 * 0 < (i 1).val ∨ (i 1).val + 1 ≤ (i' 1).val + 1 * 0; omega),
      View.read_writes_cons_unit_of_not_mem arg12.view f (k0_off1_inb i) a _ _ (k0_off1_eq i) 1
      (by rw [h]; show (i' 1).val + 1 * 0 < (i 1).val ∨ (i 1).val + 1 ≤ (i' 1).val + 1 * 0; omega)]
    rfl

/-! ## The body's triple -/

theorem sound_kernel (c : Dev nD) (E : Set ℕ) (i : grid0.Coords) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S8x1408 .f32) (harg5 : arg5.IsWhole) (arg6 : Memref sig .tc .vmem S8x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .f32) (harg9 : arg9.IsWhole) (arg10 : Memref sig .tc .vmem S512x1408 .bf16) (harg10 : arg10.IsWhole) (arg11 : Memref sig .tc .vmem S1408x512 .bf16) (harg11 : arg11.IsWhole) (arg12 : Memref sig .tc .vmem S2x2x8x1408 .f32) (harg12 : arg12.IsWhole)
    (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) (s : Vec F S2x2x8x1408 .f32) (y8 : Vec F S512x1408 .bf16) (h8 : outAct i x0 x1 x2 x3 x4 x5 x6 (View.ld s (gateRows i)) (View.ld s (valRows i)) = y8) (y9 : Vec F S1408x512 .bf16) (h9 : outActT i x0 x1 x2 x3 x4 x5 x6 (View.ld s (gateRows i)) (View.ld s (valRows i)) = y9) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outHu x0 x1 x2) ∗ owns (c : Thread nD τ) arg10 fullShare y8 ∗ owns (c : Thread nD τ) arg11 fullShare y9 ∗ (∃ s', owns (c : Thread nD τ) arg12 fullShare s' ∗ ⌜Carries i s s' (gateTail x0 x1) (valTail x0 x2)⌝)) -∗ K ⟨⟩))
      ⊢ wp frame (wpE (defs₀ (F := F)) Variants.none (c : Thread nD τ) none) E (cc0_up_ffn_fwd i arg2 harg2 arg3 harg3 arg4 harg4 arg5 harg5 arg6 harg6 arg7 harg7 arg8 harg8 arg9 harg9 arg10 harg10 arg11 harg11 arg12 harg12) K := by
  rw [cc0_up_ffn_fwd_eq_skeleton]; unfold cc0_up_ffn_fwd_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
  subst hf0 hf1 hf2 hf3 hf4 hf5 hf6 hf10 h8 h9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverHu _ _ _ _)
  isplitl [H8]
  · iexists _; isplitr
    swap; · iexact H8
    ipureintro
    exact View.read_writes_eq_canon _ _ _ (coverAct _ _)
  isplitl [H9]
  · iexists _; isplitr
    swap; · iexact H9
    ipureintro
    exact View.read_writes_eq_canon _ _ _ (coverActT _ _)
  iexists _; isplitl [H10]
  · iexists _; isplitr
    swap; · iexact H10
    ipureintro
    rfl
  ipureintro
  exact carries_writes i arg12 f10 _ _

variable (m : (ℓ : Loc nD τ sig) → Buf (Elt F) ℓ) (ρ : Dev nD → PrngReg)

/-! ## The carried rows along the grid -/

/-- Grid point `t` is band `t / 2`, column half `t % 2`. -/
theorem coords0 : ∀ t : Fin cfg0.N, (grid0.coords t 0).val = t.val / 2 := by decide +kernel
theorem coords1 : ∀ t : Fin cfg0.N, (grid0.coords t 1).val = t.val % 2 := by decide +kernel

/-- The carried rows of one column half are one place, whatever the band. -/
theorem ld_gateRows (s : Vec F S2x2x8x1408 .f32) (i i' : grid0.Coords) (h : (i 1).val = (i' 1).val) : View.ld s (gateRows i) = View.ld s (gateRows i') := by
  have e : k0_off1 i = k0_off1 i' := by rw [k0_off1_eq, k0_off1_eq, h]
  refine funext fun x => congrArg s (funext fun k => Fin.ext ?_)
  show k0_off1 i k + 1 * (x k).val = k0_off1 i' k + 1 * (x k).val
  rw [e]
theorem ld_valRows (s : Vec F S2x2x8x1408 .f32) (i i' : grid0.Coords) (h : (i 1).val = (i' 1).val) : View.ld s (valRows i) = View.ld s (valRows i') := by
  have e : k0_off2 i = k0_off2 i' := by rw [k0_off2_eq, k0_off2_eq, h]
  refine funext fun x => congrArg s (funext fun k => Fin.ext ?_)
  show k0_off2 i k + 1 * (x k).val = k0_off2 i' k + 1 * (x k).val
  rw [e]

/-- The first band reads zeros in place of the carried rows. -/
theorem gatedLow_first (i : grid0.Coords) (h : (i 0).val = 0) (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) (p p' q q' : Vec F S1x1x8x1408 .f32) :
    gatedLow i x0 x1 x2 x3 x4 x5 x6 p q = gatedLow i x0 x1 x2 x3 x4 x5 x6 p' q' := by
  have a : k0_pay2 i q = k0_pay2 i q' := by unfold k0_pay2; rw [h]; rfl
  have b : k0_pay7 i p (View.ld x0 lower) (View.ld x1 wholeA) = k0_pay7 i p' (View.ld x0 lower) (View.ld x1 wholeA) := by unfold k0_pay7; rw [h]; rfl
  unfold gatedLow k0_pay8 k0_pay9
  rw [a, b]

/-- The grid point one band before, of the same column half. -/
def above (t : Fin cfg0.N) : Fin cfg0.N := ⟨t.val - 2, Nat.lt_of_le_of_lt (Nat.sub_le _ _) t.isLt⟩

/-- The rows carried into point `t`: the last of the gate's product with the band before, -/
def gateIn (c : Dev nD) (t : Fin cfg0.N) : Vec F S1x1x8x1408 .f32 := gateTail (iblk m c 0 (above t)) (iblk m c 1 (above t))
/-- and of the value's. -/
def valIn (c : Dev nD) (t : Fin cfg0.N) : Vec F S1x1x8x1408 .f32 := valTail (iblk m c 0 (above t)) (iblk m c 2 (above t))

/-- Before point `n` the carried rows hold what the last two points left in them. -/
def Holds (c : Dev nD) (n : ℕ) (s : Vec F S2x2x8x1408 .f32) : Prop :=
  ∀ k : Fin cfg0.N, k.val < n → n ≤ k.val + 2 →
    View.ld s (gateRows (grid0.coords k)) = gateTail (iblk m c 0 k) (iblk m c 1 k) ∧ View.ld s (valRows (grid0.coords k)) = valTail (iblk m c 0 k) (iblk m c 2 k)

theorem holds_succ (c : Dev nD) (t : Fin cfg0.N) (s s' : Vec F S2x2x8x1408 .f32) (h : Holds m c t.val s)
    (hs : Carries (grid0.coords t) s s' (gateTail (iblk m c 0 t) (iblk m c 1 t)) (valTail (iblk m c 0 t) (iblk m c 2 t))) : Holds m c (t.val + 1) s' := by
  intro k hk hn
  by_cases e : k = t
  · subst e
    exact ⟨hs.1, hs.2.1⟩
  · have hne : k.val ≠ t.val := fun hv => e (Fin.ext hv)
    have hc : (grid0.coords k 1).val ≠ (grid0.coords t 1).val := by
      rw [coords1, coords1]
      omega
    have h' := h k (by omega) (by omega)
    have h'' := hs.2.2 (grid0.coords k) hc
    exact ⟨h''.1.trans h'.1, h''.2.trans h'.2⟩

/-- So the lower half of a band is gated with the rows carried into its point. -/
theorem gatedLow_in (c : Dev nD) (t : Fin cfg0.N) (s : Vec F S2x2x8x1408 .f32) (h : Holds m c t.val s) (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) :
    gatedLow (grid0.coords t) x0 x1 x2 x3 x4 x5 x6 (View.ld s (gateRows (grid0.coords t))) (View.ld s (valRows (grid0.coords t)))
      = gatedLow (grid0.coords t) x0 x1 x2 x3 x4 x5 x6 (gateIn m c t) (valIn m c t) := by
  by_cases ht : t.val < 2
  · exact gatedLow_first _ (by rw [coords0]; omega) _ _ _ _ _ _ _ _ _ _ _
  · have hv : (above t).val = t.val - 2 := rfl
    have h' := h (above t) (by omega) (by omega)
    have hc : (grid0.coords t 1).val = (grid0.coords (above t) 1).val := by
      rw [coords1, coords1, hv]
      omega
    rw [ld_gateRows s _ _ hc, ld_valRows s _ _ hc, h'.1, h'.2]
    rfl

theorem outAct_in (c : Dev nD) (t : Fin cfg0.N) (s : Vec F S2x2x8x1408 .f32) (h : Holds m c t.val s) (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) :
    outAct (grid0.coords t) x0 x1 x2 x3 x4 x5 x6 (View.ld s (gateRows (grid0.coords t))) (View.ld s (valRows (grid0.coords t)))
      = outAct (grid0.coords t) x0 x1 x2 x3 x4 x5 x6 (gateIn m c t) (valIn m c t) := by
  unfold outAct
  rw [gatedLow_in m c t s h]

theorem outActT_in (c : Dev nD) (t : Fin cfg0.N) (s : Vec F S2x2x8x1408 .f32) (h : Holds m c t.val s) (x0 : Vec F S512x1024 .bf16) (x1 : Vec F S1x1024x1408 .bf16) (x2 : Vec F S1x1024x1408 .bf16) (x3 : Vec F S8x1408 .f32) (x4 : Vec F S8x1408 .f32) (x5 : Vec F S1x1408 .f32) (x6 : Vec F S1x1408 .f32) :
    outActT (grid0.coords t) x0 x1 x2 x3 x4 x5 x6 (View.ld s (gateRows (grid0.coords t))) (View.ld s (valRows (grid0.coords t)))
      = outActT (grid0.coords t) x0 x1 x2 x3 x4 x5 x6 (gateIn m c t) (valIn m c t) := by
  unfold outActT
  rw [gatedLow_in m c t s h]

/-! ## The pipeline's proof data -/

/-- What a grid point owns beside its windows: the carried rows as the points before left them, and the generator's register. -/
def own (c : Dev nD) (n : ℕ) : sProp 𝕄 :=
  iprop((∃ s, owns (c : Thread nD τ) (Memref.whole cc0_scratch0) fullShare s ∗ ⌜Holds m c n s⌝) ∗ ∃ r, prngReg c r)

/-- The pipeline's proof data: each input's buffer at its block, each result's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outHu (iblk m c 0 t) (iblk m c 1 t) (iblk m c 2 t)
    | ⟨8, _⟩ => outAct (grid0.coords t) (iblk m c 0 t) (iblk m c 1 t) (iblk m c 2 t) (iblk m c 3 t) (iblk m c 4 t) (iblk m c 5 t) (iblk m c 6 t) (gateIn m c t) (valIn m c t)
    | ⟨9, _⟩ => outActT (grid0.coords t) (iblk m c 0 t) (iblk m c 1 t) (iblk m c 2 t) (iblk m c 3 t) (iblk m c 4 t) (iblk m c 5 t) (iblk m c 6 t) (gateIn m c t) (valIn m c t)
    | ⟨_ + 10, h⟩ => absurd h (Nat.not_lt.2 (Nat.le_add_left _ _))
  Φ t := own m c t.val
  q := Pipeline.shareOf spec0
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outHu (iblk m c 0 t) (iblk m c 1 t) (iblk m c 2 t) := by dsimp only [dats]
theorem after0_8 (c : Dev nD) (t : Fin cfg0.N) : (dats m 0 c).after 8 t = outAct (grid0.coords t) (iblk m c 0 t) (iblk m c 1 t) (iblk m c 2 t) (iblk m c 3 t) (iblk m c 4 t) (iblk m c 5 t) (iblk m c 6 t) (gateIn m c t) (valIn m c t) := by dsimp only [dats]
theorem after0_9 (c : Dev nD) (t : Fin cfg0.N) : (dats m 0 c).after 9 t = outActT (grid0.coords t) (iblk m c 0 t) (iblk m c 1 t) (iblk m c 2 t) (iblk m c 3 t) (iblk m c 4 t) (iblk m c 5 t) (iblk m c 6 t) (gateIn m c t) (valIn m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6]
  rw [show (dats m 0 c).Φ t.castSucc = own m c t.val from rfl, show (dats m 0 c).Φ t.succ = own m c (t.val + 1) from rfl,
    show (dats m 0 c).owesAt () t.succ = (dats m 0 c).owesAt () t.castSucc from rfl,
    after0_0, after0_1, after0_2, after0_3, after0_4, after0_5, after0_6, after0_7, after0_8, after0_9]
  unfold own
  iintro ⟨⟨⟨%s, HS, %hs⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) s _ (outAct_in m c t s hs (iblk m c 0 t) (iblk m c 1 t) (iblk m c 2 t) (iblk m c 3 t) (iblk m c 4 t) (iblk m c 5 t) (iblk m c 6 t)) _ (outActT_in m c t s hs (iblk m c 0 t) (iblk m c 1 t) (iblk m c 2 t) (iblk m c 3 t) (iblk m c 4 t) (iblk m c 5 t) (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, ⟨%s', HS, %hs'⟩⟩
  isplitl [HS HR]
  · isplitl [HS]
    · iexists s'
      isplitl [HS]; · iexact HS
      ipureintro
      exact holds_succ m c t s s' hs hs'
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-- What the launch hands over, the carried rows at anything, is what the first point owns, -/
theorem hin (c : Dev nD) : Pipeline.ΦA spec0 c ⊢ (dats m 0 c).Φ 0 := by
  rw [show (dats m 0 c).Φ 0 = own m c 0 from rfl]
  unfold Pipeline.ΦA own
  rw [scopedRest0_eq]
  iintro ⟨⟨%f, H⟩, HR⟩
  isplitl [H]
  · iexists f
    isplitl [H]
    · unfold owns
      iexists f
      isplitr; · ipureintro; rfl
      rw [show (Memref.whole cc0_scratch0).view.set = Finset.univ from View.set_whole cc0_scratch0]
      iexact H
    ipureintro
    intro k hk _
    exact absurd hk (Nat.not_lt_zero _)
  iexact HR

/-- and the last point gives it back. -/
theorem hout (c : Dev nD) : (dats m 0 c).Φ (Fin.last cfg0.N) ⊢ Pipeline.ΦA spec0 c := by
  rw [show (dats m 0 c).Φ (Fin.last cfg0.N) = own m c cfg0.N from rfl]
  unfold Pipeline.ΦA own owns
  rw [scopedRest0_eq]
  iintro ⟨⟨%s, ⟨%f, -, H⟩, -⟩, HR⟩
  isplitl [H]
  · iexists f
    rw [show (Memref.whole cc0_scratch0).view.set = Finset.univ from View.set_whole cc0_scratch0]
    iexact H
  iexact HR

set_option backward.isDefEq.respectTransparency.types false in
/-- The run: the program ends with every array of the pipeline at what the proof data says, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the program ends with its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Kernel12Ideal.Body

end
-- ==== Proof.UpValue.lean ====
/- The first product of the feed-forward part, its convolution and its gate: the frames of the twelfth pair of programs, and the kernel's three results against the reference's. -/
module

public import proofs.«01_k».proof.Defs
public import proofs.«01_k».proof.Proof.UpProj
public import proofs.«01_k».proof.Proof.Gen.Kernel12.Frame
public import proofs.«01_k».proof.Proof.Gen.Reference12Ideal
public import Idealize.ShloMosaic.Lib.Claim
public import Idealize.ShloMosaic.Lib.Quiescent
public import Idealize.ShloMosaic.Lib.Pipeline.ValueKit

@[expose] public section

set_option maxRecDepth 65536
set_option maxHeartbeats 8000000

noncomputable section

open Idealize.ShloMosaic Idealize.ShloMosaic.Tactic Idealize.ShloMosaic.TcCoe Idealize.SL.Sem
open Idealize.ShloMosaic.Pipeline (Dat)

namespace Cert.Kernel12Ideal.Value

open Cert.Kernel12Ideal Cert.Kernel12Ideal.Gen Cert.Kernel12Ideal.Body

/-! ## The kernel's frame, of its idealization's: the two have one text -/

/-- The two programs have one body table, -/
theorem body_table : Cert.Kernel12.defs₀ (F := Bits) = Cert.Kernel12Ideal.defs₀ (F := Bits) := by
  unfold Cert.Kernel12.defs₀ Cert.Kernel12Ideal.defs₀
  refine congrArg (Defs.onTc (nD := Cert.Kernel12Ideal.nD) (τ := Cert.Kernel12Ideal.τ) (sig := Cert.Kernel12Ideal.sig) (Val := Elt Bits) (Λ := Cert.Kernel12Ideal.Λ₀)) (funext fun l => ?_)
  match l with
  | ⟨0, _⟩ => rfl

/-- and so one table with the region's. -/
theorem table : Cert.Kernel12.defs (F := Bits) = Cert.Kernel12Ideal.defs (F := Bits) :=
  congrArg (Pipeline.defs (Cert.Kernel12Ideal.pcfgs (F := Bits))) body_table

theorem frame_kernel : Cert.quiescent_Kernel12 (hKernel12 := Cert.Kernel12.Gen.facts) := fun m g _ => by
  have h := Cert.Kernel12Ideal.Body.frame (F := Bits) m g
  generalize hD : Cert.Kernel12Ideal.defs (F := Bits) = D at h
  have e : D = Cert.Kernel12.defs (F := Bits) := hD.symm.trans table.symm
  subst e
  exact h

/-! ## The words -/

/-- The gate: the sigmoid-weighted value. -/
def gated (g v : EReal) : EReal := g * Ideal.div 1 (1 + Ideal.exp (0 - g)) * v
/-- Three rows weighted, and the bias. -/
def taps (w : Vec Ideal S8x1408 .f32) (b : Vec Ideal S1x1408 .f32) (l : Fin 1408) (z0 z1 z2 : EReal) : EReal :=
  ((w (ix2 2 l) * z0 + w (ix2 0 l) * z2) + w (ix2 1 l) * z1) + b (ix2 0 l)
/-- Eight rows and then the band's half, at row `k`. -/
def cat (p : FVec Ideal S8x1408 .f32) (x : FVec Ideal S256x1408 .f32) (l : Fin 1408) (k : ℕ) : EReal :=
  if h : k < 8 then p (ix2 ⟨k, h⟩ l) else if h' : k - 8 < 256 then x (ix2 ⟨k - 8, h'⟩ l) else 0

theorem cat_low {p : FVec Ideal S8x1408 .f32} {x : FVec Ideal S256x1408 .f32} {l : Fin 1408} {k : ℕ} (h : k < 8) : cat p x l k = p (ix2 ⟨k, h⟩ l) := dif_pos h
theorem cat_high {p : FVec Ideal S8x1408 .f32} {x : FVec Ideal S256x1408 .f32} {l : Fin 1408} {k : ℕ} (h : 8 ≤ k) (h' : k - 8 < 256) : cat p x l k = x (ix2 ⟨k - 8, h'⟩ l) :=
  (dif_neg (by omega)).trans (dif_pos h')

/-- The rows a row of the half is convolved with, one and two above it. -/
theorem cat_here (p : FVec Ideal S8x1408 .f32) (x : FVec Ideal S256x1408 .f32) (l : Fin 1408) (a : Fin 256) : x (ix2 a l) = cat p x l (8 + a) :=
  (cat_high (p := p) (x := x) (l := l) (k := 8 + a) (by omega) (by omega)).symm ▸ congrArg (fun r => x (ix2 r l)) (Fin.ext (show (a : ℕ) = 8 + a - 8 by omega))
theorem cat_above (k : ℕ) (hk : k ≤ 8) (p : FVec Ideal S8x1408 .f32) (x : FVec Ideal S256x1408 .f32) (l : Fin 1408) (a : Fin 256)
    (h2 : ∀ h : ¬ (8 + (a : ℕ) + 264 - k) % 264 < 8, (8 + (a : ℕ) + 264 - k) % 264 - 8 < 256) :
    (if h : (8 + (a : ℕ) + 264 - k) % 264 < 8 then p (ix2 ⟨(8 + (a : ℕ) + 264 - k) % 264, h⟩ l) else x (ix2 ⟨(8 + (a : ℕ) + 264 - k) % 264 - 8, h2 h⟩ l)) = cat p x l (8 + a - k) := by
  have e : (8 + (a : ℕ) + 264 - k) % 264 = 8 + a - k := by omega
  simp only [e]
  unfold cat
  split_ifs with h h'
  · rfl
  · rfl
  · exact absurd (by omega) h'

theorem pay3_at (x : Vec Ideal S256x1024 .bf16) (w : Vec Ideal S1x1024x1408 .bf16) (i : Fin 256) (l : Fin 1408) :
    k0_pay3 (F := Ideal) x w (ix2 i l) = ∑ d : Fin 1024, x (ix2 i d) * w (ix3 0 d l) := by
  pointwise [k0_pay3]

theorem pay7_at (i : grid0.Coords) (p : Vec Ideal S1x1x8x1408 .f32) (x : Vec Ideal S256x1024 .bf16) (w : Vec Ideal S1x1024x1408 .bf16) (k : Fin 264) (l : Fin 1408) :
    k0_pay7 (F := Ideal) i p x w (ix2 k l) = cat (k0_pay2 i p) (k0_pay3 x w) l k := by
  have hk := k.isLt
  have e : k0_pay7 (F := Ideal) i p x w (ix2 k l) = if h : (k : ℕ) < 8 then k0_pay2 (F := Ideal) i p (ix2 ⟨k, h⟩ l) else k0_pay3 (F := Ideal) x w (ix2 ⟨k - 8, by omega⟩ l) := by
    pointwise [k0_pay7, k0_pay2]
  rw [e]
  unfold cat
  by_cases h : (k : ℕ) < 8
  · rw [dif_pos h, dif_pos h]
  · rw [dif_neg h, dif_neg h, dif_pos (show (k : ℕ) - 8 < 256 by omega)]

theorem pay8_at (i : grid0.Coords) (p : Vec Ideal S1x1x8x1408 .f32) (x : Vec Ideal S256x1024 .bf16) (w : Vec Ideal S1x1024x1408 .bf16) (k : Fin 264) (l : Fin 1408) (hk : 1 ≤ (k : ℕ)) :
    k0_pay8 (F := Ideal) i p x w (ix2 k l) = cat (k0_pay2 i p) (k0_pay3 x w) l (k - 1) := by
  have e : k0_pay8 (F := Ideal) i p x w (ix2 k l) = k0_pay7 (F := Ideal) i p x w (ix2 ⟨(k + 264 - 1) % 264, Nat.mod_lt _ (by decide)⟩ l) := by pointwise [k0_pay8]
  rw [e, pay7_at]
  exact congrArg (cat _ _ l) (show ((k : ℕ) + 264 - 1) % 264 = k - 1 by omega)
theorem pay9_at (i : grid0.Coords) (p : Vec Ideal S1x1x8x1408 .f32) (x : Vec Ideal S256x1024 .bf16) (w : Vec Ideal S1x1024x1408 .bf16) (k : Fin 264) (l : Fin 1408) (hk : 2 ≤ (k : ℕ)) :
    k0_pay9 (F := Ideal) i p x w (ix2 k l) = cat (k0_pay2 i p) (k0_pay3 x w) l (k - 2) := by
  have e : k0_pay9 (F := Ideal) i p x w (ix2 k l) = k0_pay7 (F := Ideal) i p x w (ix2 ⟨(k + 264 - 2) % 264, Nat.mod_lt _ (by decide)⟩ l) := by pointwise [k0_pay9]
  rw [e, pay7_at]
  exact congrArg (cat _ _ l) (show ((k : ℕ) + 264 - 2) % 264 = k - 2 by omega)

theorem pay10_at (v11 : FVec Ideal S8x1408 .f32) (v18 : FVec Ideal S256x1408 .f32) (v25 v26 v27 : FVec Ideal S264x1408 .f32) (w3 : Vec Ideal S8x1408 .f32) (b5 : Vec Ideal S1x1408 .f32) (w4 : Vec Ideal S8x1408 .f32) (b6 : Vec Ideal S1x1408 .f32) (a : Fin 256) (l : Fin 1408) :
    k0_pay10 (F := Ideal) v11 v18 v25 v26 v27 w3 b5 w4 b6 (ix2 a l)
      = gated (taps w3 b5 l (v25 (ix2 ⟨8 + a, by omega⟩ l)) (v26 (ix2 ⟨8 + a, by omega⟩ l)) (v27 (ix2 ⟨8 + a, by omega⟩ l)))
        (taps w4 b6 l (cat v11 v18 l (8 + a)) (cat v11 v18 l (8 + a - 1)) (cat v11 v18 l (8 + a - 2))) := by
  rw [← cat_here v11 v18 l a, ← cat_above 1 (by decide) v11 v18 l a (by omega), ← cat_above 2 (by decide) v11 v18 l a (by omega)]
  unfold gated taps
  pointwise [k0_pay10]

theorem pay18_at (v15 : FVec Ideal S256x1408 .f32) (x : Vec Ideal S256x1024 .bf16) (w : Vec Ideal S1x1024x1408 .bf16) (c : Vec Ideal S8x1408 .f32) (b : Vec Ideal S1x1408 .f32) (a : Fin 256) (l : Fin 1408) :
    (k0_pay18 (F := Ideal) v15 x w c (ix2 a l) + b (ix2 0 l) : EReal)
      = taps c b l (cat (k0_pay13 v15) (k0_pay3 x w) l (8 + a)) (cat (k0_pay13 v15) (k0_pay3 x w) l (8 + a - 1)) (cat (k0_pay13 v15) (k0_pay3 x w) l (8 + a - 2)) := by
  rw [← cat_here (k0_pay13 v15) (k0_pay3 x w) l a, ← cat_above 1 (by decide) (k0_pay13 v15) (k0_pay3 x w) l a (by omega), ← cat_above 2 (by decide) (k0_pay13 v15) (k0_pay3 x w) l a (by omega)]
  rw [show k0_pay3 (F := Ideal) x w = k0_pay14 x w from rfl]
  unfold taps
  pointwise [k0_pay18, k0_pay13]

theorem pay19_at (v77 : FVec Ideal S8x1408 .f32) (v84 v106 : FVec Ideal S256x1408 .f32) (b5 : Vec Ideal S1x1408 .f32) (w4 : Vec Ideal S8x1408 .f32) (b6 : Vec Ideal S1x1408 .f32) (a : Fin 256) (l : Fin 1408) :
    k0_pay19 (F := Ideal) v77 v84 v106 b5 w4 b6 (ix2 a l)
      = gated (v106 (ix2 a l) + b5 (ix2 0 l) : EReal) (taps w4 b6 l (cat v77 v84 l (8 + a)) (cat v77 v84 l (8 + a - 1)) (cat v77 v84 l (8 + a - 2))) := by
  rw [← cat_here v77 v84 l a, ← cat_above 1 (by decide) v77 v84 l a (by omega), ← cat_above 2 (by decide) v77 v84 l a (by omega)]
  unfold gated taps
  pointwise [k0_pay19]
/-! ## What a point computes, row by row -/

theorem lower_at (x : Vec Ideal S512x1024 .bf16) (i : Fin 256) (d : Fin 1024) : View.ld x lower (ix2 i d) = x (ix2 ⟨i, by omega⟩ d) := by
  exact View.ld_unit_apply_of _ _ _ _ _ _ (by intro a; fin_cases a <;> simp [ix2])
theorem upper_at (x : Vec Ideal S512x1024 .bf16) (i : Fin 256) (d : Fin 1024) : View.ld x upper (ix2 i d) = x (ix2 ⟨256 + i, by omega⟩ d) := by
  exact View.ld_unit_apply_of _ _ _ _ _ _ (by intro a; fin_cases a <;> simp [ix2])
theorem ldA (x : Vec Ideal S1x1024x1408 .bf16) : View.ld x wholeA = x := View.ld_unit_zero (by funext a; fin_cases a <;> rfl) _ _
theorem ldW (x : Vec Ideal S8x1408 .f32) : View.ld x wholeW = x := View.ld_unit_zero (by funext a; fin_cases a <;> rfl) _ _
theorem ldB (x : Vec Ideal S1x1408 .f32) : View.ld x wholeB = x := View.ld_unit_zero (by funext a; fin_cases a <;> rfl) _ _

theorem select_zero (n : ℕ) (hn : n < 8) (a b : EReal) : Scalar.select (Scalar.cmpi .eq (BitVec.ofNat 32 n) 0#32) a b = if n = 0 then a else b := by
  interval_cases n <;> rfl

theorem pay2_at (i : grid0.Coords) (hi : (i 0).val < 8) (q : Vec Ideal S1x1x8x1408 .f32) (k : Fin 8) (l : Fin 1408) :
    k0_pay2 (F := Ideal) i q (ix2 k l) = if (i 0).val = 0 then 0 else q (ix4 0 0 k l) := by
  rw [← select_zero _ hi]
  pointwise [k0_pay2]
theorem pay5_at (x : Vec Ideal S256x1024 .bf16) (w : Vec Ideal S1x1024x1408 .bf16) (a : Fin 256) (l : Fin 1408) : k0_pay5 (F := Ideal) x w (ix3 0 a l) = k0_pay3 x w (ix2 a l) := by
  pointwise [k0_pay5]
theorem pay12_at (x : FVec Ideal S256x1408 .f32) (a : Fin 256) (l : Fin 1408) : k0_pay12 (F := Ideal) x (ix2 l a) = x (ix2 a l) := by
  pointwise [k0_pay12]
theorem pay13_at (x : FVec Ideal S256x1408 .f32) (k : Fin 8) (l : Fin 1408) : k0_pay13 (F := Ideal) x (ix2 k l) = x (ix2 ⟨248 + k, by omega⟩ l) := by
  pointwise [k0_pay13]
theorem pay23_at (x : FVec Ideal S256x1408 .f32) (k : Fin 8) (l : Fin 1408) : k0_pay23 (F := Ideal) x (ix4 0 0 k l) = x (ix2 ⟨248 + k, by omega⟩ l) := by
  pointwise [k0_pay23]
theorem pay22_at (x : FVec Ideal S256x1408 .f32) (k : Fin 8) (l : Fin 1408) : k0_pay1 (F := Ideal) (k0_pay22 x) (ix4 0 0 k l) = x (ix2 ⟨248 + k, by omega⟩ l) := by
  pointwise [k0_pay1, k0_pay22]

/-- A column with zeros above it, its first row the ninth. -/
def under (X : Fin 4096 → EReal) (n : ℕ) : EReal := if h : 8 ≤ n ∧ n - 8 < 4096 then X ⟨n - 8, h.2⟩ else 0

theorem under_of {X : Fin 4096 → EReal} {n : ℕ} (r : Fin 4096) (h : n = 8 + r) : under X n = X r := by
  subst h
  exact (dif_pos ⟨Nat.le_add_right _ _, by have := r.isLt; omega⟩).trans (congrArg X (Fin.ext (Nat.add_sub_cancel_left _ _)))
theorem under_zero {X : Fin 4096 → EReal} {n : ℕ} (h : n < 8) : under X n = 0 := dif_neg fun h' => absurd h'.1 (Nat.not_le.mpr h)

/-- Half a band's rows from row `s` on, and the eight above them, are a column's rows with zeros above it. -/
theorem cat_under {p : FVec Ideal S8x1408 .f32} {x : FVec Ideal S256x1408 .f32} {l : Fin 1408} {X : Fin 4096 → EReal} (s : ℕ) (hs : s + 256 ≤ 4096)
    (hp : ∀ k : Fin 8, p (ix2 k l) = under X (s + k)) (hx : ∀ a : Fin 256, x (ix2 a l) = X ⟨s + a, by omega⟩) (n : ℕ) (hn : n < 264) : cat p x l n = under X (s + n) := by
  by_cases h : n < 8
  · exact (cat_low h).trans (hp ⟨n, h⟩)
  · refine (cat_high (Nat.le_of_not_lt h) (by omega)).trans ((hx ⟨n - 8, by omega⟩).trans (under_of _ ?_).symm)
    dsimp only
    omega

section Blocks

variable (i : grid0.Coords) (x0 : Vec Ideal S512x1024 .bf16) (x1 x2 : Vec Ideal S1x1024x1408 .bf16) (x3 x4 : Vec Ideal S8x1408 .f32) (x5 x6 : Vec Ideal S1x1408 .f32) (p q : Vec Ideal S1x1x8x1408 .f32)

/-- The rows of the product, in a half of the band. -/
abbrev lowRows (w : Vec Ideal S1x1024x1408 .bf16) : FVec Ideal S256x1408 .f32 := k0_pay3 (F := Ideal) (View.ld x0 lower) (View.ld w wholeA)
abbrev highRows (w : Vec Ideal S1x1024x1408 .bf16) : FVec Ideal S256x1408 .f32 := k0_pay3 (F := Ideal) (View.ld x0 upper) (View.ld w wholeA)

theorem gatedLow_at (a : Fin 256) (l : Fin 1408) : gatedLow i x0 x1 x2 x3 x4 x5 x6 p q (ix2 a l)
    = gated (taps x3 x5 l (cat (k0_pay2 i p) (lowRows x0 x1) l (8 + a)) (cat (k0_pay2 i p) (lowRows x0 x1) l (8 + a - 1)) (cat (k0_pay2 i p) (lowRows x0 x1) l (8 + a - 2)))
      (taps x4 x6 l (cat (k0_pay2 i q) (lowRows x0 x2) l (8 + a)) (cat (k0_pay2 i q) (lowRows x0 x2) l (8 + a - 1)) (cat (k0_pay2 i q) (lowRows x0 x2) l (8 + a - 2))) := by
  unfold gatedLow
  rw [pay10_at, pay7_at, pay8_at _ _ _ _ _ _ (by dsimp only; omega), pay9_at _ _ _ _ _ _ (by dsimp only; omega), ldW x3, ldW x4, ldB x5, ldB x6]
  rfl

theorem gatedHigh_at (a : Fin 256) (l : Fin 1408) : gatedHigh x0 x1 x2 x3 x4 x5 x6 (ix2 a l)
    = gated (taps x3 x5 l (cat (k0_pay13 (lowRows x0 x1)) (highRows x0 x1) l (8 + a)) (cat (k0_pay13 (lowRows x0 x1)) (highRows x0 x1) l (8 + a - 1)) (cat (k0_pay13 (lowRows x0 x1)) (highRows x0 x1) l (8 + a - 2)))
      (taps x4 x6 l (cat (k0_pay13 (lowRows x0 x2)) (highRows x0 x2) l (8 + a)) (cat (k0_pay13 (lowRows x0 x2)) (highRows x0 x2) l (8 + a - 1)) (cat (k0_pay13 (lowRows x0 x2)) (highRows x0 x2) l (8 + a - 2))) := by
  unfold gatedHigh
  rw [pay19_at, pay18_at, ldW x3, ldW x4, ldB x5, ldB x6]
  rfl

end Blocks

theorem idx : ∀ t : Fin cfg0.N, win0_0.index t = ![t.val / 2, 0] ∧ win0_1.index t = ![t.val % 2, 0, 0] ∧ win0_2.index t = ![t.val % 2 + 2, 0, 0]
    ∧ win0_3.index t = ![0, t.val % 2] ∧ win0_4.index t = ![0, t.val % 2 + 2] ∧ win0_5.index t = ![0, t.val % 2] ∧ win0_6.index t = ![0, t.val % 2 + 2]
    ∧ win0_7.index t = ![0, t.val / 2, t.val % 2] ∧ win0_8.index t = ![t.val / 2, t.val % 2] ∧ win0_9.index t = ![t.val % 2, t.val / 2] :=
  (by decide +kernel : ∀ t : Fin grid0.N, _)

theorem lt_sixteen (t : Fin cfg0.N) : t.val < 16 := lt_of_lt_of_eq t.isLt N_0

variable (m : (ℓ : Loc nD τ sig) → Buf (Elt Ideal) ℓ) (c : Dev nD)

/-- Row `r` of a point's band, among all the rows, -/
def row (t : Fin cfg0.N) (r : Fin 512) : Fin 4096 := ⟨t.val / 2 * 512 + r, by have := lt_sixteen t; omega⟩
/-- column `l` of its half, among a half's columns, -/
def col (t : Fin cfg0.N) (l : Fin 1408) : Fin 2816 := ⟨t.val % 2 * 1408 + l, by omega⟩
/-- among the gate's, and among the value's. -/
def gcol (t : Fin cfg0.N) (l : Fin 1408) : Fin 5632 := ⟨t.val % 2 * 1408 + l, by omega⟩
def vcol (t : Fin cfg0.N) (l : Fin 1408) : Fin 5632 := ⟨(t.val % 2 + 2) * 1408 + l, by omega⟩

/-! ## The blocks a point reads -/

theorem read_h (t : Fin cfg0.N) (r : Fin 512) (d : Fin 1024) : iblk m c 0 t (ix2 r d) = m ((c : Thread nD τ).loc main_arg0) (ix2 (row t r) d) := by
  blk_point [iblk, V, idx t]
  rfl
theorem read_g (t : Fin cfg0.N) (d : Fin 1024) (l : Fin 1408) : iblk m c 1 t (ix3 0 d l) = m ((c : Thread nD τ).loc main_arg1) (ix3 ⟨t.val % 2, by omega⟩ d l) := by
  blk_point [iblk, V, idx t]
theorem read_v (t : Fin cfg0.N) (d : Fin 1024) (l : Fin 1408) : iblk m c 2 t (ix3 0 d l) = m ((c : Thread nD τ).loc main_arg1) (ix3 ⟨t.val % 2 + 2, by omega⟩ d l) := by
  blk_point [iblk, V, idx t]
theorem read_wg (t : Fin cfg0.N) (k : Fin 8) (l : Fin 1408) : iblk m c 3 t (ix2 k l) = m ((c : Thread nD τ).loc main_arg2) (ix2 k (gcol t l)) := by
  blk_point [iblk, V, idx t]
  rfl
theorem read_wv (t : Fin cfg0.N) (k : Fin 8) (l : Fin 1408) : iblk m c 4 t (ix2 k l) = m ((c : Thread nD τ).loc main_arg2) (ix2 k (vcol t l)) := by
  blk_point [iblk, V, idx t]
  rfl
theorem read_bg (t : Fin cfg0.N) (l : Fin 1408) : iblk m c 5 t (ix2 0 l) = m ((c : Thread nD τ).loc main_arg3) (ix2 0 (gcol t l)) := by
  blk_point [iblk, V, idx t]
  rfl
theorem read_bv (t : Fin cfg0.N) (l : Fin 1408) : iblk m c 6 t (ix2 0 l) = m ((c : Thread nD τ).loc main_arg3) (ix2 0 (vcol t l)) := by
  blk_point [iblk, V, idx t]
  rfl

/-! ## The reference's results -/

/-- The product, all its rows and columns. -/
def product (h : FVec Ideal S4096x1024 .bf16) (a : FVec Ideal S4x1024x1408 .bf16) : FVec Ideal Reference12Ideal.S4096x5632 .f32 :=
  Host.dotGeneral Reference12Ideal.dot_S4096x1024_S1024x5632_S4096x5632_1_0_0_1_n_n none (extf .f32 h Reference12Ideal.Gen.bitsLt_bf16_f32)
    (shapeCast Reference12Ideal.S1024x5632 (transpose Reference12Ideal.S1024x4x1408 [1, 0, 2] (extf .f32 a Reference12Ideal.Gen.bitsLt_bf16_f32) Reference12Ideal.Gen.transposes_S4x1024x1408_S1024x4x1408_1_0_2) Reference12Ideal.Gen.shapeCasts_S1024x4x1408_S1024x5632)

theorem product_at (h : FVec Ideal S4096x1024 .bf16) (a : FVec Ideal S4x1024x1408 .bf16) (r : Fin 4096) (l : Fin 5632) :
    product h a (ix2 r l) = ∑ d : Fin 1024, h (ix2 r d) * a (ix3 ⟨l / 1408, by omega⟩ d ⟨l % 1408, by omega⟩) := by
  pointwise [product]

/-- The product with two rows of zeros above it. -/
def padded (u : FVec Ideal Reference12Ideal.S4096x5632 .f32) : FVec Ideal Reference12Ideal.S4098x5632 .f32 :=
  pad Reference12Ideal.S4098x5632 ![2, 0] ![0, 0] ![0, 0] u (sitofp (F := Ideal) .f32 (constantI Reference12Ideal.S_ 32 0#32)) Reference12Ideal.Gen.pads_S4096x5632_S4098x5632_200_000 Reference12Ideal.Gen.h_S_

theorem padded_at (u : FVec Ideal Reference12Ideal.S4096x5632 .f32) (r : Fin 4098) (l : Fin 5632) :
    padded u (ix2 r l) = if h : 2 ≤ (r : ℕ) then u (ix2 ⟨r - 2, by omega⟩ l) else 0 := by
  have hr := r.isLt
  have e : padded u (ix2 r l) = if h : 2 ≤ (r : ℕ) ∧ (r : ℕ) - 2 < 4096 then u (ix2 ⟨r - 2, h.2⟩ l) else FloatOps.sitofp (F := Ideal) .f32 (0#32) := by
    pointwise [padded]
  have z : (FloatOps.sitofp (F := Ideal) .f32 (0#32) : EReal) = 0 := by
    simp [FloatOps.sitofp]
  rw [e]
  by_cases h : 2 ≤ (r : ℕ)
  · rw [dif_pos ⟨h, by omega⟩, dif_pos h]
  · rw [dif_neg (fun h' => h h'.1), dif_neg h, z]

/-- One row's weight, along all the rows. -/
def weight (k : ℕ) (hk : Reference12Ideal.S3x5632.Slices ![k, 0] Reference12Ideal.S1x5632) (w : FVec Ideal S8x5632 .f32) : FVec Ideal Reference12Ideal.S4096x5632 .f32 :=
  broadcastInDim Reference12Ideal.S4096x5632 ![0, 1] Reference12Ideal.Gen.bcast_S1x5632_S4096x5632_0_1 (broadcastInDim Reference12Ideal.S1x5632 ![1] Reference12Ideal.Gen.bcast_S5632_S1x5632_1
    (shapeCast Reference12Ideal.S5632 (extractStridedSlice Reference12Ideal.S1x5632 ![k, 0] (extractStridedSlice Reference12Ideal.S3x5632 ![0, 0] w Reference12Ideal.Gen.slices_S8x5632_S3x5632_0_0) hk) Reference12Ideal.Gen.shapeCasts_S1x5632_S5632))

/-- The convolution along the rows. -/
def conv (w : FVec Ideal S8x5632 .f32) (b : FVec Ideal S1x5632 .f32) (u : FVec Ideal Reference12Ideal.S4096x5632 .f32) : FVec Ideal Reference12Ideal.S4096x5632 .f32 :=
  addf (addf (addf (mulf (weight 0 Reference12Ideal.Gen.slices_S3x5632_S1x5632_0_0 w) (extractStridedSlice Reference12Ideal.S4096x5632 ![0, 0] (padded u) Reference12Ideal.Gen.slices_S4098x5632_S4096x5632_0_0))
    (mulf (weight 1 Reference12Ideal.Gen.slices_S3x5632_S1x5632_1_0 w) (extractStridedSlice Reference12Ideal.S4096x5632 ![1, 0] (padded u) Reference12Ideal.Gen.slices_S4098x5632_S4096x5632_1_0)))
    (mulf (weight 2 Reference12Ideal.Gen.slices_S3x5632_S1x5632_2_0 w) (extractStridedSlice Reference12Ideal.S4096x5632 ![2, 0] (padded u) Reference12Ideal.Gen.slices_S4098x5632_S4096x5632_2_0)))
    (broadcastInDim Reference12Ideal.S4096x5632 ![0, 1] Reference12Ideal.Gen.bcast_S1x5632_S4096x5632_0_1 b)

theorem conv_at (w : FVec Ideal S8x5632 .f32) (b : FVec Ideal S1x5632 .f32) (u : FVec Ideal Reference12Ideal.S4096x5632 .f32) (r : Fin 4096) (l : Fin 5632) :
    conv w b u (ix2 r l) = ((w (ix2 0 l) * padded u (ix2 ⟨r, by omega⟩ l) + w (ix2 1 l) * padded u (ix2 ⟨1 + r, by omega⟩ l)) + w (ix2 2 l) * padded u (ix2 ⟨2 + r, by omega⟩ l)) + b (ix2 0 l) := by
  pointwise [conv, weight]

/-- The gated product, rounded. -/
def activation (z : FVec Ideal Reference12Ideal.S4096x5632 .f32) : FVec Ideal Reference12Ideal.S4096x2816 .bf16 :=
  let g : FVec Ideal Reference12Ideal.S4096x2816 .f32 := extractStridedSlice Reference12Ideal.S4096x2816 ![0, 0] z Reference12Ideal.Gen.slices_S4096x5632_S4096x2816_0_0
  let one : FVec Ideal Reference12Ideal.S4096x2816 .f32 := broadcastInDim Reference12Ideal.S4096x2816 ![] Reference12Ideal.Gen.bcast_S_S4096x2816 (constant (F := Ideal) Reference12Ideal.S_ .f32 0x3F800000#32)
  truncf .bf16 (mulf (mulf g (Host.divf one (addf one (Host.exp (Host.negf g))))) (extractStridedSlice Reference12Ideal.S4096x2816 ![0, 2816] z Reference12Ideal.Gen.slices_S4096x5632_S4096x2816_0_2816)) Reference12Ideal.Gen.bitsLt_bf16_f32

theorem activation_at (z : FVec Ideal Reference12Ideal.S4096x5632 .f32) (r : Fin 4096) (l : Fin 2816) :
    activation z (ix2 r l) = gated (z (ix2 r ⟨l, by omega⟩)) (z (ix2 r ⟨2816 + l, by omega⟩)) := by
  unfold gated
  rw [sub_eq_add_neg, zero_add]
  pointwise [activation]

/-- Rows as columns. -/
def columns (x : FVec Ideal Reference12Ideal.S4096x2816 .bf16) : FVec Ideal Reference12Ideal.S2816x4096 .bf16 :=
  transpose Reference12Ideal.S2816x4096 [1, 0] x Reference12Ideal.Gen.transposes_S4096x2816_S2816x4096_1_0

theorem columns_at (x : FVec Ideal Reference12Ideal.S4096x2816 .bf16) (r : Fin 4096) (l : Fin 2816) : columns x (ix2 l r) = x (ix2 r l) := by
  pointwise [columns]

/-- The gate's columns and the value's, apart. -/
def halves (u : FVec Ideal Reference12Ideal.S4096x5632 .f32) : FVec Ideal Reference12Ideal.S2x4096x2816 .f32 :=
  transpose Reference12Ideal.S2x4096x2816 [1, 0, 2] (shapeCast Reference12Ideal.S4096x2x2816 u Reference12Ideal.Gen.shapeCasts_S4096x5632_S4096x2x2816) Reference12Ideal.Gen.transposes_S4096x2x2816_S2x4096x2816_1_0_2

theorem halves_at (u : FVec Ideal Reference12Ideal.S4096x5632 .f32) (s : Fin 2) (r : Fin 4096) (l : Fin 2816) :
    halves u (ix3 s r l) = u (ix2 r ⟨s * 2816 + l, by omega⟩) := by
  pointwise [halves]

/-- A column of the product in its half's own words. -/
theorem product_of (h : FVec Ideal S4096x1024 .bf16) (a : FVec Ideal S4x1024x1408 .bf16) (r : Fin 4096) (l : Fin 5632) (s : Fin 4) (j : Fin 1408) (e : (l : ℕ) = s * 1408 + j) :
    product h a (ix2 r l) = ∑ d : Fin 1024, h (ix2 r d) * a (ix3 s d j) := by
  rw [product_at]
  have e1 : (⟨(l : ℕ) / 1408, by omega⟩ : Fin 4) = s := Fin.ext (by dsimp only; omega)
  have e2 : (⟨(l : ℕ) % 1408, by omega⟩ : Fin 1408) = j := Fin.ext (by dsimp only; omega)
  rw [e1, e2]

theorem padded_under (u : FVec Ideal Reference12Ideal.S4096x5632 .f32) (r : Fin 4098) (l : Fin 5632) (n : ℕ) (e : n = r + 6) :
    padded u (ix2 r l) = under (fun r => u (ix2 r l)) n := by
  subst e
  have hr := r.isLt
  rw [padded_at]
  by_cases h : 2 ≤ (r : ℕ)
  · rw [dif_pos h]
    exact (under_of (X := fun r => u (ix2 r l)) ⟨r - 2, by omega⟩ (show (r : ℕ) + 6 = 8 + (r - 2) by omega)).symm
  · rw [dif_neg h]
    exact (under_zero (by omega)).symm

/-- The convolution at a row, in the order the kernel adds. -/
theorem conv_taps (w : FVec Ideal S8x5632 .f32) (b : FVec Ideal S1x5632 .f32) (u : FVec Ideal Reference12Ideal.S4096x5632 .f32) (r : Fin 4096) (l : Fin 5632) (n0 n1 n2 : ℕ)
    (h0 : n0 = 8 + r) (h1 : n1 = 7 + r) (h2 : n2 = 6 + r) :
    conv w b u (ix2 r l) = ((w (ix2 2 l) * under (fun r => u (ix2 r l)) n0 + w (ix2 0 l) * under (fun r => u (ix2 r l)) n2) + w (ix2 1 l) * under (fun r => u (ix2 r l)) n1) + b (ix2 0 l) := by
  rw [conv_at, padded_under u _ l n2 (by dsimp only; omega), padded_under u _ l n1 (by dsimp only; omega), padded_under u _ l n0 (by dsimp only; omega)]
  generalize (w (ix2 2 l) : EReal) * _ = z0
  generalize (w (ix2 1 l) : EReal) * _ = z1
  generalize (w (ix2 0 l) : EReal) * _ = z2
  exact congrArg (fun e : EReal => e + b (ix2 0 l)) ((add_comm (z2 + z1 : EReal) z0).trans (add_assoc (z0 : EReal) z2 z1).symm)

/-- The product of the kernel's arguments, -/
abbrev P : FVec Ideal Reference12Ideal.S4096x5632 .f32 := product (m ((c : Thread nD τ).loc main_arg0)) (m ((c : Thread nD τ).loc main_arg1))
/-- its convolution, -/
abbrev Z : FVec Ideal Reference12Ideal.S4096x5632 .f32 := conv (m ((c : Thread nD τ).loc main_arg2)) (m ((c : Thread nD τ).loc main_arg3)) (P m c)

/-! ## A point's rows among the reference's -/

theorem gate_low (t : Fin cfg0.N) (a : Fin 256) (l : Fin 1408) : lowRows (iblk m c 0 t) (iblk m c 1 t) (ix2 a l) = P m c (ix2 (row t ⟨a, by omega⟩) (gcol t l)) := by
  refine (pay3_at _ _ a l).trans ?_
  rw [ldA]
  refine Eq.trans ?_ (product_of _ _ _ (gcol t l) ⟨t.val % 2, by omega⟩ l rfl).symm
  exact Fin.sum_fin_congr fun d => congrArg₂ (fun a b : EReal => a * b) ((lower_at _ a d).trans (read_h m c t _ d)) (read_g m c t d l)
theorem gate_high (t : Fin cfg0.N) (a : Fin 256) (l : Fin 1408) : highRows (iblk m c 0 t) (iblk m c 1 t) (ix2 a l) = P m c (ix2 (row t ⟨256 + a, by omega⟩) (gcol t l)) := by
  refine (pay3_at _ _ a l).trans ?_
  rw [ldA]
  refine Eq.trans ?_ (product_of _ _ _ (gcol t l) ⟨t.val % 2, by omega⟩ l rfl).symm
  exact Fin.sum_fin_congr fun d => congrArg₂ (fun a b : EReal => a * b) ((upper_at _ a d).trans (read_h m c t _ d)) (read_g m c t d l)
theorem val_low (t : Fin cfg0.N) (a : Fin 256) (l : Fin 1408) : lowRows (iblk m c 0 t) (iblk m c 2 t) (ix2 a l) = P m c (ix2 (row t ⟨a, by omega⟩) (vcol t l)) := by
  refine (pay3_at _ _ a l).trans ?_
  rw [ldA]
  refine Eq.trans ?_ (product_of _ _ _ (vcol t l) ⟨t.val % 2 + 2, by omega⟩ l rfl).symm
  exact Fin.sum_fin_congr fun d => congrArg₂ (fun a b : EReal => a * b) ((lower_at _ a d).trans (read_h m c t _ d)) (read_v m c t d l)
theorem val_high (t : Fin cfg0.N) (a : Fin 256) (l : Fin 1408) : highRows (iblk m c 0 t) (iblk m c 2 t) (ix2 a l) = P m c (ix2 (row t ⟨256 + a, by omega⟩) (vcol t l)) := by
  refine (pay3_at _ _ a l).trans ?_
  rw [ldA]
  refine Eq.trans ?_ (product_of _ _ _ (vcol t l) ⟨t.val % 2 + 2, by omega⟩ l rfl).symm
  exact Fin.sum_fin_congr fun d => congrArg₂ (fun a b : EReal => a * b) ((upper_at _ a d).trans (read_h m c t _ d)) (read_v m c t d l)

/-- The rows carried into a point are the last eight of the band above. -/
theorem gateIn_at (t : Fin cfg0.N) (k : Fin 8) (l : Fin 1408) : gateIn m c t (ix4 0 0 k l) = P m c (ix2 (row (above t) ⟨504 + k, by omega⟩) (gcol (above t) l)) :=
  (pay23_at _ k l).trans ((gate_high m c (above t) ⟨248 + k, by omega⟩ l).trans (congrArg (fun r => P m c (ix2 (row (above t) r) (gcol (above t) l))) (Fin.ext (by dsimp only; omega))))
theorem valIn_at (t : Fin cfg0.N) (k : Fin 8) (l : Fin 1408) : valIn m c t (ix4 0 0 k l) = P m c (ix2 (row (above t) ⟨504 + k, by omega⟩) (vcol (above t) l)) :=
  (pay22_at _ k l).trans ((val_high m c (above t) ⟨248 + k, by omega⟩ l).trans (congrArg (fun r => P m c (ix2 (row (above t) r) (vcol (above t) l))) (Fin.ext (by dsimp only; omega))))

/-- What stands above a band: zeros above the first, the band above's rows above the others. -/
theorem carried (t : Fin cfg0.N) (q : Vec Ideal S1x1x8x1408 .f32) (l : Fin 1408) (X : Fin 4096 → EReal)
    (hq : ∀ k : Fin 8, 2 ≤ t.val → q (ix4 0 0 k l) = X (row (above t) ⟨504 + k, by omega⟩)) (k : Fin 8) :
    k0_pay2 (F := Ideal) (grid0.coords t) q (ix2 k l) = under X (t.val / 2 * 512 + k) := by
  have ht := lt_sixteen t
  rw [pay2_at _ (by rw [coords0]; omega), coords0]
  by_cases h : t.val < 2
  · rw [if_pos (by omega)]
    exact (under_zero (by omega)).symm
  · rw [if_neg (by omega), hq k (by omega)]
    refine (under_of _ ?_).symm
    dsimp only [row, above]
    omega

theorem cat_gate_low (t : Fin cfg0.N) (l : Fin 1408) (n : ℕ) (hn : n < 264) : cat (k0_pay2 (grid0.coords t) (gateIn m c t)) (lowRows (iblk m c 0 t) (iblk m c 1 t)) l n
    = under (fun r => P m c (ix2 r (gcol t l))) (t.val / 2 * 512 + n) :=
  cat_under (t.val / 2 * 512) (by have := lt_sixteen t; omega) (carried t _ l _ fun k h => (gateIn_at m c t k l).trans
    (congrArg (fun j => P m c (ix2 (row (above t) ⟨504 + k, by omega⟩) j)) (Fin.ext (by dsimp only [gcol, above]; omega)))) (fun a => gate_low m c t a l) n hn
theorem cat_val_low (t : Fin cfg0.N) (l : Fin 1408) (n : ℕ) (hn : n < 264) : cat (k0_pay2 (grid0.coords t) (valIn m c t)) (lowRows (iblk m c 0 t) (iblk m c 2 t)) l n
    = under (fun r => P m c (ix2 r (vcol t l))) (t.val / 2 * 512 + n) :=
  cat_under (t.val / 2 * 512) (by have := lt_sixteen t; omega) (carried t _ l _ fun k h => (valIn_at m c t k l).trans
    (congrArg (fun j => P m c (ix2 (row (above t) ⟨504 + k, by omega⟩) j)) (Fin.ext (by dsimp only [vcol, above]; omega)))) (fun a => val_low m c t a l) n hn
theorem cat_gate_high (t : Fin cfg0.N) (l : Fin 1408) (n : ℕ) (hn : n < 264) : cat (k0_pay13 (lowRows (iblk m c 0 t) (iblk m c 1 t))) (highRows (iblk m c 0 t) (iblk m c 1 t)) l n
    = under (fun r => P m c (ix2 r (gcol t l))) (t.val / 2 * 512 + 256 + n) :=
  cat_under (t.val / 2 * 512 + 256) (by have := lt_sixteen t; omega)
    (fun k => (pay13_at _ k l).trans ((gate_low m c t ⟨248 + k, by omega⟩ l).trans (under_of (X := fun r => P m c (ix2 r (gcol t l))) (row t ⟨248 + k, by omega⟩) (by dsimp only [row]; omega)).symm))
    (fun a => (gate_high m c t a l).trans (congrArg (fun r => P m c (ix2 r (gcol t l))) (Fin.ext (by dsimp only [row]; omega)))) n hn
theorem cat_val_high (t : Fin cfg0.N) (l : Fin 1408) (n : ℕ) (hn : n < 264) : cat (k0_pay13 (lowRows (iblk m c 0 t) (iblk m c 2 t))) (highRows (iblk m c 0 t) (iblk m c 2 t)) l n
    = under (fun r => P m c (ix2 r (vcol t l))) (t.val / 2 * 512 + 256 + n) :=
  cat_under (t.val / 2 * 512 + 256) (by have := lt_sixteen t; omega)
    (fun k => (pay13_at _ k l).trans ((val_low m c t ⟨248 + k, by omega⟩ l).trans (under_of (X := fun r => P m c (ix2 r (vcol t l))) (row t ⟨248 + k, by omega⟩) (by dsimp only [row]; omega)).symm))
    (fun a => (val_high m c t a l).trans (congrArg (fun r => P m c (ix2 r (vcol t l))) (Fin.ext (by dsimp only [row]; omega)))) n hn

/-- Three rows weighted are the convolution's row. -/
theorem taps_gate (t : Fin cfg0.N) (l : Fin 1408) (r : Fin 4096) (n0 n1 n2 : ℕ) (h0 : n0 = 8 + r) (h1 : n1 = 7 + r) (h2 : n2 = 6 + r) :
    taps (iblk m c 3 t) (iblk m c 5 t) l (under (fun r => P m c (ix2 r (gcol t l))) n0) (under (fun r => P m c (ix2 r (gcol t l))) n1) (under (fun r => P m c (ix2 r (gcol t l))) n2)
      = Z m c (ix2 r (gcol t l)) := by
  unfold taps
  rw [read_wg, read_wg, read_wg, read_bg]
  exact (conv_taps _ _ _ r (gcol t l) n0 n1 n2 h0 h1 h2).symm
theorem taps_val (t : Fin cfg0.N) (l : Fin 1408) (r : Fin 4096) (n0 n1 n2 : ℕ) (h0 : n0 = 8 + r) (h1 : n1 = 7 + r) (h2 : n2 = 6 + r) :
    taps (iblk m c 4 t) (iblk m c 6 t) l (under (fun r => P m c (ix2 r (vcol t l))) n0) (under (fun r => P m c (ix2 r (vcol t l))) n1) (under (fun r => P m c (ix2 r (vcol t l))) n2)
      = Z m c (ix2 r (vcol t l)) := by
  unfold taps
  rw [read_wv, read_wv, read_wv, read_bv]
  exact (conv_taps _ _ _ r (vcol t l) n0 n1 n2 h0 h1 h2).symm

theorem activation_of (t : Fin cfg0.N) (r : Fin 4096) (l : Fin 1408) : activation (Z m c) (ix2 r (col t l)) = gated (Z m c (ix2 r (gcol t l))) (Z m c (ix2 r (vcol t l))) :=
  (activation_at _ r (col t l)).trans (congrArg (fun j => gated (Z m c (ix2 r (gcol t l))) (Z m c (ix2 r j))) (Fin.ext (by dsimp only [col, vcol]; omega)))

theorem act_low (t : Fin cfg0.N) (a : Fin 256) (l : Fin 1408) :
    gatedLow (grid0.coords t) (iblk m c 0 t) (iblk m c 1 t) (iblk m c 2 t) (iblk m c 3 t) (iblk m c 4 t) (iblk m c 5 t) (iblk m c 6 t) (gateIn m c t) (valIn m c t) (ix2 a l)
      = activation (Z m c) (ix2 (row t ⟨a, by omega⟩) (col t l)) := by
  rw [gatedLow_at, activation_of, cat_gate_low m c t l _ (by omega), cat_gate_low m c t l _ (by omega), cat_gate_low m c t l _ (by omega),
    cat_val_low m c t l _ (by omega), cat_val_low m c t l _ (by omega), cat_val_low m c t l _ (by omega)]
  exact congrArg₂ gated (taps_gate m c t l _ _ _ _ (by dsimp only [row]; omega) (by dsimp only [row]; omega) (by dsimp only [row]; omega))
    (taps_val m c t l _ _ _ _ (by dsimp only [row]; omega) (by dsimp only [row]; omega) (by dsimp only [row]; omega))
theorem act_high (t : Fin cfg0.N) (a : Fin 256) (l : Fin 1408) :
    gatedHigh (iblk m c 0 t) (iblk m c 1 t) (iblk m c 2 t) (iblk m c 3 t) (iblk m c 4 t) (iblk m c 5 t) (iblk m c 6 t) (ix2 a l)
      = activation (Z m c) (ix2 (row t ⟨256 + a, by omega⟩) (col t l)) := by
  rw [gatedHigh_at, activation_of, cat_gate_high m c t l _ (by omega), cat_gate_high m c t l _ (by omega), cat_gate_high m c t l _ (by omega),
    cat_val_high m c t l _ (by omega), cat_val_high m c t l _ (by omega), cat_val_high m c t l _ (by omega)]
  exact congrArg₂ gated (taps_gate m c t l _ _ _ _ (by dsimp only [row]; omega) (by dsimp only [row]; omega) (by dsimp only [row]; omega))
    (taps_val m c t l _ _ _ _ (by dsimp only [row]; omega) (by dsimp only [row]; omega) (by dsimp only [row]; omega))

/-- The halves' rows, where an index of the block falls in them. -/
theorem hu_gate_low {t : Fin cfg0.N} {s : Fin 2} {r : Fin 512} {l : Fin 1408} (y : S1x256x1408.Idx) (hs : (s : ℕ) = y 0) (hr : (r : ℕ) = y 1) (hl : (l : ℕ) = y 2) :
    k0_pay5 (F := Ideal) (View.ld (iblk m c 0 t) lower) (View.ld (iblk m c 1 t) wholeA) y = halves (P m c) (ix3 s (row t r) (col t l)) := by
  obtain ⟨z, a, b, rfl⟩ : ∃ (z : Fin 1) (a : Fin 256) (b : Fin 1408), y = ix3 z a b := ⟨y 0, y 1, y 2, eq_ix3 y⟩
  obtain rfl : z = 0 := Subsingleton.elim _ _
  obtain rfl : s = 0 := Fin.ext hs
  obtain rfl : r = ⟨a, a.isLt.trans (by decide)⟩ := Fin.ext hr
  obtain rfl : l = b := Fin.ext hl
  refine (pay5_at _ _ a l).trans ((gate_low m c t a l).trans ((halves_at _ _ _ _).trans ?_).symm)
  exact congrArg (fun j => P m c (ix2 _ j)) (Fin.ext (show 0 * 2816 + (t.val % 2 * 1408 + l) = t.val % 2 * 1408 + (l : ℕ) by omega))
theorem hu_val_low {t : Fin cfg0.N} {s : Fin 2} {r : Fin 512} {l : Fin 1408} (y : S1x256x1408.Idx) (hs : (s : ℕ) = 1 + y 0) (hr : (r : ℕ) = y 1) (hl : (l : ℕ) = y 2) :
    k0_pay6 (F := Ideal) (View.ld (iblk m c 0 t) lower) (View.ld (iblk m c 2 t) wholeA) y = halves (P m c) (ix3 s (row t r) (col t l)) := by
  obtain ⟨z, a, b, rfl⟩ : ∃ (z : Fin 1) (a : Fin 256) (b : Fin 1408), y = ix3 z a b := ⟨y 0, y 1, y 2, eq_ix3 y⟩
  obtain rfl : z = 0 := Subsingleton.elim _ _
  obtain rfl : s = 1 := Fin.ext hs
  obtain rfl : r = ⟨a, a.isLt.trans (by decide)⟩ := Fin.ext hr
  obtain rfl : l = b := Fin.ext hl
  refine (pay5_at _ _ a l).trans ((val_low m c t a l).trans ((halves_at _ _ _ _).trans ?_).symm)
  exact congrArg (fun j => P m c (ix2 _ j)) (Fin.ext (show 1 * 2816 + (t.val % 2 * 1408 + l) = (t.val % 2 + 2) * 1408 + (l : ℕ) by omega))
theorem hu_gate_high {t : Fin cfg0.N} {s : Fin 2} {r : Fin 512} {l : Fin 1408} (y : S1x256x1408.Idx) (hs : (s : ℕ) = y 0) (hr : (r : ℕ) = 256 + y 1) (hl : (l : ℕ) = y 2) :
    k0_pay16 (F := Ideal) (View.ld (iblk m c 0 t) upper) (View.ld (iblk m c 1 t) wholeA) y = halves (P m c) (ix3 s (row t r) (col t l)) := by
  obtain ⟨z, a, b, rfl⟩ : ∃ (z : Fin 1) (a : Fin 256) (b : Fin 1408), y = ix3 z a b := ⟨y 0, y 1, y 2, eq_ix3 y⟩
  obtain rfl : z = 0 := Subsingleton.elim _ _
  obtain rfl : s = 0 := Fin.ext hs
  obtain rfl : r = ⟨256 + a, Nat.add_lt_add_left a.isLt 256⟩ := Fin.ext hr
  obtain rfl : l = b := Fin.ext hl
  refine (pay5_at _ _ a l).trans ((gate_high m c t a l).trans ((halves_at _ _ _ _).trans ?_).symm)
  exact congrArg (fun j => P m c (ix2 _ j)) (Fin.ext (show 0 * 2816 + (t.val % 2 * 1408 + l) = t.val % 2 * 1408 + (l : ℕ) by omega))
theorem hu_val_high {t : Fin cfg0.N} {s : Fin 2} {r : Fin 512} {l : Fin 1408} (y : S1x256x1408.Idx) (hs : (s : ℕ) = 1 + y 0) (hr : (r : ℕ) = 256 + y 1) (hl : (l : ℕ) = y 2) :
    k0_pay17 (F := Ideal) (View.ld (iblk m c 0 t) upper) (View.ld (iblk m c 2 t) wholeA) y = halves (P m c) (ix3 s (row t r) (col t l)) := by
  obtain ⟨z, a, b, rfl⟩ : ∃ (z : Fin 1) (a : Fin 256) (b : Fin 1408), y = ix3 z a b := ⟨y 0, y 1, y 2, eq_ix3 y⟩
  obtain rfl : z = 0 := Subsingleton.elim _ _
  obtain rfl : s = 1 := Fin.ext hs
  obtain rfl : r = ⟨256 + a, Nat.add_lt_add_left a.isLt 256⟩ := Fin.ext hr
  obtain rfl : l = b := Fin.ext hl
  refine (pay5_at _ _ a l).trans ((val_high m c t a l).trans ((halves_at _ _ _ _).trans ?_).symm)
  exact congrArg (fun j => P m c (ix2 _ j)) (Fin.ext (show 1 * 2816 + (t.val % 2 * 1408 + l) = (t.val % 2 + 2) * 1408 + (l : ℕ) by omega))

theorem act_low_of {t : Fin cfg0.N} {r : Fin 512} {l : Fin 1408} (y : S256x1408.Idx) (hr : (r : ℕ) = y 0) (hl : (l : ℕ) = y 1) :
    gatedLow (grid0.coords t) (iblk m c 0 t) (iblk m c 1 t) (iblk m c 2 t) (iblk m c 3 t) (iblk m c 4 t) (iblk m c 5 t) (iblk m c 6 t) (gateIn m c t) (valIn m c t) y
      = activation (Z m c) (ix2 (row t r) (col t l)) := by
  obtain ⟨a, b, rfl⟩ : ∃ (a : Fin 256) (b : Fin 1408), y = ix2 a b := ⟨y 0, y 1, eq_ix2 y⟩
  obtain rfl : r = ⟨a, a.isLt.trans (by decide)⟩ := Fin.ext hr
  obtain rfl : l = b := Fin.ext hl
  exact act_low m c t a l
theorem act_high_of {t : Fin cfg0.N} {r : Fin 512} {l : Fin 1408} (y : S256x1408.Idx) (hr : (r : ℕ) = 256 + y 0) (hl : (l : ℕ) = y 1) :
    gatedHigh (iblk m c 0 t) (iblk m c 1 t) (iblk m c 2 t) (iblk m c 3 t) (iblk m c 4 t) (iblk m c 5 t) (iblk m c 6 t) y
      = activation (Z m c) (ix2 (row t r) (col t l)) := by
  obtain ⟨a, b, rfl⟩ : ∃ (a : Fin 256) (b : Fin 1408), y = ix2 a b := ⟨y 0, y 1, eq_ix2 y⟩
  obtain rfl : r = ⟨256 + a, Nat.add_lt_add_left a.isLt 256⟩ := Fin.ext hr
  obtain rfl : l = b := Fin.ext hl
  exact act_high m c t a l

/-- The transposed block's entry is the block's, turned. -/
theorem pay12_of (x : FVec Ideal S256x1408 .f32) (y : S1408x256.Idx) : k0_pay12 (F := Ideal) x y = x (ix2 (y 1) (y 0)) :=
  (congrArg (k0_pay12 (F := Ideal) x) (eq_ix2 y)).trans (pay12_at x (y 1) (y 0))

/-! ## The arrays after the run -/

theorem emb_hu (t : Fin cfg0.N) (s : Fin 2) (r : Fin 512) (l : Fin 1408) (X : S2x4096x2816.Idx → EReal) : X ((win0_7.blk t).view.emb (ix3 s r l)) = X (ix3 s (row t r) (col t l)) := by
  blk_ext [idx t]
  · rfl
  · rfl
theorem emb_act (t : Fin cfg0.N) (r : Fin 512) (l : Fin 1408) (X : S4096x2816.Idx → EReal) : X ((win0_8.blk t).view.emb (ix2 r l)) = X (ix2 (row t r) (col t l)) := by
  blk_ext [idx t]
  · rfl
  · rfl
theorem emb_actT (t : Fin cfg0.N) (r : Fin 512) (l : Fin 1408) (X : S2816x4096.Idx → EReal) : X ((win0_9.blk t).view.emb (ix2 l r)) = X (ix2 (col t l) (row t r)) := by
  blk_ext [idx t]
  · rfl
  · rfl

theorem final_hu : (dats m 0 c).arrAt 7 (cfgs 0).N = halves (P m c) := by
  refine (dats m 0 c).arrAt_eq_of_covers 7 _ (by decide +kernel) fun t _ y => ?_
  blk_simp
  rw [after0_7]
  obtain ⟨s, r, l, rfl⟩ : ∃ (s : Fin 2) (r : Fin 512) (l : Fin 1408), y = ix3 s r l := ⟨y 0, y 1, y 2, eq_ix3 y⟩
  refine Eq.trans ?_ (emb_hu t s r l _).symm
  unfold outHu
  canon_tiles x hx
  case piece0 => exact hu_val_high m c x hx0 hx1 hx2
  case piece1 => exact hu_gate_high m c x hx0 hx1 hx2
  case piece2 => exact hu_val_low m c x hx0 hx1 hx2
  case piece3 => exact hu_gate_low m c x hx0 hx1 hx2

theorem final_act : (dats m 0 c).arrAt 8 (cfgs 0).N = activation (Z m c) := by
  refine (dats m 0 c).arrAt_eq_of_covers 8 _ (by decide +kernel) fun t _ y => ?_
  blk_simp
  rw [after0_8]
  obtain ⟨r, l, rfl⟩ : ∃ (r : Fin 512) (l : Fin 1408), y = ix2 r l := ⟨y 0, y 1, eq_ix2 y⟩
  refine Eq.trans ?_ (emb_act t r l _).symm
  unfold outAct
  canon_tiles x hx
  case piece0 => exact act_high_of m c x hx0 hx1
  case piece1 => exact act_low_of m c x hx0 hx1

theorem final_actT : (dats m 0 c).arrAt 9 (cfgs 0).N = columns (activation (Z m c)) := by
  refine (dats m 0 c).arrAt_eq_of_covers 9 _ (by decide +kernel) fun t _ y => ?_
  blk_simp
  rw [after0_9]
  obtain ⟨l, r, rfl⟩ : ∃ (l : Fin 1408) (r : Fin 512), y = ix2 l r := ⟨y 0, y 1, eq_ix2 y⟩
  refine Eq.trans ?_ ((columns_at _ _ _).symm.trans (emb_actT t r l _).symm)
  unfold outActT
  canon_tiles x hx
  case piece0 => exact (pay12_of _ x).trans (act_high_of m c (ix2 (x 1) (x 0)) hx1 hx0)
  case piece1 => exact (pay12_of _ x).trans (act_low_of m c (ix2 (x 1) (x 0)) hx1 hx0)

theorem frame_reference : Cert.quiescent_Reference12Ideal (hReference12Ideal := Cert.Reference12Ideal.Gen.facts) := by
  intro m g _
  hlo_run
  · exact fun _ => ⟨trivial, trivial, trivial, trivial⟩
  · exact Idealize.ShloMosaic.sem_eq_zero_of_no_sems (by decide) _

theorem algebraic : Cert.algebraic_Kernel12Ideal_Reference12Ideal (hKernel12Ideal := Cert.Kernel12Ideal.Gen.facts) (hReference12Ideal := Cert.Reference12Ideal.Gen.facts) := by
  pair_intro
  · have h := (θ_run Cert.Kernel12Ideal.defs _ _).mono (fun _ h => h.1) (Cert.Kernel12Ideal.Body.run_main m g)
    run_from h
  · hlo_run
    · exact (final_hu m c).symm
    · exact (final_act m c).symm
    · exact (final_actT m c).symm

end Cert.Kernel12Ideal.Value

end
-- ==== Proof.lean ====
/- The certificate: the frames of the kernel, of its idealization and of the reference, the one named constant, and the kernel's results against the reference's; then the same of the eleven further pairs of programs, without a constant. -/
module

public import proofs.«01_k».proof.Defs
public import proofs.«01_k».proof.Proof.KBody
public import proofs.«01_k».proof.Proof.Body
public import proofs.«01_k».proof.Proof.RefFrame
public import proofs.«01_k».proof.Proof.Algebraic
public import proofs.«01_k».proof.Proof.KNorm
public import proofs.«01_k».proof.Proof.ActCot
public import proofs.«01_k».proof.Proof.DownWeight
public import proofs.«01_k».proof.Proof.InWeight
public import proofs.«01_k».proof.Proof.UpWeight
public import proofs.«01_k».proof.Proof.OutWeight
public import proofs.«01_k».proof.Proof.NormIn
public import proofs.«01_k».proof.Proof.InProj
public import proofs.«01_k».proof.Proof.OutProj
public import proofs.«01_k».proof.Proof.DownProj
public import proofs.«01_k».proof.Proof.UpProj
public import proofs.«01_k».proof.Proof.UpValue

public section

set_option maxRecDepth 16384

open Idealize.ShloMosaic

namespace Cert.Proof

theorem pre_facts : Cert.Pre_finite.Facts where
  bitsLt_bf16_f32 := by decide
  concatenates_S4096x1024_S4096x1024_S4096x16_S4096x2064_d1 := by decide
  bcast_S_S4096x2064 := by decide

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    pre_facts,
    fun m g _ => Cert.Kernel.Body.frame (F := Bits) m g,
    fun m g _ => Cert.KernelIdeal.Body.frame (F := Ideal) m g,
    fun m g _ => Cert.KernelIdeal.Body.frame (F := Ideal) m g,
    frame_reference,
    fun m g _ => frame_reference m g trivial,
    fun m g _ => Cert.Kernel2.Gen.frame (F := Bits) m g,
    fun m g _ => Cert.Kernel2Ideal.Gen.frame (F := Ideal) m g,
    frame_reference2,
    fun m g _ => Cert.Kernel3.Gen.frame (F := Bits) m g,
    fun m g _ => Cert.Kernel3Ideal.Gen.frame (F := Ideal) m g,
    Cert.Kernel3Ideal.Value.frame_reference,
    fun m g _ => Cert.Kernel4.Gen.frame (F := Bits) m g,
    fun m g _ => Cert.Kernel4Ideal.Gen.frame (F := Ideal) m g,
    Cert.Kernel4Ideal.Value.frame_reference,
    fun m g _ => Cert.Kernel5.Gen.frame (F := Bits) m g,
    fun m g _ => Cert.Kernel5Ideal.Gen.frame (F := Ideal) m g,
    Cert.Kernel5Ideal.Value.frame_reference,
    fun m g _ => Cert.Kernel6.Gen.frame (F := Bits) m g,
    fun m g _ => Cert.Kernel6Ideal.Gen.frame (F := Ideal) m g,
    Cert.Kernel6Ideal.Value.frame_reference,
    fun m g _ => Cert.Kernel7.Gen.frame (F := Bits) m g,
    fun m g _ => Cert.Kernel7Ideal.Gen.frame (F := Ideal) m g,
    Cert.Kernel7Ideal.Value.frame_reference,
    fun m g _ => Cert.Kernel8.Gen.frame (F := Bits) m g,
    fun m g _ => Cert.Kernel8Ideal.Gen.frame (F := Ideal) m g,
    Cert.Kernel8Ideal.Value.frame_reference,
    fun m g _ => Cert.Kernel9.Gen.frame (F := Bits) m g,
    fun m g _ => Cert.Kernel9Ideal.Gen.frame (F := Ideal) m g,
    Cert.Kernel9Ideal.Value.frame_reference,
    fun m g _ => Cert.Kernel10.Gen.frame (F := Bits) m g,
    fun m g _ => Cert.Kernel10Ideal.Gen.frame (F := Ideal) m g,
    Cert.Kernel10Ideal.Value.frame_reference,
    fun m g _ => Cert.Kernel11.Gen.frame (F := Bits) m g,
    fun m g _ => Cert.Kernel11Ideal.Gen.frame (F := Ideal) m g,
    Cert.Kernel11Ideal.Value.frame_reference,
    Cert.Kernel12Ideal.Value.frame_kernel,
    fun m g _ => Cert.Kernel12Ideal.Body.frame (F := Ideal) m g,
    Cert.Kernel12Ideal.Value.frame_reference,
    IdealRules.named_const.statement Cert.KernelIdeal.κ "mask" .f32 0xF149F2CA#32 ⊥ rfl,
    algebraic_of pre_facts,
    trivial,
    algebraic2,
    trivial,
    Cert.Kernel3Ideal.Value.algebraic,
    trivial,
    Cert.Kernel4Ideal.Value.algebraic,
    trivial,
    Cert.Kernel5Ideal.Value.algebraic,
    trivial,
    Cert.Kernel6Ideal.Value.algebraic,
    trivial,
    Cert.Kernel7Ideal.Value.algebraic,
    trivial,
    Cert.Kernel8Ideal.Value.algebraic,
    trivial,
    Cert.Kernel9Ideal.Value.algebraic,
    trivial,
    Cert.Kernel10Ideal.Value.algebraic,
    trivial,
    Cert.Kernel11Ideal.Value.algebraic,
    trivial,
    Cert.Kernel12Ideal.Value.algebraic⟩

end Cert.Proof

end
